-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_merge [hPre_finite_merge : Cert.Pre_finite_merge.Facts] (m : (ℓ : Loc Cert.KernelIdeal.nD Cert.KernelIdeal.τ Cert.KernelIdeal.sig) → Buf (Elt Ideal) ℓ) : Prop :=
  ∀ c : Dev Cert.KernelIdeal.nD,
    (Cert.Pre_finite_merge.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite_merge.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite_merge.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite_merge.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite_merge.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite_merge.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_merge [hPre_finite_merge : Cert.Pre_finite_merge.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_merge.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite_merge.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite_merge.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite_merge.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite_merge.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite_merge.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_ffn_bwd [hPre_finite_ffn_bwd : Cert.Pre_finite_ffn_bwd.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_ffn_bwd.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite_ffn_bwd.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite_ffn_bwd.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite_ffn_bwd.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_ffn_bwd [hPre_finite_ffn_bwd : Cert.Pre_finite_ffn_bwd.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_ffn_bwd.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite_ffn_bwd.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite_ffn_bwd.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite_ffn_bwd.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_merge [hKernelIdeal : Cert.KernelIdeal.Facts] [hPre_finite_merge : Cert.Pre_finite_merge.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_merge m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_merge [hReferenceIdeal : Cert.ReferenceIdeal.Facts] [hPre_finite_merge : Cert.Pre_finite_merge.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_merge m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite_ffn_bwd [hKernel2Ideal : Cert.Kernel2Ideal.Facts] [hPre_finite_ffn_bwd : Cert.Pre_finite_ffn_bwd.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_ffn_bwd m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite_ffn_bwd [hReference2Ideal : Cert.Reference2Ideal.Facts] [hPre_finite_ffn_bwd : Cert.Pre_finite_ffn_bwd.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_ffn_bwd m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal_pre_finite_merge [hKernelIdeal : Cert.KernelIdeal.Facts] [hReferenceIdeal : Cert.ReferenceIdeal.Facts] [hPre_finite_merge : Cert.Pre_finite_merge.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_merge m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)) (v3 : (c : Dev Cert.KernelIdeal.nD) → Buf (Elt Ideal) ((c.tc : Thread Cert.KernelIdeal.nD Cert.KernelIdeal.τ).loc Cert.KernelIdeal.main_v27_3)) (v4 : (c : Dev Cert.KernelIdeal.nD) → Buf (Elt Ideal) ((c.tc : Thread Cert.KernelIdeal.nD Cert.KernelIdeal.τ).loc Cert.KernelIdeal.main_v27_4)) (v5 : (c : Dev Cert.KernelIdeal.nD) → Buf (Elt Ideal) ((c.tc : Thread Cert.KernelIdeal.nD Cert.KernelIdeal.τ).loc Cert.KernelIdeal.main_v27_5)) (v6 : (c : Dev Cert.KernelIdeal.nD) → Buf (Elt Ideal) ((c.tc : Thread Cert.KernelIdeal.nD Cert.KernelIdeal.τ).loc Cert.KernelIdeal.main_v27_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_v27_3) = v3 c
          ∧ r.2.mem ((c.tc : Thread Cert.KernelIdeal.nD Cert.KernelIdeal.τ).loc Cert.KernelIdeal.main_v27_4) = v4 c
          ∧ r.2.mem ((c.tc : Thread Cert.KernelIdeal.nD Cert.KernelIdeal.τ).loc Cert.KernelIdeal.main_v27_5) = v5 c
          ∧ r.2.mem ((c.tc : Thread Cert.KernelIdeal.nD Cert.KernelIdeal.τ).loc Cert.KernelIdeal.main_v27_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v104) = v1 c
          ∧ r.2.mem ((c.tc : Thread Cert.ReferenceIdeal.nD Cert.ReferenceIdeal.τ).loc Cert.ReferenceIdeal.main_v105) = v2 c
          ∧ r.2.mem ((c.tc : Thread Cert.ReferenceIdeal.nD Cert.ReferenceIdeal.τ).loc Cert.ReferenceIdeal.main_v106) = v3 c
          ∧ r.2.mem ((c.tc : Thread Cert.ReferenceIdeal.nD Cert.ReferenceIdeal.τ).loc Cert.ReferenceIdeal.main_v107) = v4 c
          ∧ r.2.mem ((c.tc : Thread Cert.ReferenceIdeal.nD Cert.ReferenceIdeal.τ).loc Cert.ReferenceIdeal.main_v108) = v5 c
          ∧ r.2.mem ((c.tc : Thread Cert.ReferenceIdeal.nD Cert.ReferenceIdeal.τ).loc Cert.ReferenceIdeal.main_v100) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal_pre_finite_ffn_bwd [hKernel2Ideal : Cert.Kernel2Ideal.Facts] [hReference2Ideal : Cert.Reference2Ideal.Facts] [hPre_finite_ffn_bwd : Cert.Pre_finite_ffn_bwd.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_ffn_bwd m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_1)) (v2 : (c : Dev Cert.Kernel2Ideal.nD) → Buf (Elt Ideal) ((c.tc : Thread Cert.Kernel2Ideal.nD Cert.Kernel2Ideal.τ).loc Cert.Kernel2Ideal.main_v20_2)) (v3 : (c : Dev Cert.Kernel2Ideal.nD) → Buf (Elt Ideal) ((c.tc : Thread Cert.Kernel2Ideal.nD Cert.Kernel2Ideal.τ).loc Cert.Kernel2Ideal.main_v20_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_1) = v1 c
          ∧ r.2.mem ((c.tc : Thread Cert.Kernel2Ideal.nD Cert.Kernel2Ideal.τ).loc Cert.Kernel2Ideal.main_v20_2) = v2 c
          ∧ r.2.mem ((c.tc : Thread Cert.Kernel2Ideal.nD Cert.Kernel2Ideal.τ).loc Cert.Kernel2Ideal.main_v20_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_v58) = v1 c
          ∧ r.2.mem ((c.tc : Thread Cert.Reference2Ideal.nD Cert.Reference2Ideal.τ).loc Cert.Reference2Ideal.main_v59) = v2 c
          ∧ r.2.mem ((c.tc : Thread Cert.Reference2Ideal.nD Cert.Reference2Ideal.τ).loc Cert.Reference2Ideal.main_v56) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)) (v5 : (c : Dev Cert.Kernel3Ideal.nD) → Buf (Elt Ideal) ((c.tc : Thread Cert.Kernel3Ideal.nD Cert.Kernel3Ideal.τ).loc Cert.Kernel3Ideal.main_v0_5)) (v6 : (c : Dev Cert.Kernel3Ideal.nD) → Buf (Elt Ideal) ((c.tc : Thread Cert.Kernel3Ideal.nD Cert.Kernel3Ideal.τ).loc Cert.Kernel3Ideal.main_v0_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_v0_5) = v5 c
          ∧ r.2.mem ((c.tc : Thread Cert.Kernel3Ideal.nD Cert.Kernel3Ideal.τ).loc Cert.Kernel3Ideal.main_v0_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_v94) = v2 c
          ∧ r.2.mem ((c.tc : Thread Cert.Reference3Ideal.nD Cert.Reference3Ideal.τ).loc Cert.Reference3Ideal.main_v95) = v3 c
          ∧ r.2.mem ((c.tc : Thread Cert.Reference3Ideal.nD Cert.Reference3Ideal.τ).loc Cert.Reference3Ideal.main_v76) = v4 c
          ∧ r.2.mem ((c.tc : Thread Cert.Reference3Ideal.nD Cert.Reference3Ideal.τ).loc Cert.Reference3Ideal.main_v96) = v5 c
          ∧ r.2.mem ((c.tc : Thread Cert.Reference3Ideal.nD Cert.Reference3Ideal.τ).loc Cert.Reference3Ideal.main_v77) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)) (v2 : (c : Dev Cert.Kernel4Ideal.nD) → Buf (Elt Ideal) ((c.tc : Thread Cert.Kernel4Ideal.nD Cert.Kernel4Ideal.τ).loc Cert.Kernel4Ideal.main_v1_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_v1_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v65) = v0 c
          ∧ r.2.mem ((c.tc : Thread Cert.Reference4Ideal.nD Cert.Reference4Ideal.τ).loc Cert.Reference4Ideal.main_v64) = v1 c
          ∧ r.2.mem ((c.tc : Thread Cert.Reference4Ideal.nD Cert.Reference4Ideal.τ).loc Cert.Reference4Ideal.main_v42) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v48) = v0 c
          ∧ r.2.mem ((c.tc : Thread Cert.Reference5Ideal.nD Cert.Reference5Ideal.τ).loc Cert.Reference5Ideal.main_v49) = v1 c
          ∧ r.2.mem ((c.tc : Thread Cert.Reference5Ideal.nD Cert.Reference5Ideal.τ).loc Cert.Reference5Ideal.main_v52) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v40_0)) (v1 : (c : Dev Cert.Kernel6Ideal.nD) → Buf (Elt Ideal) ((c.tc : Thread Cert.Kernel6Ideal.nD Cert.Kernel6Ideal.τ).loc Cert.Kernel6Ideal.main_v40_1)) (v2 : (c : Dev Cert.Kernel6Ideal.nD) → Buf (Elt Ideal) ((c.tc : Thread Cert.Kernel6Ideal.nD Cert.Kernel6Ideal.τ).loc Cert.Kernel6Ideal.main_v40_2)) (v3 : (c : Dev Cert.Kernel6Ideal.nD) → Buf (Elt Ideal) ((c.tc : Thread Cert.Kernel6Ideal.nD Cert.Kernel6Ideal.τ).loc Cert.Kernel6Ideal.main_v40_3)) (v4 : (c : Dev Cert.Kernel6Ideal.nD) → Buf (Elt Ideal) ((c.tc : Thread Cert.Kernel6Ideal.nD Cert.Kernel6Ideal.τ).loc Cert.Kernel6Ideal.main_v40_4)) (v5 : (c : Dev Cert.Kernel6Ideal.nD) → Buf (Elt Ideal) ((c.tc : Thread Cert.Kernel6Ideal.nD Cert.Kernel6Ideal.τ).loc Cert.Kernel6Ideal.main_v40_5)) (v6 : (c : Dev Cert.Kernel6Ideal.nD) → Buf (Elt Ideal) ((c.tc : Thread Cert.Kernel6Ideal.nD Cert.Kernel6Ideal.τ).loc Cert.Kernel6Ideal.main_v40_6)) (v7 : (c : Dev Cert.Kernel6Ideal.nD) → Buf (Elt Ideal) ((c.tc : Thread Cert.Kernel6Ideal.nD Cert.Kernel6Ideal.τ).loc Cert.Kernel6Ideal.main_v40_7)) (v8 : (c : Dev Cert.Kernel6Ideal.nD) → Buf (Elt Ideal) ((c.tc : Thread Cert.Kernel6Ideal.nD Cert.Kernel6Ideal.τ).loc Cert.Kernel6Ideal.main_v40_8)) (v9 : (c : Dev Cert.Kernel6Ideal.nD) → Buf (Elt Ideal) ((c.tc : Thread Cert.Kernel6Ideal.nD Cert.Kernel6Ideal.τ).loc Cert.Kernel6Ideal.main_v40_9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v40_0) = v0 c
          ∧ r.2.mem ((c.tc : Thread Cert.Kernel6Ideal.nD Cert.Kernel6Ideal.τ).loc Cert.Kernel6Ideal.main_v40_1) = v1 c
          ∧ r.2.mem ((c.tc : Thread Cert.Kernel6Ideal.nD Cert.Kernel6Ideal.τ).loc Cert.Kernel6Ideal.main_v40_2) = v2 c
          ∧ r.2.mem ((c.tc : Thread Cert.Kernel6Ideal.nD Cert.Kernel6Ideal.τ).loc Cert.Kernel6Ideal.main_v40_3) = v3 c
          ∧ r.2.mem ((c.tc : Thread Cert.Kernel6Ideal.nD Cert.Kernel6Ideal.τ).loc Cert.Kernel6Ideal.main_v40_4) = v4 c
          ∧ r.2.mem ((c.tc : Thread Cert.Kernel6Ideal.nD Cert.Kernel6Ideal.τ).loc Cert.Kernel6Ideal.main_v40_5) = v5 c
          ∧ r.2.mem ((c.tc : Thread Cert.Kernel6Ideal.nD Cert.Kernel6Ideal.τ).loc Cert.Kernel6Ideal.main_v40_6) = v6 c
          ∧ r.2.mem ((c.tc : Thread Cert.Kernel6Ideal.nD Cert.Kernel6Ideal.τ).loc Cert.Kernel6Ideal.main_v40_7) = v7 c
          ∧ r.2.mem ((c.tc : Thread Cert.Kernel6Ideal.nD Cert.Kernel6Ideal.τ).loc Cert.Kernel6Ideal.main_v40_8) = v8 c
          ∧ r.2.mem ((c.tc : Thread Cert.Kernel6Ideal.nD Cert.Kernel6Ideal.τ).loc Cert.Kernel6Ideal.main_v40_9) = v9 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v171) = v0 c
          ∧ r.2.mem ((c.tc : Thread Cert.Reference6Ideal.nD Cert.Reference6Ideal.τ).loc Cert.Reference6Ideal.main_v172) = v1 c
          ∧ r.2.mem ((c.tc : Thread Cert.Reference6Ideal.nD Cert.Reference6Ideal.τ).loc Cert.Reference6Ideal.main_v108) = v2 c
          ∧ r.2.mem ((c.tc : Thread Cert.Reference6Ideal.nD Cert.Reference6Ideal.τ).loc Cert.Reference6Ideal.main_v173) = v3 c
          ∧ r.2.mem ((c.tc : Thread Cert.Reference6Ideal.nD Cert.Reference6Ideal.τ).loc Cert.Reference6Ideal.main_v174) = v4 c
          ∧ r.2.mem ((c.tc : Thread Cert.Reference6Ideal.nD Cert.Reference6Ideal.τ).loc Cert.Reference6Ideal.main_v175) = v5 c
          ∧ r.2.mem ((c.tc : Thread Cert.Reference6Ideal.nD Cert.Reference6Ideal.τ).loc Cert.Reference6Ideal.main_v176) = v6 c
          ∧ r.2.mem ((c.tc : Thread Cert.Reference6Ideal.nD Cert.Reference6Ideal.τ).loc Cert.Reference6Ideal.main_v177) = v7 c
          ∧ r.2.mem ((c.tc : Thread Cert.Reference6Ideal.nD Cert.Reference6Ideal.τ).loc Cert.Reference6Ideal.main_v178) = v8 c
          ∧ r.2.mem ((c.tc : Thread Cert.Reference6Ideal.nD Cert.Reference6Ideal.τ).loc Cert.Reference6Ideal.main_v179) = v9 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_merge : Cert.Pre_finite_merge.Facts) (hPre_finite_ffn_bwd : Cert.Pre_finite_ffn_bwd.Facts),
    quiescent_Kernel (hKernel := hKernel)
    ∧ quiescent_KernelIdeal (hKernelIdeal := hKernelIdeal)
    ∧ quiescent_KernelIdeal_pre_finite_merge (hKernelIdeal := hKernelIdeal) (hPre_finite_merge := hPre_finite_merge)
    ∧ quiescent_ReferenceIdeal (hReferenceIdeal := hReferenceIdeal)
    ∧ quiescent_ReferenceIdeal_pre_finite_merge (hReferenceIdeal := hReferenceIdeal) (hPre_finite_merge := hPre_finite_merge)
    ∧ quiescent_Kernel2 (hKernel2 := hKernel2)
    ∧ quiescent_Kernel2Ideal (hKernel2Ideal := hKernel2Ideal)
    ∧ quiescent_Kernel2Ideal_pre_finite_ffn_bwd (hKernel2Ideal := hKernel2Ideal) (hPre_finite_ffn_bwd := hPre_finite_ffn_bwd)
    ∧ quiescent_Reference2Ideal (hReference2Ideal := hReference2Ideal)
    ∧ quiescent_Reference2Ideal_pre_finite_ffn_bwd (hReference2Ideal := hReference2Ideal) (hPre_finite_ffn_bwd := hPre_finite_ffn_bwd)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_merge (hKernelIdeal := hKernelIdeal) (hReferenceIdeal := hReferenceIdeal) (hPre_finite_merge := hPre_finite_merge)
    ∧ preserves_Kernel2_Kernel2Ideal
    ∧ algebraic_Kernel2Ideal_Reference2Ideal_pre_finite_ffn_bwd (hKernel2Ideal := hKernel2Ideal) (hReference2Ideal := hReference2Ideal) (hPre_finite_ffn_bwd := hPre_finite_ffn_bwd)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_ffn_bwd.lean ====
abbrev S8192x1024 : Shape := ⟨2, ![8192, 1024]⟩
abbrev S1x1024 : Shape := ⟨2, ![1, 1024]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bitsLt_bf16_f32 : FTy.bits .bf16 < FTy.bits .f32
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S8192x1024 .f32) (main_arg2 : FVec F S1x1024 .f32) (main_arg3 : FVec F S2816x1024 .bf16) (main_arg4 : FVec F S2816x1024 .bf16) (main_arg5 : FVec F S2816x1024 .bf16) : IVec S8192x1024 1 × IVec S1x1024 1 × IVec S2816x1024 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S2816x1024 .f32 := (extf .f32 · bitsLt_bf16_f32) main_arg4
  let main_v7 : FVec F S2816x1024 .f32 := Host.absf main_v6
  let main_cst_1 : FVec F S_ .f32 := constant S_ .f32 0x7F800000#32
  let main_v8 : FVec F S2816x1024 .f32 := broadcastInDim S2816x1024 ![] bcast_S_S2816x1024 main_cst_1
  let main_v9 : IVec S2816x1024 1 := cmpf .olt main_v7 main_v8
  let main_v10 : FVec F S2816x1024 .f32 := (extf .f32 · bitsLt_bf16_f32) main_arg5
  let main_v11 : FVec F S2816x1024 .f32 := Host.absf main_v10
  let main_cst_2 : FVec F S_ .f32 := constant S_ .f32 0x7F800000#32
  let main_v12 : FVec F S2816x1024 .f32 := broadcastInDim S2816x1024 ![] bcast_S_S2816x1024 main_cst_2
  let main_v13 : IVec S2816x1024 1 := cmpf .olt main_v11 main_v12
  (main_v2, main_v5, main_v9, main_v13)
-- ==== Pre_finite_merge.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S1x1024 : S_.BroadcastsInDim S1x1024 (![] : Fin 0 → Fin S1x1024.rank)
  bcast_S_S1024x1024 : S_.BroadcastsInDim S1024x1024 (![] : Fin 0 → Fin S1024x1024.rank)

variable [Facts]

def fn_part1 {F : FTy → Type} [FloatOps F] (main_v2 : IVec S8192x1024 1) (main_v6 : IVec S8192x1024 1) (main_v10 : IVec S8192x1024 1) (main_v13 : IVec S1x1024 1) (main_v17 : IVec S1024x1024 1) (main_v18 : FVec F S1024x1024 .f32) : IVec S8192x1024 1 × IVec S8192x1024 1 × IVec S8192x1024 1 × IVec S1x1024 1 × IVec S1024x1024 1 × IVec S1024x1024 1 :=
  let main_v19 : FVec F S1024x1024 .f32 := Host.absf main_v18
  let main_cst_4 : FVec F S_ .f32 := constant S_ .f32 0x7F800000#32
  let main_v20 : FVec F S1024x1024 .f32 := broadcastInDim S1024x1024 ![] bcast_S_S1024x1024 main_cst_4
  let main_v21 : IVec S1024x1024 1 := cmpf .olt main_v19 main_v20
  (main_v2, main_v6, main_v10, main_v13, main_v17, main_v21)

def fn {F : FTy → Type} [FloatOps F] (main_arg0 : FVec F S8192x1024 .f32) (main_arg1 : FVec F S8192x1024 .bf16) (main_arg2 : FVec F S8192x1024 .bf16) (main_arg3 : FVec F S8192x1024 .bf16) (main_arg4 : FVec F S8192x1024 .bf16) (main_arg5 : FVec F S8192x1024 .bf16) (main_arg6 : FVec F S1x1024 .f32) (main_arg7 : FVec F S1024x1024 .bf16) (main_arg8 : FVec F S1024x1024 .bf16) (main_arg9 : FVec F S1024x1024 .bf16) : IVec S8192x1024 1 × IVec S8192x1024 1 × IVec S8192x1024 1 × IVec S1x1024 1 × IVec S1024x1024 1 × IVec S1024x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := (extf .f32 · bitsLt_bf16_f32) main_arg4
  let main_v4 : FVec F S8192x1024 .f32 := Host.absf main_v3
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_v7 : FVec F S8192x1024 .f32 := (extf .f32 · bitsLt_bf16_f32) main_arg5
  let main_v8 : FVec F S8192x1024 .f32 := Host.absf main_v7
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : FVec F S1x1024 .f32 := Host.absf main_arg6
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S1024x1024 .f32 := (extf .f32 · bitsLt_bf16_f32) main_arg7
  let main_v15 : FVec F S1024x1024 .f32 := Host.absf main_v14
  let main_cst_3 : FVec F S_ .f32 := constant S_ .f32 0x7F800000#32
  let main_v16 : FVec F S1024x1024 .f32 := broadcastInDim S1024x1024 ![] bcast_S_S1024x1024 main_cst_3
  let main_v17 : IVec S1024x1024 1 := cmpf .olt main_v15 main_v16
  let main_v18 : FVec F S1024x1024 .f32 := (extf .f32 · bitsLt_bf16_f32) main_arg9
  fn_part1 (F := F) main_v2 main_v6 main_v10 main_v13 main_v17 main_v18
-- ==== Kernel.lean ====
abbrev S8192x1024 : Shape := ⟨2, ![8192, 1024]⟩
abbrev S1x1024 : Shape := ⟨2, ![1, 1024]⟩
abbrev S1024x1024 : Shape := ⟨2, ![1024, 1024]⟩
abbrev S8192x4x256 : Shape := ⟨3, ![8192, 4, 256]⟩
abbrev S1024 : Shape := ⟨1, ![1024]⟩
abbrev S_ : Shape := ⟨0, ![]⟩
abbrev S8192x4 : Shape := ⟨2, ![8192, 4]⟩
abbrev S8192x4x1 : Shape := ⟨3, ![8192, 4, 1]⟩
abbrev S8192x2048 : Shape := ⟨2, ![8192, 2048]⟩
abbrev S512x1024 : Shape := ⟨2, ![512, 1024]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩
abbrev S1x256 : Shape := ⟨2, ![1, 256]⟩
abbrev S256 : Shape := ⟨1, ![256]⟩

abbrev nBuf : Space → Nat
  | .hbm => 57
  | .vmem => 31
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S1x1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S8192x1024, .f32⟩
  | .hbm, ⟨11, _⟩ => ⟨S8192x1024, .f32⟩
  | .hbm, ⟨12, _⟩ => ⟨S8192x4x256, .f32⟩
  | .hbm, ⟨13, _⟩ => ⟨S1024, .f32⟩
  | .hbm, ⟨14, _⟩ => ⟨S_, .f32⟩
  | .hbm, ⟨15, _⟩ => ⟨S8192x4, .f32⟩
  | .hbm, ⟨16, _⟩ => ⟨S8192x4x1, .f32⟩
  | .hbm, ⟨17, _⟩ => ⟨S_, .f32⟩
  | .hbm, ⟨18, _⟩ => ⟨S8192x4x1, .f32⟩
  | .hbm, ⟨19, _⟩ => ⟨S8192x4x1, .f32⟩
  | .hbm, ⟨20, _⟩ => ⟨S8192x4x256, .f32⟩
  | .hbm, ⟨21, _⟩ => ⟨S8192x4x256, .f32⟩
  | .hbm, ⟨22, _⟩ => ⟨S8192x4x256, .f32⟩
  | .hbm, ⟨23, _⟩ => ⟨S_, .f32⟩
  | .hbm, ⟨24, _⟩ => ⟨S8192x4, .f32⟩
  | .hbm, ⟨25, _⟩ => ⟨S8192x4x1, .f32⟩
  | .hbm, ⟨26, _⟩ => ⟨S_, .f32⟩
  | .hbm, ⟨27, _⟩ => ⟨S8192x4x1, .f32⟩
  | .hbm, ⟨28, _⟩ => ⟨S8192x4x1, .f32⟩
  | .hbm, ⟨29, _⟩ => ⟨S_, .f32⟩
  | .hbm, ⟨30, _⟩ => ⟨S8192x4x1, .f32⟩
  | .hbm, ⟨31, _⟩ => ⟨S8192x4x1, .f32⟩
  | .hbm, ⟨32, _⟩ => ⟨S8192x4x1, .f32⟩
  | .hbm, ⟨33, _⟩ => ⟨S8192x4x256, .f32⟩
  | .hbm, ⟨34, _⟩ => ⟨S8192x4x256, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .bf16⟩
  | .hbm, ⟨50, _⟩ => ⟨S8192x2048, .bf16⟩
  | .hbm, ⟨51, _⟩ => ⟨S8192x1024, .bf16⟩
  | .hbm, ⟨52, _⟩ => ⟨S8192x1024, .bf16⟩
  | .hbm, ⟨53, _⟩ => ⟨S8192x1024, .bf16⟩
  | .hbm, ⟨54, _⟩ => ⟨S8192x1024, .bf16⟩
  | .hbm, ⟨55, _⟩ => ⟨S8192x1024, .bf16⟩
  | .hbm, ⟨56, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S512x2048, .bf16⟩
  | .local _ .vmem, ⟨19, _⟩ => ⟨S512x2048, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27_0 : Ref sig .tc := ⟨.hbm, 50, rfl⟩
abbrev main_v27_1 : Ref sig .tc := ⟨.hbm, 51, rfl⟩
abbrev main_v27_2 : Ref sig .tc := ⟨.hbm, 52, rfl⟩
abbrev main_v27_3 : Ref sig .tc := ⟨.hbm, 53, rfl⟩
abbrev main_v27_4 : Ref sig .tc := ⟨.hbm, 54, rfl⟩
abbrev main_v27_5 : Ref sig .tc := ⟨.hbm, 55, rfl⟩
abbrev main_v27_6 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S8192x1024 : Shape := ⟨2, ![8192, 1024]⟩
abbrev S1x1024 : Shape := ⟨2, ![1, 1024]⟩
abbrev S1024x1024 : Shape := ⟨2, ![1024, 1024]⟩
abbrev S8192x4x256 : Shape := ⟨3, ![8192, 4, 256]⟩
abbrev S1024 : Shape := ⟨1, ![1024]⟩
abbrev S_ : Shape := ⟨0, ![]⟩
abbrev S8192x4 : Shape := ⟨2, ![8192, 4]⟩
abbrev S8192x4x1 : Shape := ⟨3, ![8192, 4, 1]⟩
abbrev S8192x2048 : Shape := ⟨2, ![8192, 2048]⟩

abbrev nBuf : Space → Nat
  | .hbm => 154
  | .vmem => 0
  | .smem => 0
  | _ => 0

abbrev hbmTy0_0 (i : Nat) : BufTy := match i % 128 with
  | 0 => ⟨S8192x1024, .f32⟩
  | 1 => ⟨S8192x1024, .bf16⟩
  | 2 => ⟨S8192x1024, .bf16⟩
  | 3 => ⟨S8192x1024, .bf16⟩
  | 4 => ⟨S8192x1024, .bf16⟩
  | 5 => ⟨S8192x1024, .bf16⟩
  | 6 => ⟨S1x1024, .f32⟩
  | 7 => ⟨S1024x1024, .bf16⟩
  | 8 => ⟨S1024x1024, .bf16⟩
  | 9 => ⟨S1024x1024, .bf16⟩
  | 10 => ⟨S8192x1024, .f32⟩
  | 11 => ⟨S8192x1024, .f32⟩
  | 12 => ⟨S8192x1024, .f32⟩
  | 13 => ⟨S8192x1024, .f32⟩
  | 14 => ⟨S8192x1024, .f32⟩
  | 15 => ⟨S1024x1024, .f32⟩
  | 16 => ⟨S1024x1024, .f32⟩
  | 17 => ⟨S1024x1024, .f32⟩
  | 18 => ⟨S8192x4x256, .f32⟩
  | 19 => ⟨S1024, .f32⟩
  | 20 => ⟨S_, .f32⟩
  | 21 => ⟨S8192x4, .f32⟩
  | 22 => ⟨S8192x4x1, .f32⟩
  | 23 => ⟨S_, .f32⟩
  | 24 => ⟨S8192x4x1, .f32⟩
  | 25 => ⟨S8192x4x1, .f32⟩
  | 26 => ⟨S8192x4x256, .f32⟩
  | 27 => ⟨S8192x4x256, .f32⟩
  | 28 => ⟨S8192x4x256, .f32⟩
  | 29 => ⟨S_, .f32⟩
  | 30 => ⟨S8192x4, .f32⟩
  | 31 => ⟨S8192x4x1, .f32⟩
  | 32 => ⟨S_, .f32⟩
  | 33 => ⟨S8192x4x1, .f32⟩
  | 34 => ⟨S8192x4x1, .f32⟩
  | 35 => ⟨S_, .f32⟩
  | 36 => ⟨S8192x4x1, .f32⟩
  | 37 => ⟨S8192x4x1, .f32⟩
  | 38 => ⟨S8192x4x1, .f32⟩
  | 39 => ⟨S8192x4x1, .f32⟩
  | 40 => ⟨S_, .f32⟩
  | 41 => ⟨S8192x4x1, .f32⟩
  | 42 => ⟨S8192x4x1, .f32⟩
  | 43 => ⟨S8192x4x256, .f32⟩
  | 44 => ⟨S8192x4x256, .f32⟩
  | 45 => ⟨S8192x1024, .f32⟩
  | 46 => ⟨S1x1024, .f32⟩
  | 47 => ⟨S8192x1024, .f32⟩
  | 48 => ⟨S8192x1024, .f32⟩
  | 49 => ⟨S8192x1024, .f32⟩
  | 50 => ⟨S8192x1024, .f32⟩
  | 51 => ⟨S_, .f32⟩
  | 52 => ⟨S8192x1024, .f32⟩
  | 53 => ⟨S8192x1024, .f32⟩
  | 54 => ⟨S_, .f32⟩
  | 55 => ⟨S8192x1024, .f32⟩
  | 56 => ⟨S8192x1024, .f32⟩
  | 57 => ⟨S_, .f32⟩
  | 58 => ⟨S8192x1024, .f32⟩
  | 59 => ⟨S8192x1024, .f32⟩
  | 60 => ⟨S8192x1024, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S8192x1024, .f32⟩
  | 67 => ⟨S_, .f32⟩
  | 68 => ⟨S8192x1024, .f32⟩
  | 69 => ⟨S8192x1024, .f32⟩
  | 70 => ⟨S_, .f32⟩
  | 71 => ⟨S8192x1024, .f32⟩
  | 72 => ⟨S8192x1024, .f32⟩
  | 73 => ⟨S_, .f32⟩
  | 74 => ⟨S8192x1024, .f32⟩
  | 75 => ⟨S8192x1024, .f32⟩
  | 76 => ⟨S8192x1024, .f32⟩
  | 77 => ⟨S8192x1024, .f32⟩
  | 78 => ⟨S8192x1024, .f32⟩
  | 79 => ⟨S8192x1024, .f32⟩
  | 80 => ⟨S_, .f32⟩
  | 81 => ⟨S8192x1024, .f32⟩
  | 82 => ⟨S8192x1024, .f32⟩
  | 83 => ⟨S_, .f32⟩
  | 84 => ⟨S8192x1024, .f32⟩
  | 85 => ⟨S8192x1024, .f32⟩
  | 86 => ⟨S_, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S8192x1024, .f32⟩
  | 97 => ⟨S8192x1024, .f32⟩
  | 98 => ⟨S8192x1024, .f32⟩
  | 99 => ⟨S8192x1024, .f32⟩
  | 100 => ⟨S8192x1024, .f32⟩
  | 101 => ⟨S8192x1024, .f32⟩
  | 102 => ⟨S8192x1024, .f32⟩
  | 103 => ⟨S8192x1024, .f32⟩
  | 104 => ⟨S8192x1024, .f32⟩
  | 105 => ⟨S8192x1024, .f32⟩
  | 106 => ⟨S8192x1024, .f32⟩
  | 107 => ⟨S8192x1024, .f32⟩
  | 108 => ⟨S8192x1024, .f32⟩
  | 109 => ⟨S_, .f32⟩
  | 110 => ⟨S1024, .f32⟩
  | 111 => ⟨S1x1024, .f32⟩
  | 112 => ⟨S8192x1024, .f32⟩
  | 113 => ⟨S8192x1024, .f32⟩
  | 114 => ⟨S_, .f32⟩
  | 115 => ⟨S1024, .f32⟩
  | 116 => ⟨S8192x4x256, .f32⟩
  | 117 => ⟨S8192x4x256, .f32⟩
  | 118 => ⟨S_, .f32⟩
  | 119 => ⟨S8192x4, .f32⟩
  | 120 => ⟨S8192x4x1, .f32⟩
  | 121 => ⟨S8192x4x256, .f32⟩
  | 122 => ⟨S8192x4x256, .f32⟩
  | 123 => ⟨S8192x4x1, .f32⟩
  | 124 => ⟨S_, .f32⟩
  | 125 => ⟨S8192x4x1, .f32⟩
  | 126 => ⟨S8192x4x1, .f32⟩
  | 127 => ⟨S_, .f32⟩
  | _ => ⟨S8192x1024, .f32⟩

abbrev hbmTy0_1 (i : Nat) : BufTy := match i % 128 with
  | 0 => ⟨S8192x4, .f32⟩
  | 1 => ⟨S8192x4x256, .f32⟩
  | 2 => ⟨S8192x4x256, .f32⟩
  | 3 => ⟨S8192x4x256, .f32⟩
  | 4 => ⟨S8192x4x256, .f32⟩
  | 5 => ⟨S8192x4x256, .f32⟩
  | 6 => ⟨S8192x4x256, .f32⟩
  | 7 => ⟨S_, .f32⟩
  | 8 => ⟨S8192x4, .f32⟩
  | 9 => ⟨S8192x4x1, .f32⟩
  | 10 => ⟨S_, .f32⟩
  | 11 => ⟨S8192x4x1, .f32⟩
  | 12 => ⟨S8192x4x1, .f32⟩
  | 13 => ⟨S_, .f32⟩
  | 14 => ⟨S8192x4, .f32⟩
  | 15 => ⟨S8192x4x256, .f32⟩
  | 16 => ⟨S8192x4x256, .f32⟩
  | 17 => ⟨S1x1024, .f32⟩
  | 18 => ⟨S8192x1024, .f32⟩
  | 19 => ⟨S8192x2048, .f32⟩
  | 20 => ⟨S8192x2048, .bf16⟩
  | 21 => ⟨S8192x1024, .bf16⟩
  | 22 => ⟨S8192x1024, .bf16⟩
  | 23 => ⟨S8192x1024, .bf16⟩
  | 24 => ⟨S8192x1024, .bf16⟩
  | 25 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_v33_2 : Ref sig .tc := ⟨.hbm, 56, rfl⟩
abbrev main_call0_cst_1 : Ref sig .tc := ⟨.hbm, 57, rfl⟩
abbrev main_call0_v6 : Ref sig .tc := ⟨.hbm, 58, rfl⟩
abbrev main_call0_v7 : Ref sig .tc := ⟨.hbm, 59, rfl⟩
abbrev main_v33_1 : Ref sig .tc := ⟨.hbm, 60, rfl⟩
abbrev main_v33_0 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_5 : Ref sig .tc := ⟨.hbm, 67, rfl⟩
abbrev main_v39 : Ref sig .tc := ⟨.hbm, 68, rfl⟩
abbrev main_v40 : Ref sig .tc := ⟨.hbm, 69, rfl⟩
abbrev main_cst_6 : Ref sig .tc := ⟨.hbm, 70, rfl⟩
abbrev main_v41 : Ref sig .tc := ⟨.hbm, 71, rfl⟩
abbrev main_v42 : Ref sig .tc := ⟨.hbm, 72, rfl⟩
abbrev main_cst_7 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_8 : Ref sig .tc := ⟨.hbm, 80, rfl⟩
abbrev main_v49 : Ref sig .tc := ⟨.hbm, 81, rfl⟩
abbrev main_v50 : Ref sig .tc := ⟨.hbm, 82, rfl⟩
abbrev main_cst_9 : Ref sig .tc := ⟨.hbm, 83, rfl⟩
abbrev main_v51 : Ref sig .tc := ⟨.hbm, 84, rfl⟩
abbrev main_v52 : Ref sig .tc := ⟨.hbm, 85, rfl⟩
abbrev main_cst_10 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_call1_v0 : Ref sig .tc := ⟨.hbm, 104, rfl⟩
abbrev main_call1_v1 : Ref sig .tc := ⟨.hbm, 105, rfl⟩
abbrev main_call1_v2 : Ref sig .tc := ⟨.hbm, 106, rfl⟩
abbrev main_v70 : Ref sig .tc := ⟨.hbm, 107, rfl⟩
abbrev main_v71 : Ref sig .tc := ⟨.hbm, 108, rfl⟩
abbrev main_cst_11 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_12 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_13 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_14 : Ref sig .tc := ⟨.hbm, 124, rfl⟩
abbrev main_v84 : Ref sig .tc := ⟨.hbm, 125, rfl⟩
abbrev main_v85 : Ref sig .tc := ⟨.hbm, 126, rfl⟩
abbrev main_cst_15 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_16 : Ref sig .tc := ⟨.hbm, 135, rfl⟩
abbrev main_v93 : Ref sig .tc := ⟨.hbm, 136, rfl⟩
abbrev main_v94 : Ref sig .tc := ⟨.hbm, 137, rfl⟩
abbrev main_cst_17 : Ref sig .tc := ⟨.hbm, 138, rfl⟩
abbrev main_v95 : Ref sig .tc := ⟨.hbm, 139, rfl⟩
abbrev main_v96 : Ref sig .tc := ⟨.hbm, 140, rfl⟩
abbrev main_cst_18 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S2816x1024 : Shape := ⟨2, ![2816, 1024]⟩
abbrev S1024x2816 : Shape := ⟨2, ![1024, 2816]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 33
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S2816x1024, .bf16⟩
  | .hbm, ⟨4, _⟩ => ⟨S2816x1024, .bf16⟩
  | .hbm, ⟨5, _⟩ => ⟨S2816x1024, .bf16⟩
  | .hbm, ⟨6, _⟩ => ⟨S2816x1024, .f32⟩
  | .hbm, ⟨7, _⟩ => ⟨S1024x2816, .f32⟩
  | .hbm, ⟨8, _⟩ => ⟨S2816x1024, .f32⟩
  | .hbm, ⟨9, _⟩ => ⟨S1024x2816, .f32⟩
  | .hbm, ⟨10, _⟩ => ⟨S1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x2816, .f32⟩
  | .hbm, ⟨28, _⟩ => ⟨S8192x2816, .f32⟩
  | .hbm, ⟨29, _⟩ => ⟨S8192x2816, .bf16⟩
  | .hbm, ⟨30, _⟩ => ⟨S8192x2816, .bf16⟩
  | .hbm, ⟨31, _⟩ => ⟨S8192x1024, .f32⟩
  | .hbm, ⟨32, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x2816, .f32⟩
  | .local _ .vmem, ⟨3, _⟩ => ⟨S256x2816, .f32⟩
  | .local _ .vmem, ⟨4, _⟩ => ⟨S256x2816, .f32⟩
  | .local _ .vmem, ⟨5, _⟩ => ⟨S256x2816, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev main_v20_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference2Ideal.lean ====
abbrev S8192x1024 : Shape := ⟨2, ![8192, 1024]⟩
abbrev S1x1024 : Shape := ⟨2, ![1, 1024]⟩
abbrev S2816x1024 : Shape := ⟨2, ![2816, 1024]⟩
abbrev S1024x2816 : Shape := ⟨2, ![1024, 2816]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 90
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S2816x1024, .bf16⟩
  | .hbm, ⟨4, _⟩ => ⟨S2816x1024, .bf16⟩
  | .hbm, ⟨5, _⟩ => ⟨S2816x1024, .bf16⟩
  | .hbm, ⟨6, _⟩ => ⟨S2816x1024, .f32⟩
  | .hbm, ⟨7, _⟩ => ⟨S1024x2816, .f32⟩
  | .hbm, ⟨8, _⟩ => ⟨S2816x1024, .f32⟩
  | .hbm, ⟨9, _⟩ => ⟨S1024x2816, .f32⟩
  | .hbm, ⟨10, _⟩ => ⟨S1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x2816, .f32⟩
  | .hbm, ⟨32, _⟩ => ⟨S8192x2816, .f32⟩
  | .hbm, ⟨33, _⟩ => ⟨S2816x1024, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S_, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S1024, .f32⟩
  | .hbm, ⟨69, _⟩ => ⟨S8192x1024, .f32⟩
  | .hbm, ⟨70, _⟩ => ⟨S_, .f32⟩
  | .hbm, ⟨71, _⟩ => ⟨S8192, .f32⟩
  | .hbm, ⟨72, _⟩ => ⟨S8192x1, .f32⟩
  | .hbm, ⟨73, _⟩ => ⟨S8192x1024, .f32⟩
  | .hbm, ⟨74, _⟩ => ⟨S8192x1024, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S1x1024, .f32⟩
  | .hbm, ⟨87, _⟩ => ⟨S8192x2816, .bf16⟩
  | .hbm, ⟨88, _⟩ => ⟨S8192x2816, .bf16⟩
  | .hbm, ⟨89, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v24_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v24_1 : Ref sig .tc := ⟨.hbm, 45, rfl⟩
abbrev main_v24_0 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_3 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_4 : Ref sig .tc := ⟨.hbm, 67, rfl⟩
abbrev main_v41 : Ref sig .tc := ⟨.hbm, 68, rfl⟩
abbrev main_v42 : Ref sig .tc := ⟨.hbm, 69, rfl⟩
abbrev main_cst_5 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_6 : Ref sig .tc := ⟨.hbm, 76, rfl⟩
abbrev main_v48 : Ref sig .tc := ⟨.hbm, 77, rfl⟩
abbrev main_v49 : Ref sig .tc := ⟨.hbm, 78, rfl⟩
abbrev main_cst_7 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S2816x1024 : Shape := ⟨2, ![2816, 1024]⟩
abbrev S8192x2816 : Shape := ⟨2, ![8192, 2816]⟩
abbrev S1x128 : Shape := ⟨2, ![1, 128]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 14
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S2816x1024, .bf16⟩
  | .hbm, ⟨5, _⟩ => ⟨S2816x1024, .bf16⟩
  | .hbm, ⟨6, _⟩ => ⟨S2816x1024, .bf16⟩
  | .hbm, ⟨7, _⟩ => ⟨S8192x2816, .f32⟩
  | .hbm, ⟨8, _⟩ => ⟨S8192x2816, .f32⟩
  | .hbm, ⟨9, _⟩ => ⟨S8192x1024, .bf16⟩
  | .hbm, ⟨10, _⟩ => ⟨S8192x2816, .bf16⟩
  | .hbm, ⟨11, _⟩ => ⟨S8192x1024, .f32⟩
  | .hbm, ⟨12, _⟩ => ⟨S1x128, .f32⟩
  | .hbm, ⟨13, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S2816x1024, .bf16⟩
  | .local _ .vmem, ⟨7, _⟩ => ⟨S2816x1024, .bf16⟩
  | .local _ .vmem, ⟨8, _⟩ => ⟨S2816x1024, .bf16⟩
  | .local _ .vmem, ⟨9, _⟩ => ⟨S256x2816, .f32⟩
  | .local _ .vmem, ⟨10, _⟩ => ⟨S256x2816, .f32⟩
  | .local _ .vmem, ⟨11, _⟩ => ⟨S256x2816, .f32⟩
  | .local _ .vmem, ⟨12, _⟩ => ⟨S256x2816, .f32⟩
  | .local _ .vmem, ⟨13, _⟩ => ⟨S256x1024, .bf16⟩
  | .local _ .vmem, ⟨14, _⟩ => ⟨S256x1024, .bf16⟩
  | .local _ .vmem, ⟨15, _⟩ => ⟨S256x2816, .bf16⟩
  | .local _ .vmem, ⟨16, _⟩ => ⟨S256x2816, .bf16⟩
  | .local _ .vmem, ⟨17, _⟩ => ⟨S256x1024, .f32⟩
  | .local _ .vmem, ⟨18, _⟩ => ⟨S256x1024, .f32⟩
  | .local _ .vmem, ⟨19, _⟩ => ⟨S1x128, .f32⟩
  | .local _ .vmem, ⟨20, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference3Ideal.lean ====
abbrev S8192x1024 : Shape := ⟨2, ![8192, 1024]⟩
abbrev S1x1024 : Shape := ⟨2, ![1, 1024]⟩
abbrev S2816x1024 : Shape := ⟨2, ![2816, 1024]⟩
abbrev S1024x2816 : Shape := ⟨2, ![1024, 2816]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S1x128 : Shape := ⟨2, ![1, 128]⟩

abbrev nBuf : Space → Nat
  | .hbm => 143
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1x1024, .f32⟩
  | 4 => ⟨S2816x1024, .bf16⟩
  | 5 => ⟨S2816x1024, .bf16⟩
  | 6 => ⟨S2816x1024, .bf16⟩
  | 7 => ⟨S2816x1024, .f32⟩
  | 8 => ⟨S1024x2816, .f32⟩
  | 9 => ⟨S2816x1024, .f32⟩
  | 10 => ⟨S1024x2816, .f32⟩
  | 11 => ⟨S1024, .f32⟩
  | 12 => ⟨S8192x1024, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S8192x2816, .f32⟩
  | 29 => ⟨S8192x2816, .f32⟩
  | 30 => ⟨S2816x1024, .f32⟩
  | 31 => ⟨S8192x2816, .f32⟩
  | 32 => ⟨S8192x2816, .f32⟩
  | 33 => ⟨S_, .f32⟩
  | 34 => ⟨S8192x2816, .f32⟩
  | 35 => ⟨S8192x2816, .f32⟩
  | 36 => ⟨S_, .f32⟩
  | 37 => ⟨S8192x2816, .f32⟩
  | 38 => ⟨S8192x2816, .f32⟩
  | 39 => ⟨S8192x2816, .f32⟩
  | 40 => ⟨S8192x2816, .f32⟩
  | 41 => ⟨S8192x1024, .f32⟩
  | 42 => ⟨S8192x1024, .f32⟩
  | 43 => ⟨S1024, .f32⟩
  | 44 => ⟨S8192x1024, .f32⟩
  | 45 => ⟨S_, .f32⟩
  | 46 => ⟨S8192, .f32⟩
  | 47 => ⟨S8192x1, .f32⟩
  | 48 => ⟨S_, .f32⟩
  | 49 => ⟨S8192x1, .f32⟩
  | 50 => ⟨S8192x1, .f32⟩
  | 51 => ⟨S_, .f32⟩
  | 52 => ⟨S8192x1, .f32⟩
  | 53 => ⟨S8192x1, .f32⟩
  | 54 => ⟨S8192x1, .f32⟩
  | 55 => ⟨S8192x1, .f32⟩
  | 56 => ⟨S_, .f32⟩
  | 57 => ⟨S8192x1, .f32⟩
  | 58 => ⟨S8192x1, .f32⟩
  | 59 => ⟨S8192x1024, .f32⟩
  | 60 => ⟨S8192x1024, .f32⟩
  | 61 => ⟨S1x1024, .f32⟩
  | 62 => ⟨S8192x1024, .f32⟩
  | 63 => ⟨S8192x1024, .f32⟩
  | 64 => ⟨S8192x1024, .f32⟩
  | 65 => ⟨S8192x1024, .f32⟩
  | 66 => ⟨S_, .f32⟩
  | 67 => ⟨S8192x1024, .f32⟩
  | 68 => ⟨S8192x1024, .f32⟩
  | 69 => ⟨S_, .f32⟩
  | 70 => ⟨S8192, .f32⟩
  | 71 => ⟨S_, .f32⟩
  | 72 => ⟨S8192, .f32⟩
  | 73 => ⟨S8192, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S8192, .f32⟩
  | 82 => ⟨S_, .f32⟩
  | 83 => ⟨S8192, .f32⟩
  | 84 => ⟨S8192, .f32⟩
  | 85 => ⟨S8192x1024, .f32⟩
  | 86 => ⟨S8192x1024, .f32⟩
  | 87 => ⟨S8192x1024, .f32⟩
  | 88 => ⟨S_, .f32⟩
  | 89 => ⟨S1024, .f32⟩
  | 90 => ⟨S1x1024, .f32⟩
  | 91 => ⟨S8192x1024, .f32⟩
  | 92 => ⟨S8192x1024, .f32⟩
  | 93 => ⟨S_, .f32⟩
  | 94 => ⟨S1024, .f32⟩
  | 95 => ⟨S8192x1024, .f32⟩
  | 96 => ⟨S_, .f32⟩
  | 97 => ⟨S8192, .f32⟩
  | 98 => ⟨S8192x1, .f32⟩
  | 99 => ⟨S8192x1024, .f32⟩
  | 100 => ⟨S8192x1024, .f32⟩
  | 101 => ⟨S8192x1, .f32⟩
  | 102 => ⟨S_, .f32⟩
  | 103 => ⟨S8192x1, .f32⟩
  | 104 => ⟨S8192x1, .f32⟩
  | 105 => ⟨S_, .f32⟩
  | 106 => ⟨S8192, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S1x1024, .f32⟩
  | 113 => ⟨S1024, .f32⟩
  | 114 => ⟨S8192x1024, .f32⟩
  | 115 => ⟨S_, .f32⟩
  | 116 => ⟨S8192, .f32⟩
  | 117 => ⟨S8192x1, .f32⟩
  | 118 => ⟨S_, .f32⟩
  | 119 => ⟨S8192x1, .f32⟩
  | 120 => ⟨S8192x1, .f32⟩
  | 121 => ⟨S_, .f32⟩
  | 122 => ⟨S8192x1, .f32⟩
  | 123 => ⟨S8192x1, .f32⟩
  | 124 => ⟨S8192x1, .f32⟩
  | 125 => ⟨S8192x1024, .f32⟩
  | 126 => ⟨S8192x1024, .f32⟩
  | 127 => ⟨S1x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x2816, .f32⟩
  | 3 => ⟨S8192x2816, .f32⟩
  | 4 => ⟨S_, .f32⟩
  | 5 => ⟨S8192x2816, .f32⟩
  | 6 => ⟨S8192x2816, .f32⟩
  | 7 => ⟨S_, .f32⟩
  | 8 => ⟨S8192x2816, .f32⟩
  | 9 => ⟨S8192x2816, .f32⟩
  | 10 => ⟨S8192x2816, .f32⟩
  | 11 => ⟨S8192x2816, .f32⟩
  | 12 => ⟨S8192x1024, .bf16⟩
  | 13 => ⟨S8192x2816, .bf16⟩
  | 14 => ⟨S1x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_cst_7 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_v48 : Ref sig .tc := ⟨.hbm, 73, rfl⟩
abbrev main_cst_9 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_cst_11 : Ref sig .tc := ⟨.hbm, 78, rfl⟩
abbrev main_cst_12 : Ref sig .tc := ⟨.hbm, 79, rfl⟩
abbrev main_v51 : Ref sig .tc := ⟨.hbm, 80, rfl⟩
abbrev main_v52 : Ref sig .tc := ⟨.hbm, 81, rfl⟩
abbrev main_cst_13 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_14 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_15 : Ref sig .tc := ⟨.hbm, 93, rfl⟩
abbrev main_v62 : Ref sig .tc := ⟨.hbm, 94, rfl⟩
abbrev main_v63 : Ref sig .tc := ⟨.hbm, 95, rfl⟩
abbrev main_cst_16 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_17 : Ref sig .tc := ⟨.hbm, 102, rfl⟩
abbrev main_v69 : Ref sig .tc := ⟨.hbm, 103, rfl⟩
abbrev main_v70 : Ref sig .tc := ⟨.hbm, 104, rfl⟩
abbrev main_cst_18 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_19 : Ref sig .tc := ⟨.hbm, 115, rfl⟩
abbrev main_v80 : Ref sig .tc := ⟨.hbm, 116, rfl⟩
abbrev main_v81 : Ref sig .tc := ⟨.hbm, 117, rfl⟩
abbrev main_cst_20 : Ref sig .tc := ⟨.hbm, 118, rfl⟩
abbrev main_v82 : Ref sig .tc := ⟨.hbm, 119, rfl⟩
abbrev main_v83 : Ref sig .tc := ⟨.hbm, 120, rfl⟩
abbrev main_cst_21 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_call1_v0 : Ref sig .tc := ⟨.hbm, 130, rfl⟩
abbrev main_call1_v1 : Ref sig .tc := ⟨.hbm, 131, rfl⟩
abbrev main_call1_cst : Ref sig .tc := ⟨.hbm, 132, rfl⟩
abbrev main_call1_v2 : Ref sig .tc := ⟨.hbm, 133, rfl⟩
abbrev main_call1_v3 : Ref sig .tc := ⟨.hbm, 134, rfl⟩
abbrev main_call1_cst_0 : Ref sig .tc := ⟨.hbm, 135, rfl⟩
abbrev main_call1_v4 : Ref sig .tc := ⟨.hbm, 136, rfl⟩
abbrev main_call1_v5 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩

abbrev nD : Nat := 1
abbrev τ : Topo := Topo.v7x

variable {F : FTy → Type} [FloatOps F]
-- ==== Kernel4.lean ====
abbrev S8192x2048 : Shape := ⟨2, ![8192, 2048]⟩
abbrev S8192x1024 : Shape := ⟨2, ![8192, 1024]⟩
abbrev S4096x128 : Shape := ⟨2, ![4096, 128]⟩
abbrev S1x1024 : Shape := ⟨2, ![1, 1024]⟩
abbrev S6400x1024 : Shape := ⟨2, ![6400, 1024]⟩
abbrev S_ : Shape := ⟨0, ![]⟩
abbrev S8x128 : Shape := ⟨2, ![8, 128]⟩
abbrev S1x6400 : Shape := ⟨2, ![1, 6400]⟩
abbrev S512x2048 : Shape := ⟨2, ![512, 2048]⟩
abbrev S512x1024 : Shape := ⟨2, ![512, 1024]⟩
abbrev S256x128 : Shape := ⟨2, ![256, 128]⟩
abbrev S128x128 : Shape := ⟨2, ![128, 128]⟩
abbrev S512x128 : Shape := ⟨2, ![512, 128]⟩
abbrev S512x6400 : Shape := ⟨2, ![512, 6400]⟩
abbrev S6400 : Shape := ⟨1, ![6400]⟩
abbrev S512 : Shape := ⟨1, ![512]⟩
abbrev S512x1 : Shape := ⟨2, ![512, 1]⟩
abbrev S1024 : Shape := ⟨1, ![1024]⟩

abbrev nBuf : Space → Nat
  | .hbm => 17
  | .vmem => 26
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S4096x128, .bf16⟩
  | .hbm, ⟨4, _⟩ => ⟨S4096x128, .bf16⟩
  | .hbm, ⟨5, _⟩ => ⟨S4096x128, .bf16⟩
  | .hbm, ⟨6, _⟩ => ⟨S4096x128, .bf16⟩
  | .hbm, ⟨7, _⟩ => ⟨S8192x2048, .bf16⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S6400x1024, .bf16⟩
  | .hbm, ⟨12, _⟩ => ⟨S_, .f32⟩
  | .hbm, ⟨13, _⟩ => ⟨S8x128, .f32⟩
  | .hbm, ⟨14, _⟩ => ⟨S8192x1024, .f32⟩
  | .hbm, ⟨15, _⟩ => ⟨S1x1024, .f32⟩
  | .hbm, ⟨16, _⟩ => ⟨S1x6400, .f32⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S256x128, .bf16⟩
  | .local _ .vmem, ⟨13, _⟩ => ⟨S256x128, .bf16⟩
  | .local _ .vmem, ⟨14, _⟩ => ⟨S512x2048, .bf16⟩
  | .local _ .vmem, ⟨15, _⟩ => ⟨S512x2048, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | .local _ .vmem, ⟨21, _⟩ => ⟨S6400x1024, .bf16⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | .local _ .vmem, ⟨25, _⟩ => ⟨S1x6400, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1_0 : Ref sig .tc := ⟨.hbm, 14, rfl⟩
abbrev main_v1_1 : Ref sig .tc := ⟨.hbm, 15, rfl⟩
abbrev main_v1_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S6400x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x6400 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference4Ideal.lean ====
abbrev S8192x2048 : Shape := ⟨2, ![8192, 2048]⟩
abbrev S8192x1024 : Shape := ⟨2, ![8192, 1024]⟩
abbrev S4096x128 : Shape := ⟨2, ![4096, 128]⟩
abbrev S1x1024 : Shape := ⟨2, ![1, 1024]⟩
abbrev S6400x1024 : Shape := ⟨2, ![6400, 1024]⟩
abbrev S32x128x128 : Shape := ⟨3, ![32, 128, 128]⟩
abbrev S32x1x128x128 : Shape := ⟨4, ![32, 1, 128, 128]⟩
abbrev S32x2x128x128 : Shape := ⟨4, ![32, 2, 128, 128]⟩
abbrev S8192x128 : Shape := ⟨2, ![8192, 128]⟩
abbrev S8192x6400 : Shape := ⟨2, ![8192, 6400]⟩
abbrev S_ : Shape := ⟨0, ![]⟩
abbrev S1x6400 : Shape := ⟨2, ![1, 6400]⟩
abbrev S1024x6400 : Shape := ⟨2, ![1024, 6400]⟩
abbrev S1024 : Shape := ⟨1, ![1024]⟩
abbrev S8192 : Shape := ⟨1, ![8192]⟩
abbrev S8192x1 : Shape := ⟨2, ![8192, 1]⟩
abbrev S6400 : Shape := ⟨1, ![6400]⟩

abbrev nBuf : Space → Nat
  | .hbm => 90
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S4096x128, .bf16⟩
  | .hbm, ⟨4, _⟩ => ⟨S4096x128, .bf16⟩
  | .hbm, ⟨5, _⟩ => ⟨S4096x128, .bf16⟩
  | .hbm, ⟨6, _⟩ => ⟨S4096x128, .bf16⟩
  | .hbm, ⟨7, _⟩ => ⟨S8192x2048, .bf16⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S6400x1024, .bf16⟩
  | .hbm, ⟨12, _⟩ => ⟨S32x128x128, .bf16⟩
  | .hbm, ⟨13, _⟩ => ⟨S32x128x128, .bf16⟩
  | .hbm, ⟨14, _⟩ => ⟨S32x1x128x128, .bf16⟩
  | .hbm, ⟨15, _⟩ => ⟨S32x1x128x128, .bf16⟩
  | .hbm, ⟨16, _⟩ => ⟨S32x2x128x128, .bf16⟩
  | .hbm, ⟨17, _⟩ => ⟨S8192x128, .bf16⟩
  | .hbm, ⟨18, _⟩ => ⟨S32x128x128, .bf16⟩
  | .hbm, ⟨19, _⟩ => ⟨S32x128x128, .bf16⟩
  | .hbm, ⟨20, _⟩ => ⟨S32x1x128x128, .bf16⟩
  | .hbm, ⟨21, _⟩ => ⟨S32x1x128x128, .bf16⟩
  | .hbm, ⟨22, _⟩ => ⟨S32x2x128x128, .bf16⟩
  | .hbm, ⟨23, _⟩ => ⟨S8192x128, .bf16⟩
  | .hbm, ⟨24, _⟩ => ⟨S8192x6400, .bf16⟩
  | .hbm, ⟨25, _⟩ => ⟨S8192x6400, .f32⟩
  | .hbm, ⟨26, _⟩ => ⟨S_, .f32⟩
  | .hbm, ⟨27, _⟩ => ⟨S1x6400, .f32⟩
  | .hbm, ⟨28, _⟩ => ⟨S6400x1024, .f32⟩
  | .hbm, ⟨29, _⟩ => ⟨S1024x6400, .f32⟩
  | .hbm, ⟨30, _⟩ => ⟨S1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x6400, .f32⟩
  | .hbm, ⟨52, _⟩ => ⟨S6400, .f32⟩
  | .hbm, ⟨53, _⟩ => ⟨S1x6400, .f32⟩
  | .hbm, ⟨54, _⟩ => ⟨S8192x6400, .f32⟩
  | .hbm, ⟨55, _⟩ => ⟨S8192x6400, .f32⟩
  | .hbm, ⟨56, _⟩ => ⟨S_, .f32⟩
  | .hbm, ⟨57, _⟩ => ⟨S6400, .f32⟩
  | .hbm, ⟨58, _⟩ => ⟨S1x6400, .f32⟩
  | .hbm, ⟨59, _⟩ => ⟨S_, .f32⟩
  | .hbm, ⟨60, _⟩ => ⟨S6400, .f32⟩
  | .hbm, ⟨61, _⟩ => ⟨S1x6400, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S8192x1024, .f32⟩
  | .hbm, ⟨76, _⟩ => ⟨S8192x1024, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S1x1024, .f32⟩
  | .hbm, ⟨89, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_0 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_4 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_7 : Ref sig .tc := ⟨.hbm, 69, rfl⟩
abbrev main_v49 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S1024x1024 : Shape := ⟨2, ![1024, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x256 : Shape := ⟨2, ![1, 256]⟩

abbrev nBuf : Space → Nat
  | .hbm => 13
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S1x1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S8192x1024, .bf16⟩
  | .hbm, ⟨11, _⟩ => ⟨S8192x1024, .bf16⟩
  | .hbm, ⟨12, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference5Ideal.lean ====
abbrev S8192x1024 : Shape := ⟨2, ![8192, 1024]⟩
abbrev S1x1024 : Shape := ⟨2, ![1, 1024]⟩
abbrev S1024x1024 : Shape := ⟨2, ![1024, 1024]⟩
abbrev S8192x4x256 : Shape := ⟨3, ![8192, 4, 256]⟩
abbrev S1024 : Shape := ⟨1, ![1024]⟩
abbrev S_ : Shape := ⟨0, ![]⟩
abbrev S8192x4 : Shape := ⟨2, ![8192, 4]⟩
abbrev S8192x4x1 : Shape := ⟨3, ![8192, 4, 1]⟩

abbrev nBuf : Space → Nat
  | .hbm => 80
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S1x1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S8192x1024, .f32⟩
  | .hbm, ⟨11, _⟩ => ⟨S8192x1024, .f32⟩
  | .hbm, ⟨12, _⟩ => ⟨S8192x4x256, .f32⟩
  | .hbm, ⟨13, _⟩ => ⟨S1024, .f32⟩
  | .hbm, ⟨14, _⟩ => ⟨S_, .f32⟩
  | .hbm, ⟨15, _⟩ => ⟨S8192x4, .f32⟩
  | .hbm, ⟨16, _⟩ => ⟨S8192x4x1, .f32⟩
  | .hbm, ⟨17, _⟩ => ⟨S_, .f32⟩
  | .hbm, ⟨18, _⟩ => ⟨S8192x4x1, .f32⟩
  | .hbm, ⟨19, _⟩ => ⟨S8192x4x1, .f32⟩
  | .hbm, ⟨20, _⟩ => ⟨S8192x4x256, .f32⟩
  | .hbm, ⟨21, _⟩ => ⟨S8192x4x256, .f32⟩
  | .hbm, ⟨22, _⟩ => ⟨S8192x4x256, .f32⟩
  | .hbm, ⟨23, _⟩ => ⟨S_, .f32⟩
  | .hbm, ⟨24, _⟩ => ⟨S8192x4, .f32⟩
  | .hbm, ⟨25, _⟩ => ⟨S8192x4x1, .f32⟩
  | .hbm, ⟨26, _⟩ => ⟨S_, .f32⟩
  | .hbm, ⟨27, _⟩ => ⟨S8192x4x1, .f32⟩
  | .hbm, ⟨28, _⟩ => ⟨S8192x4x1, .f32⟩
  | .hbm, ⟨29, _⟩ => ⟨S_, .f32⟩
  | .hbm, ⟨30, _⟩ => ⟨S8192x4x1, .f32⟩
  | .hbm, ⟨31, _⟩ => ⟨S8192x4x1, .f32⟩
  | .hbm, ⟨32, _⟩ => ⟨S8192x4x1, .f32⟩
  | .hbm, ⟨33, _⟩ => ⟨S8192x4x256, .f32⟩
  | .hbm, ⟨34, _⟩ => ⟨S8192x4x256, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S1024x1024, .f32⟩
  | .hbm, ⟨50, _⟩ => ⟨S8192x1024, .f32⟩
  | .hbm, ⟨51, _⟩ => ⟨S8192x1024, .f32⟩
  | .hbm, ⟨52, _⟩ => ⟨S1024x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .bf16⟩
  | .hbm, ⟨76, _⟩ => ⟨S8192x1024, .bf16⟩
  | .hbm, ⟨77, _⟩ => ⟨S1024x1024, .f32⟩
  | .hbm, ⟨78, _⟩ => ⟨S8192x1024, .f32⟩
  | .hbm, ⟨79, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_4 : Ref sig .tc := ⟨.hbm, 57, rfl⟩
abbrev main_v34 : Ref sig .tc := ⟨.hbm, 58, rfl⟩
abbrev main_v35 : Ref sig .tc := ⟨.hbm, 59, rfl⟩
abbrev main_cst_5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_6 : Ref sig .tc := ⟨.hbm, 67, rfl⟩
abbrev main_v42 : Ref sig .tc := ⟨.hbm, 68, rfl⟩
abbrev main_v43 : Ref sig .tc := ⟨.hbm, 69, rfl⟩
abbrev main_cst_7 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S6400x1024 : Shape := ⟨2, ![6400, 1024]⟩
abbrev S1x6400 : Shape := ⟨2, ![1, 6400]⟩
abbrev S_ : Shape := ⟨0, ![]⟩
abbrev S8x128 : Shape := ⟨2, ![8, 128]⟩
abbrev S8192 : Shape := ⟨1, ![8192]⟩
abbrev S1x1 : Shape := ⟨2, ![1, 1]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S32 : Shape := ⟨1, ![32]⟩
abbrev S1x32 : Shape := ⟨2, ![1, 32]⟩
abbrev S8192x32 : Shape := ⟨2, ![8192, 32]⟩
abbrev S8192x128 : Shape := ⟨2, ![8192, 128]⟩
abbrev S8192x512 : Shape := ⟨2, ![8192, 512]⟩
abbrev S512x1024 : Shape := ⟨2, ![512, 1024]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S1024x1024 : Shape := ⟨2, ![1024, 1024]⟩
abbrev S256x1024 : Shape := ⟨2, ![256, 1024]⟩
abbrev S512x256 : Shape := ⟨2, ![512, 256]⟩
abbrev S1x256 : Shape := ⟨2, ![1, 256]⟩

abbrev nBuf : Space → Nat
  | .hbm => 59
  | .vmem => 33
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S6400x1024, .bf16⟩
  | .hbm, ⟨3, _⟩ => ⟨S1x6400, .f32⟩
  | .hbm, ⟨4, _⟩ => ⟨S_, .f32⟩
  | .hbm, ⟨5, _⟩ => ⟨S8x128, .f32⟩
  | .hbm, ⟨6, _⟩ => ⟨S8192, .i32⟩
  | .hbm, ⟨7, _⟩ => ⟨S8192, .f32⟩
  | .hbm, ⟨8, _⟩ => ⟨S1x1, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S8192x1, .f32⟩
  | .hbm, ⟨21, _⟩ => ⟨S1x64, .f32⟩
  | .hbm, ⟨22, _⟩ => ⟨S8192x64, .f32⟩
  | .hbm, ⟨23, _⟩ => ⟨S8192x64, .f32⟩
  | .hbm, ⟨24, _⟩ => ⟨S8192x64, .f32⟩
  | .hbm, ⟨25, _⟩ => ⟨S8192x64, .f32⟩
  | .hbm, ⟨26, _⟩ => ⟨S8192x64, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S8192x1, .f32⟩
  | .hbm, ⟨36, _⟩ => ⟨S1x32, .f32⟩
  | .hbm, ⟨37, _⟩ => ⟨S8192x32, .f32⟩
  | .hbm, ⟨38, _⟩ => ⟨S8192x32, .f32⟩
  | .hbm, ⟨39, _⟩ => ⟨S8192x32, .f32⟩
  | .hbm, ⟨40, _⟩ => ⟨S8192x32, .f32⟩
  | .hbm, ⟨41, _⟩ => ⟨S8192x32, .f32⟩
  | .hbm, ⟨42, _⟩ => ⟨S8192x128, .f32⟩
  | .hbm, ⟨43, _⟩ => ⟨S8192x64, .f32⟩
  | .hbm, ⟨44, _⟩ => ⟨S8192x128, .f32⟩
  | .hbm, ⟨45, _⟩ => ⟨S8192x128, .f32⟩
  | .hbm, ⟨46, _⟩ => ⟨S8192x32, .f32⟩
  | .hbm, ⟨47, _⟩ => ⟨S8192x32, .f32⟩
  | .hbm, ⟨48, _⟩ => ⟨S8192x128, .f32⟩
  | .hbm, ⟨49, _⟩ => ⟨S8192x1024, .bf16⟩
  | .hbm, ⟨50, _⟩ => ⟨S8192x512, .bf16⟩
  | .hbm, ⟨51, _⟩ => ⟨S8192x512, .f32⟩
  | .hbm, ⟨52, _⟩ => ⟨S8192x1024, .bf16⟩
  | .hbm, ⟨53, _⟩ => ⟨S8192x1024, .bf16⟩
  | .hbm, ⟨54, _⟩ => ⟨S8192x1024, .bf16⟩
  | .hbm, ⟨55, _⟩ => ⟨S8192x128, .bf16⟩
  | .hbm, ⟨56, _⟩ => ⟨S8192x128, .bf16⟩
  | .hbm, ⟨57, _⟩ => ⟨S8192x1024, .bf16⟩
  | .hbm, ⟨58, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S6400x1024, .bf16⟩
  | .local _ .vmem, ⟨4, _⟩ => ⟨S1x6400, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x1024, .bf16⟩
  | .local _ .vmem, ⟨14, _⟩ => ⟨S512x1024, .bf16⟩
  | .local _ .vmem, ⟨15, _⟩ => ⟨S512x512, .bf16⟩
  | .local _ .vmem, ⟨16, _⟩ => ⟨S512x512, .bf16⟩
  | .local _ .vmem, ⟨17, _⟩ => ⟨S512x512, .f32⟩
  | .local _ .vmem, ⟨18, _⟩ => ⟨S512x512, .f32⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x128, .bf16⟩
  | .local _ .vmem, ⟨26, _⟩ => ⟨S512x128, .bf16⟩
  | .local _ .vmem, ⟨27, _⟩ => ⟨S512x128, .bf16⟩
  | .local _ .vmem, ⟨28, _⟩ => ⟨S512x128, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40_0 : Ref sig .tc := ⟨.hbm, 49, rfl⟩
abbrev main_v40_1 : Ref sig .tc := ⟨.hbm, 50, rfl⟩
abbrev main_v40_2 : Ref sig .tc := ⟨.hbm, 51, rfl⟩
abbrev main_v40_3 : Ref sig .tc := ⟨.hbm, 52, rfl⟩
abbrev main_v40_4 : Ref sig .tc := ⟨.hbm, 53, rfl⟩
abbrev main_v40_5 : Ref sig .tc := ⟨.hbm, 54, rfl⟩
abbrev main_v40_6 : Ref sig .tc := ⟨.hbm, 55, rfl⟩
abbrev main_v40_7 : Ref sig .tc := ⟨.hbm, 56, rfl⟩
abbrev main_v40_8 : Ref sig .tc := ⟨.hbm, 57, rfl⟩
abbrev main_v40_9 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6400x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6400 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference6Ideal.lean ====
abbrev S8192x1024 : Shape := ⟨2, ![8192, 1024]⟩
abbrev S1x1024 : Shape := ⟨2, ![1, 1024]⟩
abbrev S6400x1024 : Shape := ⟨2, ![6400, 1024]⟩
abbrev S1x6400 : Shape := ⟨2, ![1, 6400]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x6400 : Shape := ⟨2, ![1024, 6400]⟩
abbrev S8192x6400 : Shape := ⟨2, ![8192, 6400]⟩
abbrev S6400 : Shape := ⟨1, ![6400]⟩
abbrev S8192x512 : Shape := ⟨2, ![8192, 512]⟩
abbrev S8192x128 : Shape := ⟨2, ![8192, 128]⟩
abbrev S8192x4x128 : Shape := ⟨3, ![8192, 4, 128]⟩
abbrev S64 : Shape := ⟨1, ![64]⟩
abbrev S1x64 : Shape := ⟨2, ![1, 64]⟩
abbrev S8192x64 : Shape := ⟨2, ![8192, 64]⟩
abbrev S8192x1x64 : Shape := ⟨3, ![8192, 1, 64]⟩
abbrev S8192x4x64 : Shape := ⟨3, ![8192, 4, 64]⟩
abbrev S8192x16x64 : Shape := ⟨3, ![8192, 16, 64]⟩
abbrev S32 : Shape := ⟨1, ![32]⟩
abbrev S1x32 : Shape := ⟨2, ![1, 32]⟩
abbrev S8192x32 : Shape := ⟨2, ![8192, 32]⟩
abbrev S8192x1x32 : Shape := ⟨3, ![8192, 1, 32]⟩
abbrev S8192x16x32 : Shape := ⟨3, ![8192, 16, 32]⟩
abbrev S8192x2x64 : Shape := ⟨3, ![8192, 2, 64]⟩
abbrev S8192x2x32 : Shape := ⟨3, ![8192, 2, 32]⟩

abbrev nBuf : Space → Nat
  | .hbm => 199
  | .vmem => 0
  | .smem => 0
  | _ => 0

abbrev hbmTy0_0 (i : Nat) : BufTy := match i % 128 with
  | 0 => ⟨S8192x1024, .f32⟩
  | 1 => ⟨S1x1024, .f32⟩
  | 2 => ⟨S6400x1024, .bf16⟩
  | 3 => ⟨S1x6400, .f32⟩
  | 4 => ⟨S1024, .f32⟩
  | 5 => ⟨S8192x1024, .f32⟩
  | 6 => ⟨S_, .f32⟩
  | 7 => ⟨S8192, .f32⟩
  | 8 => ⟨S8192x1, .f32⟩
  | 9 => ⟨S_, .f32⟩
  | 10 => ⟨S8192x1, .f32⟩
  | 11 => ⟨S8192x1, .f32⟩
  | 12 => ⟨S_, .f32⟩
  | 13 => ⟨S8192x1, .f32⟩
  | 14 => ⟨S8192x1, .f32⟩
  | 15 => ⟨S8192x1, .f32⟩
  | 16 => ⟨S8192x1024, .f32⟩
  | 17 => ⟨S8192x1024, .f32⟩
  | 18 => ⟨S1x1024, .f32⟩
  | 19 => ⟨S8192x1024, .f32⟩
  | 20 => ⟨S8192x1024, .f32⟩
  | 21 => ⟨S6400x1024, .f32⟩
  | 22 => ⟨S1024x6400, .f32⟩
  | 23 => ⟨S1024, .f32⟩
  | 24 => ⟨S8192x1024, .f32⟩
  | 25 => ⟨S_, .f32⟩
  | 26 => ⟨S8192, .f32⟩
  | 27 => ⟨S8192x1, .f32⟩
  | 28 => ⟨S_, .f32⟩
  | 29 => ⟨S8192x1, .f32⟩
  | 30 => ⟨S8192x1, .f32⟩
  | 31 => ⟨S_, .f32⟩
  | 32 => ⟨S8192x1, .f32⟩
  | 33 => ⟨S8192x1, .f32⟩
  | 34 => ⟨S8192x1, .f32⟩
  | 35 => ⟨S8192x1024, .f32⟩
  | 36 => ⟨S8192x1024, .f32⟩
  | 37 => ⟨S1x1024, .f32⟩
  | 38 => ⟨S8192x1024, .f32⟩
  | 39 => ⟨S8192x1024, .f32⟩
  | 40 => ⟨S8192x6400, .f32⟩
  | 41 => ⟨S6400, .f32⟩
  | 42 => ⟨S1x6400, .f32⟩
  | 43 => ⟨S8192x6400, .f32⟩
  | 44 => ⟨S8192x6400, .f32⟩
  | 45 => ⟨S8192x512, .f32⟩
  | 46 => ⟨S8192x512, .f32⟩
  | 47 => ⟨S8192x1024, .f32⟩
  | 48 => ⟨S8192x1024, .f32⟩
  | 49 => ⟨S8192x1024, .f32⟩
  | 50 => ⟨S8192x128, .f32⟩
  | 51 => ⟨S8192x128, .f32⟩
  | 52 => ⟨S8192x1024, .f32⟩
  | 53 => ⟨S8192x1024, .f32⟩
  | 54 => ⟨S8192, .i32⟩
  | 55 => ⟨S8192x4x128, .f32⟩
  | 56 => ⟨S64, .f32⟩
  | 57 => ⟨S64, .f32⟩
  | 58 => ⟨S_, .f32⟩
  | 59 => ⟨S64, .f32⟩
  | 60 => ⟨S64, .f32⟩
  | 61 => ⟨S_, .f32⟩
  | 62 => ⟨S64, .f32⟩
  | 63 => ⟨S64, .f32⟩
  | 64 => ⟨S8192, .f32⟩
  | 65 => ⟨S8192x1, .f32⟩
  | 66 => ⟨S1x64, .f32⟩
  | 67 => ⟨S8192x64, .f32⟩
  | 68 => ⟨S8192x64, .f32⟩
  | 69 => ⟨S8192x64, .f32⟩
  | 70 => ⟨S8192x64, .f32⟩
  | 71 => ⟨S8192x1x64, .f32⟩
  | 72 => ⟨S8192x64, .f32⟩
  | 73 => ⟨S8192x1x64, .f32⟩
  | 74 => ⟨S8192x4x64, .f32⟩
  | 75 => ⟨S8192x4x64, .f32⟩
  | 76 => ⟨S8192x4x64, .f32⟩
  | 77 => ⟨S8192x4x64, .f32⟩
  | 78 => ⟨S8192x4x64, .f32⟩
  | 79 => ⟨S8192x4x64, .f32⟩
  | 80 => ⟨S8192x4x64, .f32⟩
  | 81 => ⟨S8192x4x64, .f32⟩
  | 82 => ⟨S8192x4x64, .f32⟩
  | 83 => ⟨S8192x4x64, .f32⟩
  | 84 => ⟨S8192x4x64, .f32⟩
  | 85 => ⟨S8192x4x64, .f32⟩
  | 86 => ⟨S8192x4x128, .f32⟩
  | 87 => ⟨S8192x512, .f32⟩
  | 88 => ⟨S_, .f32⟩
  | 89 => ⟨S8192x512, .f32⟩
  | 90 => ⟨S8192x512, .f32⟩
  | 91 => ⟨S8192x4x128, .f32⟩
  | 92 => ⟨S64, .f32⟩
  | 93 => ⟨S64, .f32⟩
  | 94 => ⟨S_, .f32⟩
  | 95 => ⟨S64, .f32⟩
  | 96 => ⟨S64, .f32⟩
  | 97 => ⟨S_, .f32⟩
  | 98 => ⟨S64, .f32⟩
  | 99 => ⟨S64, .f32⟩
  | 100 => ⟨S8192, .f32⟩
  | 101 => ⟨S8192x1, .f32⟩
  | 102 => ⟨S1x64, .f32⟩
  | 103 => ⟨S8192x64, .f32⟩
  | 104 => ⟨S8192x64, .f32⟩
  | 105 => ⟨S8192x64, .f32⟩
  | 106 => ⟨S8192x64, .f32⟩
  | 107 => ⟨S8192x1x64, .f32⟩
  | 108 => ⟨S8192x64, .f32⟩
  | 109 => ⟨S8192x1x64, .f32⟩
  | 110 => ⟨S8192x4x64, .f32⟩
  | 111 => ⟨S8192x4x64, .f32⟩
  | 112 => ⟨S8192x4x64, .f32⟩
  | 113 => ⟨S8192x4x64, .f32⟩
  | 114 => ⟨S8192x4x64, .f32⟩
  | 115 => ⟨S8192x4x64, .f32⟩
  | 116 => ⟨S8192x4x64, .f32⟩
  | 117 => ⟨S8192x4x64, .f32⟩
  | 118 => ⟨S8192x4x64, .f32⟩
  | 119 => ⟨S8192x4x64, .f32⟩
  | 120 => ⟨S8192x4x64, .f32⟩
  | 121 => ⟨S8192x4x64, .f32⟩
  | 122 => ⟨S8192x4x128, .f32⟩
  | 123 => ⟨S8192x512, .f32⟩
  | 124 => ⟨S8192x16x64, .f32⟩
  | 125 => ⟨S32, .f32⟩
  | 126 => ⟨S32, .f32⟩
  | 127 => ⟨S_, .f32⟩
  | _ => ⟨S8192x1024, .f32⟩

abbrev hbmTy0_1 (i : Nat) : BufTy := match i % 128 with
  | 0 => ⟨S32, .f32⟩
  | 1 => ⟨S32, .f32⟩
  | 2 => ⟨S_, .f32⟩
  | 3 => ⟨S32, .f32⟩
  | 4 => ⟨S32, .f32⟩
  | 5 => ⟨S8192, .f32⟩
  | 6 => ⟨S8192x1, .f32⟩
  | 7 => ⟨S1x32, .f32⟩
  | 8 => ⟨S8192x32, .f32⟩
  | 9 => ⟨S8192x32, .f32⟩
  | 10 => ⟨S8192x32, .f32⟩
  | 11 => ⟨S8192x32, .f32⟩
  | 12 => ⟨S8192x1x32, .f32⟩
  | 13 => ⟨S8192x32, .f32⟩
  | 14 => ⟨S8192x1x32, .f32⟩
  | 15 => ⟨S8192x16x32, .f32⟩
  | 16 => ⟨S8192x16x32, .f32⟩
  | 17 => ⟨S8192x16x32, .f32⟩
  | 18 => ⟨S8192x16x32, .f32⟩
  | 19 => ⟨S8192x16x32, .f32⟩
  | 20 => ⟨S8192x16x32, .f32⟩
  | 21 => ⟨S8192x16x32, .f32⟩
  | 22 => ⟨S8192x16x32, .f32⟩
  | 23 => ⟨S8192x16x32, .f32⟩
  | 24 => ⟨S8192x16x32, .f32⟩
  | 25 => ⟨S8192x16x32, .f32⟩
  | 26 => ⟨S8192x16x32, .f32⟩
  | 27 => ⟨S8192x16x64, .f32⟩
  | 28 => ⟨S8192x1024, .f32⟩
  | 29 => ⟨S8192x2x64, .f32⟩
  | 30 => ⟨S32, .f32⟩
  | 31 => ⟨S32, .f32⟩
  | 32 => ⟨S_, .f32⟩
  | 33 => ⟨S32, .f32⟩
  | 34 => ⟨S32, .f32⟩
  | 35 => ⟨S_, .f32⟩
  | 36 => ⟨S32, .f32⟩
  | 37 => ⟨S32, .f32⟩
  | 38 => ⟨S8192, .f32⟩
  | 39 => ⟨S8192x1, .f32⟩
  | 40 => ⟨S1x32, .f32⟩
  | 41 => ⟨S8192x32, .f32⟩
  | 42 => ⟨S8192x32, .f32⟩
  | 43 => ⟨S8192x32, .f32⟩
  | 44 => ⟨S8192x32, .f32⟩
  | 45 => ⟨S8192x1x32, .f32⟩
  | 46 => ⟨S8192x32, .f32⟩
  | 47 => ⟨S8192x1x32, .f32⟩
  | 48 => ⟨S8192x2x32, .f32⟩
  | 49 => ⟨S8192x2x32, .f32⟩
  | 50 => ⟨S8192x2x32, .f32⟩
  | 51 => ⟨S8192x2x32, .f32⟩
  | 52 => ⟨S8192x2x32, .f32⟩
  | 53 => ⟨S8192x2x32, .f32⟩
  | 54 => ⟨S8192x2x32, .f32⟩
  | 55 => ⟨S8192x2x32, .f32⟩
  | 56 => ⟨S8192x2x32, .f32⟩
  | 57 => ⟨S8192x2x32, .f32⟩
  | 58 => ⟨S8192x2x32, .f32⟩
  | 59 => ⟨S8192x2x32, .f32⟩
  | 60 => ⟨S8192x2x64, .f32⟩
  | 61 => ⟨S8192x128, .f32⟩
  | 62 => ⟨S8192x1024, .bf16⟩
  | 63 => ⟨S8192x512, .bf16⟩
  | 64 => ⟨S8192x1024, .bf16⟩
  | 65 => ⟨S8192x1024, .bf16⟩
  | 66 => ⟨S8192x1024, .bf16⟩
  | 67 => ⟨S8192x128, .bf16⟩
  | 68 => ⟨S8192x128, .bf16⟩
  | 69 => ⟨S8192x1024, .bf16⟩
  | 70 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_5 : Ref sig .tc := ⟨.hbm, 58, rfl⟩
abbrev main_v48 : Ref sig .tc := ⟨.hbm, 59, rfl⟩
abbrev main_v49 : Ref sig .tc := ⟨.hbm, 60, rfl⟩
abbrev main_cst_6 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_cst_7 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_cst_8 : Ref sig .tc := ⟨.hbm, 94, rfl⟩
abbrev main_v81 : Ref sig .tc := ⟨.hbm, 95, rfl⟩
abbrev main_v82 : Ref sig .tc := ⟨.hbm, 96, rfl⟩
abbrev main_cst_9 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_cst_10 : Ref sig .tc := ⟨.hbm, 127, rfl⟩
abbrev main_v112 : Ref sig .tc := ⟨.hbm, 128, rfl⟩
abbrev main_v113 : Ref sig .tc := ⟨.hbm, 129, rfl⟩
abbrev main_cst_11 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_cst_12 : Ref sig .tc := ⟨.hbm, 160, rfl⟩
abbrev main_v143 : Ref sig .tc := ⟨.hbm, 161, rfl⟩
abbrev main_v144 : Ref sig .tc := ⟨.hbm, 162, rfl⟩
abbrev main_cst_13 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩

abbrev nD : Nat := 1
abbrev τ : Topo := Topo.v7x

variable {F : FTy → Type} [FloatOps F]
-- ==== Proof.Scalars.lean ====
/- Scalars: the extended-real facts the two programs' arithmetic is compared by: which values are real
   numbers, the logistic function in its two spellings, and the RMS/group normalisations. -/
module

public import Idealize.ShloMosaic.PureOps
public import Idealize.ShloMosaic.Lib.IdealHost
public import Idealize.ShloMosaic.Lib.Pointwise
public import Mathlib.Tactic.Ring
public import Mathlib.Tactic.FieldSimp
public import Mathlib.Tactic.Positivity
public import Mathlib.Tactic.Linarith
public import Mathlib.Tactic.NormNum
public import Mathlib.Tactic.LinearCombination

@[expose] public section

noncomputable section

namespace Cert.Scalars

open Idealize.ShloMosaic
open scoped BigOperators

/-! ### Real values -/

/-- `x` is a real number (neither infinity). -/
def IsReal (x : EReal) : Prop := ∃ r : ℝ, x = (r : EReal)

/-- A real number is real. -/
theorem isReal_coe (r : ℝ) : IsReal (r : EReal) := ⟨r, rfl⟩

/-- A sum of coerced reals is the coerced sum. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Zero is real. -/
theorem isReal_zero : IsReal 0 := ⟨0, rfl⟩
/-- One is real. -/
theorem isReal_one : IsReal 1 := ⟨1, rfl⟩

/-- Sums of reals are real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- Differences of reals are real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- Products of reals are real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals is real. -/
theorem isReal_sum {ι : Type*} (s : Finset ι) (f : ι → EReal) (h : ∀ i, IsReal (f i)) : IsReal (∑ i ∈ s, f i) := by
  choose g hg using h
  exact ⟨∑ i ∈ s, g i, by rw [← sum_coe]; exact Finset.sum_congr rfl fun i _ => hg i⟩

/-- A value whose absolute value lies below the upper infinity is real. -/
theorem isReal_of_abs_lt {x : EReal} (h1 : x ≠ ⊤) (h2 : x ≠ ⊥) : IsReal x := by
  induction x with
  | bot => exact absurd rfl h2
  | top => exact absurd rfl h1
  | coe r => exact ⟨r, rfl⟩

/-! ### Bit patterns -/

/-- The f32 pattern `0x3F000000` is one half. -/
theorem ofBits_half : Ideal.ofBits .f32 0x3F000000#32 = (((1 : ℝ) / 2 : ℝ) : EReal) := by
  simp [Ideal.ofBits, Ideal.ieee, -EReal.coe_mul]; norm_num

/-- The f32 pattern `0xBF000000` is minus one half. -/
theorem ofBits_neg_half : Ideal.ofBits .f32 0xBF000000#32 = ((-((1 : ℝ) / 2) : ℝ) : EReal) := by
  simp [Ideal.ofBits, Ideal.ieee, -EReal.coe_mul]; norm_num

/-- The f32 pattern `0x43800000` is 256. -/
theorem ofBits_256 : Ideal.ofBits .f32 0x43800000#32 = ((256 : ℝ) : EReal) := by
  simp [Ideal.ofBits, Ideal.ieee, -EReal.coe_mul]; norm_num

/-- The f32 pattern `0x44800000` is 1024. -/
theorem ofBits_1024 : Ideal.ofBits .f32 0x44800000#32 = ((1024 : ℝ) : EReal) := by
  simp [Ideal.ofBits, Ideal.ieee, -EReal.coe_mul]; norm_num

/-- The f32 pattern nearest to one millionth is a positive real. -/
theorem ofBits_eps : ∃ e : ℝ, 0 < e ∧ Ideal.ofBits .f32 0x358637BD#32 = (e : EReal) := by
  refine ⟨_, ?_, by simp only [Ideal.ofBits, Ideal.ieee]; simp [-EReal.coe_mul]; rfl⟩
  norm_num

/-- Division by a nonzero real, of a real. -/
theorem div_coe_coe (x y : ℝ) (h : y ≠ 0) : Ideal.div (x : EReal) (y : EReal) = ((x / y : ℝ) : EReal) := by
  rw [Ideal.div_coe h, ← EReal.coe_mul]; congr 1; ring

/-! ### The logistic function -/

/-- The logistic function as `1 / (1 + exp (-x))`. -/
def sg (x : EReal) : EReal := Ideal.div 1 (1 + Ideal.exp (-x))

/-- The real logistic function. -/
def rsg (x : ℝ) : ℝ := 1 / (1 + Real.exp (-x))

/-- At a real number the logistic function is the real one. -/
theorem sg_coe (x : ℝ) : sg (x : EReal) = ((rsg x : ℝ) : EReal) := by
  unfold sg rsg
  rw [← EReal.coe_neg, Ideal.exp_coe, ← EReal.coe_one, ← EReal.coe_add, div_coe_coe]
  positivity

/-- The logistic function's value at the lower infinity is zero. -/
theorem sg_bot : sg ⊥ = 0 := by
  unfold sg
  rw [EReal.neg_bot, Ideal.exp_top, ← EReal.coe_one, EReal.coe_add_top, Ideal.div, if_neg EReal.top_ne_zero, EReal.inv_top, mul_zero]

/-- The logistic function's value at the upper infinity is one. -/
theorem sg_top : sg ⊤ = 1 := by
  unfold sg
  rw [EReal.neg_top, Ideal.exp_bot, add_zero, ← EReal.coe_one, div_coe_coe _ _ one_ne_zero, div_one]

/-- The logistic function is real everywhere. -/
theorem isReal_sg (x : EReal) : IsReal (sg x) := by
  induction x with
  | bot => rw [sg_bot]; exact isReal_zero
  | top => rw [sg_top]; exact isReal_one
  | coe r => rw [sg_coe]; exact isReal_coe _

/-- The logistic function through the hyperbolic tangent. -/
theorem half_tanh (x : EReal) :
    Ideal.ofBits .f32 0x3F000000#32 * Ideal.tanh (Ideal.ofBits .f32 0x3F000000#32 * x) + Ideal.ofBits .f32 0x3F000000#32 = sg x := by
  rw [ofBits_half]
  have hp : (0 : ℝ) < 1 / 2 := by norm_num
  induction x with
  | bot =>
    rw [EReal.coe_mul_bot_of_pos hp, sg_bot, Ideal.tanh_bot, show (-1 : EReal) = ((-1 : ℝ) : EReal) by rw [EReal.coe_neg, EReal.coe_one],
      ← EReal.coe_mul, ← EReal.coe_add]
    norm_num
  | top =>
    rw [EReal.coe_mul_top_of_pos hp, sg_top, Ideal.tanh_top, ← EReal.coe_one, ← EReal.coe_mul, ← EReal.coe_add]
    norm_num
  | coe r =>
    rw [← EReal.coe_mul, Ideal.tanh_coe, ← EReal.coe_mul, ← EReal.coe_add, sg_coe]
    congr 1
    have h2 : Real.exp (-r) = (Real.exp (-(1 / 2 * r))) ^ 2 := by rw [← Real.exp_nat_mul]; congr 1; push_cast; ring
    have h3 : Real.exp (1 / 2 * r) = (Real.exp (-(1 / 2 * r)))⁻¹ := by rw [← Real.exp_neg]; congr 1; ring
    have hpos := Real.exp_pos (-(1 / 2 * r))
    unfold rsg
    rw [Real.tanh_eq_sinh_div_cosh, Real.sinh_eq, Real.cosh_eq, h2, h3]
    generalize Real.exp (-(1 / 2 * r)) = e at hpos
    have h1 : 0 < 1 + e ^ 2 := by positivity
    have h4 : 0 < e⁻¹ + e := by positivity
    field_simp
    ring

/-! ### The normalisation of a head's 256 lanes, and its gradient -/

/-- The mean of 256 lanes. -/
def gmean (y : Fin 256 → EReal) : EReal := Ideal.div (∑ k, y k) (Ideal.ofBits .f32 0x43800000#32)

/-- The lanes less their mean. -/
def gcen (y : Fin 256 → EReal) (l : Fin 256) : EReal := y l - gmean y

/-- The variance plus the small constant. -/
def gve (y : Fin 256 → EReal) : EReal := gmean (fun k => gcen y k * gcen y k) + Ideal.ofBits .f32 0x358637BD#32

/-- The reciprocal standard deviation. -/
def grstd (y : Fin 256 → EReal) : EReal := Ideal.rsqrt (gve y)

/-- The normalised lanes. -/
def gyn (y : Fin 256 → EReal) (l : Fin 256) : EReal := gcen y l * grstd y

/-- The mean of real lanes. -/
theorem gmean_coe (y : Fin 256 → ℝ) : gmean (fun k => (y k : EReal)) = (((∑ k, y k) / 256 : ℝ) : EReal) := by
  unfold gmean; rw [sum_coe, ofBits_256, div_coe_coe _ _ (by norm_num)]

/-- The mean of real lanes is real. -/
theorem isReal_gmean {y : Fin 256 → EReal} (h : ∀ k, IsReal (y k)) : IsReal (gmean y) := by
  choose r hr using h
  rw [show y = fun k => (r k : EReal) from funext hr, gmean_coe]; exact isReal_coe _

/-- The statistics of real lanes: real centred lanes `c` that sum to zero, and a real reciprocal deviation `s` whose
    square is the reciprocal of variance plus constant. -/
theorem gnorm_real {y : Fin 256 → EReal} (h : ∀ k, IsReal (y k)) :
    ∃ (c : Fin 256 → ℝ) (s : ℝ) (v : ℝ), (∀ l, gcen y l = (c l : EReal)) ∧ grstd y = (s : EReal) ∧ gve y = (v : EReal)
      ∧ v ≠ 0 ∧ s * s * v = 1 ∧ ∑ k, c k = 0 := by
  choose r hr using h
  obtain rfl : y = fun k => (r k : EReal) := funext hr
  obtain ⟨e, he, hE⟩ := ofBits_eps
  have hc : ∀ l, gcen (fun k => (r k : EReal)) l = ((r l - (∑ k, r k) / 256 : ℝ) : EReal) := fun l => by
    unfold gcen; rw [gmean_coe, EReal.coe_sub]
  have hv : gve (fun k => (r k : EReal))
      = (((∑ l, (r l - (∑ k, r k) / 256) * (r l - (∑ k, r k) / 256)) / 256 + e : ℝ) : EReal) := by
    unfold gve
    simp only [hc, ← EReal.coe_mul]
    rw [gmean_coe, hE, ← EReal.coe_add]
  set v := (∑ l, (r l - (∑ k, r k) / 256) * (r l - (∑ k, r k) / 256)) / 256 + e with hvd
  have hpos : 0 < v := by
    have : 0 ≤ ∑ l, (r l - (∑ k, r k) / 256) * (r l - (∑ k, r k) / 256) := Finset.sum_nonneg fun l _ => mul_self_nonneg _
    positivity
  refine ⟨_, (Real.sqrt v)⁻¹, v, hc, ?_, hv, hpos.ne', ?_, ?_⟩
  · unfold grstd
    rw [hv, Ideal.rsqrt_coe, if_neg hpos.le.not_gt, if_neg hpos.ne']
  · have := Real.mul_self_sqrt hpos.le
    have h0 : Real.sqrt v ≠ 0 := (Real.sqrt_pos.2 hpos).ne'
    field_simp
    nlinarith
  · rw [Finset.sum_sub_distrib]; simp; ring

/-- The normalised lanes of real lanes are real. -/
theorem isReal_gyn {y : Fin 256 → EReal} (h : ∀ k, IsReal (y k)) (l : Fin 256) : IsReal (gyn y l) := by
  obtain ⟨c, s, v, hc, hs, -⟩ := gnorm_real h
  unfold gyn; rw [hc, hs]; exact (isReal_coe _).mul (isReal_coe _)

/-- The gradient of the normalisation in closed form: what a cotangent `d` of the normalised lanes gives the lanes. -/
def gnormBwd (y d : Fin 256 → EReal) (l : Fin 256) : EReal :=
  grstd y * ((d l - gmean d) - gyn y l * gmean (fun k => d k * gyn y k))

/-- The gradient of the normalisation as the chain rule composes it: through the reciprocal deviation, the variance
    (both of its factors) and the mean. -/
def gnormVjp (y d : Fin 256 → EReal) (l : Fin 256) : EReal :=
  let w := Ideal.div ((∑ k, gcen y k * d k) * (Ideal.ofBits .f32 0xBF000000#32 * Ideal.div (grstd y) (gve y))) (Ideal.ofBits .f32 0x43800000#32)
  let g := fun k => (d k * grstd y + gcen y k * w) + w * gcen y k
  g l + Ideal.div (∑ k, -(g k)) (Ideal.ofBits .f32 0x43800000#32)

/-- Of real lanes and a real cotangent the two agree. -/
theorem gnormVjp_eq {y d : Fin 256 → EReal} (hy : ∀ k, IsReal (y k)) (hd : ∀ k, IsReal (d k)) (l : Fin 256) :
    gnormVjp y d l = gnormBwd y d l := by
  obtain ⟨c, s, v, hc, hs, hv, hv0, hsv, hc0⟩ := gnorm_real hy
  choose r hr using hd
  obtain rfl : d = fun k => (r k : EReal) := funext hr
  unfold gnormVjp gnormBwd gyn
  simp only [hc, hs, hv, ofBits_neg_half, ofBits_256, ← EReal.coe_mul, div_coe_coe _ _ hv0, sum_coe, gmean_coe,
    div_coe_coe _ _ (show (256 : ℝ) ≠ 0 by norm_num), ← EReal.coe_add, ← EReal.coe_sub, ← EReal.coe_neg]
  congr 1
  have hA : ∑ k, r k * (c k * s) = (∑ k, c k * r k) * s := by
    rw [Finset.sum_mul]; exact Finset.sum_congr rfl fun k _ => by ring
  have hw : s / v = s * s * s := by
    rw [div_eq_iff hv0]; linear_combination (-s) * hsv
  have hB : ∀ w : ℝ, ∑ k, -((r k * s + c k * w) + w * c k) = -((∑ k, r k) * s) := fun w => by
    have : ∀ k, -((r k * s + c k * w) + w * c k) = -(r k * s) + c k * (-2 * w) := fun k => by ring
    simp only [this]
    rw [Finset.sum_add_distrib, ← Finset.sum_mul, hc0, zero_mul, add_zero, Finset.sum_neg_distrib, Finset.sum_mul]
  rw [hA, hB, hw]
  ring

/-! ### The gate `x · σ(x)` and its derivative -/

/-- The derivative of `x · σ(x)` against a real cotangent: `σ + x · (σ (1 - σ))` regrouped. -/
theorem silu_bwd {d x : EReal} (hd : IsReal d) (hx : IsReal x) :
    d * sg x + (x * d) * (sg x * (1 - sg x)) = d * (sg x * (1 + x * (1 - sg x))) := by
  obtain ⟨a, rfl⟩ := hd; obtain ⟨b, rfl⟩ := hx
  rw [sg_coe, ← EReal.coe_one]
  simp only [← EReal.coe_mul, ← EReal.coe_add, ← EReal.coe_sub]
  congr 1; ring

end Cert.Scalars
-- ==== Proof.MergeSpec.lean ====
/- MergeSpec: the gradient of the gated merge of one row, as functions of that row's operands. Both programs compute it
   row by row; each module about a program says what it leaves at a row in these words. -/
module

public import proofs.«01_k».proof.Proof.Scalars

@[expose] public section

noncomputable section

namespace Cert.Merge

open Idealize.ShloMosaic Cert.Scalars
open scoped BigOperators

/-- One row's operands: the cotangent `dx`, the two gates, the gated retention output `u`, the attention output `ay`, the
    retention gate `rg`, the retention output `ry`, and what every row shares: the norm's gain `g` and the weights. -/
structure MRow where
  /-- the cotangent of the merged projection -/
  dx : Fin 1024 → EReal
  /-- the retention branch's gate -/
  ga : Fin 1024 → EReal
  /-- the attention branch's gate -/
  gb : Fin 1024 → EReal
  /-- the gated, normalised retention output -/
  u : Fin 1024 → EReal
  /-- the attention output -/
  ay : Fin 1024 → EReal
  /-- the retention output's gate -/
  rg : Fin 1024 → EReal
  /-- the retention output -/
  ry : Fin 1024 → EReal
  /-- the norm's gain -/
  g : Fin 1024 → EReal
  /-- the retention branch's projection -/
  wr : Fin 1024 → Fin 1024 → EReal
  /-- the attention branch's projection -/
  wa : Fin 1024 → Fin 1024 → EReal
  /-- the merged projection -/
  wo : Fin 1024 → Fin 1024 → EReal

/-- Lane `l` of the 256-lane head that column `k` lies in. -/
def hd (k : Fin 1024) (l : Fin 256) : Fin 1024 := ⟨k.val / 256 * 256 + l.val, by omega⟩

/-- Column `k`'s lane within its head. -/
def ln (k : Fin 1024) : Fin 256 := ⟨k.val % 256, by omega⟩

/-- A column is its head's lane. -/
theorem hd_ln (k : Fin 1024) : hd k (ln k) = k := Fin.ext (by simp only [hd, ln]; omega)

namespace MRow

variable (q : MRow)

/-- The cotangent of the merged sum. -/
def dm (k : Fin 1024) : EReal := ∑ j, q.dx j * q.wo k j
/-- The retention branch's projected output. -/
def ba (k : Fin 1024) : EReal := ∑ j, q.u j * q.wr j k
/-- The attention branch's projected output. -/
def bb (k : Fin 1024) : EReal := ∑ j, q.ay j * q.wa j k
/-- The retention gate's gradient. -/
def dga (k : Fin 1024) : EReal := q.dm k * q.ba k * (sg (q.ga k) * (1 - sg (q.ga k)))
/-- The attention gate's gradient. -/
def dgb (k : Fin 1024) : EReal := q.dm k * q.bb k * (sg (q.gb k) * (1 - sg (q.gb k)))
/-- The cotangent of the retention branch's projected output. -/
def dba (k : Fin 1024) : EReal := q.dm k * sg (q.ga k)
/-- The cotangent of the attention branch's projected output. -/
def dbb (k : Fin 1024) : EReal := q.dm k * sg (q.gb k)
/-- The attention output's gradient. -/
def day (k : Fin 1024) : EReal := ∑ j, q.dbb j * q.wa k j
/-- The cotangent of the gated, normalised retention output. -/
def du (k : Fin 1024) : EReal := ∑ j, q.dba j * q.wr k j
/-- The normalised retention output. -/
def yn (k : Fin 1024) : EReal := gyn (fun l => q.ry (hd k l)) (ln k)
/-- The retention gate's gradient. -/
def drg (k : Fin 1024) : EReal := q.du k * (q.yn k * q.g k) * (sg (q.rg k) * (1 + q.rg k * (1 - sg (q.rg k))))
/-- The cotangent of the scaled, normalised retention output. -/
def dyg (k : Fin 1024) : EReal := q.du k * (q.rg k * sg (q.rg k))
/-- The row's part of the gain's gradient. -/
def dgr (k : Fin 1024) : EReal := q.dyg k * q.yn k
/-- The retention output's gradient. -/
def dry (k : Fin 1024) : EReal := gnormBwd (fun l => q.ry (hd k l)) (fun l => q.dyg (hd k l) * q.g (hd k l)) (ln k)

/-- The two gates' gradients beside each other. -/
def dgates (k : Fin 2048) : EReal := if h : k.val < 1024 then q.dga ⟨k.val, h⟩ else q.dgb ⟨k.val - 1024, by omega⟩

/-- The operands the gradient is real at. -/
structure Real : Prop where
  /-- the cotangent is real -/
  dx : ∀ k, IsReal (q.dx k)
  /-- the retention output's gate is real -/
  rg : ∀ k, IsReal (q.rg k)
  /-- the retention output is real -/
  ry : ∀ k, IsReal (q.ry k)
  /-- the gain is real -/
  g : ∀ k, IsReal (q.g k)
  /-- the retention branch's projection is real -/
  wr : ∀ j k, IsReal (q.wr j k)
  /-- the merged projection is real -/
  wo : ∀ j k, IsReal (q.wo j k)

variable {q}

/-- Of real operands, the cotangent of the gated retention output is real. -/
theorem Real.du (h : q.Real) (k : Fin 1024) : IsReal (q.du k) :=
  isReal_sum _ _ fun j => ((isReal_sum _ _ fun i => (h.dx i).mul (h.wo j i)).mul (isReal_sg _)).mul (h.wr k j)

/-- Of real operands, the normalised retention output is real. -/
theorem Real.yn (h : q.Real) (k : Fin 1024) : IsReal (q.yn k) := isReal_gyn (fun _ => h.ry _) _

/-- Of real operands, the cotangent of the scaled output is real. -/
theorem Real.dyg (h : q.Real) (k : Fin 1024) : IsReal (q.dyg k) := (h.du k).mul ((h.rg k).mul (isReal_sg _))

end MRow

end Cert.Merge
-- ==== Proof.MergeTiles.lean ====
/- MergeTiles: what the kernel's stored values are at a row of a block, in MergeSpec's words. The four heads are stored
   by separate pieces of the body; each is one of three tile functions at its own 256 lanes. -/
module

public import proofs.«01_k».proof.Proof.MergeSpec
public import proofs.«01_k».proof.Proof.Gen.KernelIdeal.Skeleton

@[expose] public section

set_option maxRecDepth 16384

noncomputable section

namespace Cert.Merge.Ker

open Cert.KernelIdeal Cert.KernelIdeal.Gen Cert.Scalars
open Idealize.ShloMosaic Idealize.ShloMosaic.TcCoe Idealize.SL.Sem
open scoped BigOperators

/-- The operands of row `i` of a block. -/
def blkRow (b0 : FVec Ideal S512x1024 .f32) (b1 b2 b3 b4 b5 b6 : FVec Ideal S512x1024 .bf16) (b7 : FVec Ideal S1x1024 .f32)
    (b8 b9 b10 : FVec Ideal S1024x1024 .bf16) (i : Fin 512) : MRow where
  dx k := b0 (ix2 i k)
  ga k := b1 (ix2 i k)
  gb k := b2 (ix2 i k)
  u k := b3 (ix2 i k)
  ay k := b4 (ix2 i k)
  rg k := b5 (ix2 i k)
  ry k := b6 (ix2 i k)
  g k := b7 (ix2 0 k)
  wr j k := b8 (ix2 j k)
  wa j k := b9 (ix2 j k)
  wo j k := b10 (ix2 j k)

variable (b0 : FVec Ideal S512x1024 .f32) (b1 b2 b3 b4 b5 b6 : FVec Ideal S512x1024 .bf16) (b7 : FVec Ideal S1x1024 .f32)
  (b8 b9 b10 : FVec Ideal S1024x1024 .bf16)

/-- The cotangent of the merged sum. -/
theorem dm (i : Fin 512) (k : Fin 1024) : k0_pay4 (F := Ideal) b0 b10 (ix2 i k) = (blkRow b0 b1 b2 b3 b4 b5 b6 b7 b8 b9 b10 i).dm k := by
  pointwise [k0_pay4, MRow.dm, blkRow]

/-- The retention branch's projected output. -/
theorem ba (i : Fin 512) (k : Fin 1024) : k0_pay5 (F := Ideal) b3 b8 (ix2 i k) = (blkRow b0 b1 b2 b3 b4 b5 b6 b7 b8 b9 b10 i).ba k := by
  pointwise [k0_pay5, MRow.ba, blkRow]

/-- The attention branch's projected output. -/
theorem bb (i : Fin 512) (k : Fin 1024) : k0_pay6 (F := Ideal) b4 b9 (ix2 i k) = (blkRow b0 b1 b2 b3 b4 b5 b6 b7 b8 b9 b10 i).bb k := by
  pointwise [k0_pay6, MRow.bb, blkRow]

/-- The retention branch's gate. -/
theorem sga (i : Fin 512) (k : Fin 1024) : k0_pay7 (F := Ideal) b1 (ix2 i k) = sg (b1 (ix2 i k)) := by
  pointwise [k0_pay7, half_tanh]

/-- The attention branch's gate. -/
theorem sgb (i : Fin 512) (k : Fin 1024) : k0_pay10 (F := Ideal) (k0_pay8 b2) (k0_pay9 (F := Ideal)) (ix2 i k) = sg (b2 (ix2 i k)) := by
  pointwise [k0_pay8, k0_pay9, k0_pay10, half_tanh]

/-- The retention branch's gate's gradient. -/
theorem dga (i : Fin 512) (k : Fin 1024) :
    k0_pay11 (F := Ideal) (k0_pay4 b0 b10) (k0_pay5 b3 b8) (k0_pay7 b1) (ix2 i k) = (blkRow b0 b1 b2 b3 b4 b5 b6 b7 b8 b9 b10 i).dga k := by
  pointwise [k0_pay11, sga]
  rw [dm b0 b1 b2 b3 b4 b5 b6 b7 b8 b9 b10, ba b0 b1 b2 b3 b4 b5 b6 b7 b8 b9 b10]; rfl

/-- The attention branch's gate's gradient. -/
theorem dgb (i : Fin 512) (k : Fin 1024) :
    k0_pay12 (F := Ideal) (k0_pay4 b0 b10) (k0_pay6 b4 b9) (k0_pay8 b2) (k0_pay9 (F := Ideal)) (ix2 i k) = (blkRow b0 b1 b2 b3 b4 b5 b6 b7 b8 b9 b10 i).dgb k := by
  pointwise [k0_pay12, sgb]
  rw [dm b0 b1 b2 b3 b4 b5 b6 b7 b8 b9 b10, bb b0 b1 b2 b3 b4 b5 b6 b7 b8 b9 b10]; rfl

/-- The cotangent of the retention branch's projected output. -/
theorem dba (i : Fin 512) (k : Fin 1024) : k0_pay13 (F := Ideal) (k0_pay4 b0 b10) (k0_pay7 b1) (ix2 i k) = (blkRow b0 b1 b2 b3 b4 b5 b6 b7 b8 b9 b10 i).dba k := by
  pointwise [k0_pay13, sga]
  rw [dm b0 b1 b2 b3 b4 b5 b6 b7 b8 b9 b10]; rfl

/-- The cotangent of the attention branch's projected output. -/
theorem dbb (i : Fin 512) (k : Fin 1024) :
    k0_pay14 (F := Ideal) (k0_pay4 b0 b10) (k0_pay8 b2) (k0_pay9 (F := Ideal)) (ix2 i k) = (blkRow b0 b1 b2 b3 b4 b5 b6 b7 b8 b9 b10 i).dbb k := by
  pointwise [k0_pay14, sgb]
  rw [dm b0 b1 b2 b3 b4 b5 b6 b7 b8 b9 b10]; rfl

/-- The attention output's gradient. -/
theorem day (i : Fin 512) (k : Fin 1024) :
    k0_pay15 (F := Ideal) (k0_pay4 b0 b10) (k0_pay8 b2) (k0_pay9 (F := Ideal)) b9 (ix2 i k) = (blkRow b0 b1 b2 b3 b4 b5 b6 b7 b8 b9 b10 i).day k := by
  pointwise [k0_pay15]
  exact Finset.sum_congr rfl fun j _ => by rw [dbb b0 b1 b2 b3 b4 b5 b6 b7 b8 b9 b10]; rfl

/-- The cotangent of the gated retention output. -/
theorem du (i : Fin 512) (k : Fin 1024) :
    k0_pay16 (F := Ideal) (k0_pay4 b0 b10) (k0_pay7 b1) b8 (ix2 i k) = (blkRow b0 b1 b2 b3 b4 b5 b6 b7 b8 b9 b10 i).du k := by
  pointwise [k0_pay16]
  exact Finset.sum_congr rfl fun j _ => by rw [dba b0 b1 b2 b3 b4 b5 b6 b7 b8 b9 b10]; rfl

/-! ### One head's tile -/

/-- The retention gate's gradient of one head: cotangent `d`, retention output `y`, its gate `x`, gain `g`. -/
def drgT (d : FVec Ideal S512x256 .f32) (y x : FVec Ideal S512x256 .bf16) (g : FVec Ideal S1x256 .f32) : FVec Ideal S512x256 .bf16 :=
  k0_pay52 (k0_pay47 x) (k0_pay48 x) d (k0_pay51 y g)

/-- The retention output's gradient of one head. -/
def dryT (d : FVec Ideal S512x256 .f32) (y x : FVec Ideal S512x256 .bf16) (g : FVec Ideal S1x256 .f32) : FVec Ideal S512x256 .bf16 :=
  k0_pay55 (k0_pay45 y) (k0_pay46 y) (k0_pay49 x) d g

/-- The gain's gradient of one head, added to what the block held. -/
def dgrT (a : FVec Ideal S1x256 .f32) (d : FVec Ideal S512x256 .f32) (y x : FVec Ideal S512x256 .bf16) : FVec Ideal S1x256 .f32 :=
  k0_pay54 (k0_pay46 y) (k0_pay49 x) d a

section
variable (d : FVec Ideal S512x256 .f32) (y x : FVec Ideal S512x256 .bf16) (g a : FVec Ideal S1x256 .f32)

/-- The normalised lanes of a tile. -/
theorem ynT (i : Fin 512) (l : Fin 256) : k0_pay46 (F := Ideal) y (ix2 i l) = gyn (fun l => y (ix2 i l)) l := by
  pointwise [k0_pay46, k0_pay45, k0_pay44, gyn, grstd, gve, gcen, gmean]

/-- The reciprocal deviation of a tile. -/
theorem rstdT (i : Fin 512) : k0_pay45 (F := Ideal) y (ix2 i 0) = grstd (fun l => y (ix2 i l)) := by
  pointwise [k0_pay45, k0_pay44, grstd, gve, gcen, gmean]

/-- The gate times its logistic function. -/
theorem siluT (i : Fin 512) (l : Fin 256) : k0_pay49 (F := Ideal) x (ix2 i l) = x (ix2 i l) * sg (x (ix2 i l)) := by
  pointwise [k0_pay49, k0_pay48, k0_pay47, half_tanh]

/-- The retention gate's gradient at a lane. -/
theorem drgT_apply (i : Fin 512) (l : Fin 256) : drgT d y x g (ix2 i l)
    = d (ix2 i l) * (gyn (fun l => y (ix2 i l)) l * g (ix2 0 l)) * (sg (x (ix2 i l)) * (1 + x (ix2 i l) * (1 - sg (x (ix2 i l))))) := by
  pointwise [drgT, k0_pay52, k0_pay47, k0_pay48, k0_pay51, ynT, half_tanh]

/-- The retention output's gradient at a lane. -/
theorem dryT_apply (i : Fin 512) (l : Fin 256) : dryT d y x g (ix2 i l)
    = gnormBwd (fun l => y (ix2 i l)) (fun l => d (ix2 i l) * (x (ix2 i l) * sg (x (ix2 i l))) * g (ix2 0 l)) l := by
  pointwise [dryT, k0_pay55, k0_pay53, ynT, rstdT, siluT, gnormBwd, gmean]

/-- The gain's gradient at a lane. -/
theorem dgrT_apply (l : Fin 256) : dgrT a d y x (ix2 0 l)
    = a (ix2 0 l) + ∑ i : Fin 512, d (ix2 i l) * (x (ix2 i l) * sg (x (ix2 i l))) * gyn (fun l => y (ix2 i l)) l := by
  pointwise [dgrT, k0_pay54, k0_pay53, ynT, siluT]

end

end Cert.Merge.Ker
-- ==== Proof.MergeRows.lean ====
module

public import proofs.«01_k».proof.Proof.MergeTiles
public import proofs.«01_k».proof.Proof.Gen.KernelIdeal.Frame
public import Idealize.ShloMosaic.Lib.Pipeline.ValueKit
public import Idealize.ShloMosaic.Lib.Pipeline.ReadBack

/-!
# The merge's backward call, row by row

What one grid step reads and writes, in terms of the rows of the operands: a block of 512 rows
holds, in every column, the value that the row's own arithmetic gives.
-/

@[expose] public section

set_option maxRecDepth 16384

noncomputable section

namespace Cert.Merge.Ker

open Cert.KernelIdeal Cert.KernelIdeal.Gen Cert.Scalars
open Idealize.ShloMosaic Idealize.ShloMosaic.TcCoe Idealize.SL.Sem
open Idealize.ShloMosaic.Pipeline (Dat)
open scoped BigOperators

/-! ### A head's tile within its row -/

section
variable (q : MRow) (o : ℕ) (ho : o % 256 = 0) (hb : o + 256 ≤ 1024)
variable (d : FVec Ideal S512x256 .f32) (y x : FVec Ideal S512x256 .bf16) (g a : FVec Ideal S1x256 .f32)
include ho

/-- A head's lanes, from any of its columns. -/
theorem hd_at (l l' : Fin 256) : hd ⟨o + l.val, by omega⟩ l' = ⟨o + l'.val, by omega⟩ := Fin.ext (by simp only [hd]; omega)

/-- A column's lane. -/
theorem ln_at (l : Fin 256) : ln ⟨o + l.val, by omega⟩ = l := Fin.ext (by simp only [ln]; omega)

/-- The row's normalised output over one head. -/
theorem yn_at (l : Fin 256) : q.yn ⟨o + l.val, by omega⟩ = gyn (fun l => q.ry ⟨o + l.val, by omega⟩) l := by
  simp only [MRow.yn, hd_at o ho hb, ln_at o ho hb]

/-- A head's tile of the gate's gradient. -/
theorem drg_at (i : Fin 512) (hD : ∀ l : Fin 256, d (ix2 i l) = q.du ⟨o + l.val, by omega⟩) (hY : ∀ l : Fin 256, y (ix2 i l) = q.ry ⟨o + l.val, by omega⟩)
    (hX : ∀ l : Fin 256, x (ix2 i l) = q.rg ⟨o + l.val, by omega⟩) (hG : ∀ l : Fin 256, g (ix2 0 l) = q.g ⟨o + l.val, by omega⟩) (l : Fin 256) :
    drgT d y x g (ix2 i l) = q.drg ⟨o + l.val, by omega⟩ := by
  rw [drgT_apply, MRow.drg, yn_at q o ho hb]; simp only [hD, hY, hX, hG]

/-- A head's tile of the retention output's gradient. -/
theorem dry_at (i : Fin 512) (hD : ∀ l : Fin 256, d (ix2 i l) = q.du ⟨o + l.val, by omega⟩) (hY : ∀ l : Fin 256, y (ix2 i l) = q.ry ⟨o + l.val, by omega⟩)
    (hX : ∀ l : Fin 256, x (ix2 i l) = q.rg ⟨o + l.val, by omega⟩) (hG : ∀ l : Fin 256, g (ix2 0 l) = q.g ⟨o + l.val, by omega⟩) (l : Fin 256) :
    dryT d y x g (ix2 i l) = q.dry ⟨o + l.val, by omega⟩ := by
  rw [dryT_apply, MRow.dry]; simp only [hD, hY, hX, hG, MRow.dyg, hd_at o ho hb, ln_at o ho hb]
end

/-- A tile of a block, read at a lane. -/
theorem ld_at {e : EltTy} (b : S512x1024.Idx → Elt Ideal e) (o : ℕ) (hb : o + 256 ≤ 1024) (inb) (i : Fin 512) (l : Fin 256) :
    (View.ld (Val := Elt Ideal) (S := S512x1024) (e' := e) b (Rect.unit ![0, o] ![512, 256] inb) : S512x256.Idx → Elt Ideal e) (ix2 i l) = b (ix2 i ⟨o + l.val, by omega⟩) := by
  refine congrArg b (funext fun a => Fin.ext ?_)
  match a with
  | ⟨0, _⟩ => simp [Rect.unit, LoadRect.idx, ix2]
  | ⟨1, _⟩ => simp [Rect.unit, LoadRect.idx, ix2]

/-- A tile of a row vector, read at a lane. -/
theorem ld_row_at {e : EltTy} (b : S1x1024.Idx → Elt Ideal e) (o : ℕ) (hb : o + 256 ≤ 1024) (inb) (l : Fin 256) :
    (View.ld (Val := Elt Ideal) (S := S1x1024) (e' := e) b (Rect.unit ![0, o] ![1, 256] inb) : S1x256.Idx → Elt Ideal e) (ix2 0 l) = b (ix2 0 ⟨o + l.val, by omega⟩) := by
  refine congrArg b (funext fun a => Fin.ext ?_)
  match a with
  | ⟨0, _⟩ => simp [Rect.unit, LoadRect.idx, ix2]
  | ⟨1, _⟩ => simp [Rect.unit, LoadRect.idx, ix2]

section
variable (D : FVec Ideal S512x1024 .f32) (y x : FVec Ideal S512x256 .bf16) (g a : FVec Ideal S1x256 .f32)
/-- The fourth head's stored gate gradient is the gate gradient of one head. -/
theorem rg3 : k0_pay63 (F := Ideal) D (k0_pay56 y) x g = drgT (k0_pay62 D) y x g := rfl
/-- The third head's stored gate gradient is the gate gradient of one head. -/
theorem rg2 : k0_pay52 (F := Ideal) (k0_pay47 x) (k0_pay48 x) (k0_pay50 D) (k0_pay51 y g) = drgT (k0_pay50 D) y x g := rfl
/-- The second head's stored gate gradient is the gate gradient of one head. -/
theorem rg1 : k0_pay37 (F := Ideal) D (k0_pay33 y) x g = drgT (k0_pay36 D) y x g := rfl
/-- The first head's stored gate gradient is the gate gradient of one head. -/
theorem rg0 : k0_pay25 (F := Ideal) D (k0_pay17 y) (k0_pay18 y) x g = drgT (k0_pay24 D) y x g := rfl
/-- The fourth head's stored retention gradient is the retention gradient of one head. -/
theorem ry3 : k0_pay2 (F := Ideal) (k0_pay58 (k0_pay56 y)) (k0_pay59 (k0_pay56 y)) g (k0_pay64 D x) = dryT (k0_pay62 D) y x g := rfl
/-- The third head's stored retention gradient is the retention gradient of one head. -/
theorem ry2 : k0_pay55 (F := Ideal) (k0_pay45 y) (k0_pay46 y) (k0_pay49 x) (k0_pay50 D) g = dryT (k0_pay50 D) y x g := rfl
/-- The second head's stored retention gradient is the retention gradient of one head. -/
theorem ry1 : k0_pay43 (F := Ideal) (k0_pay32 y) (k0_pay33 y) (k0_pay41 D x g) (k0_pay42 D (k0_pay33 y) x g) = dryT (k0_pay36 D) y x g := rfl
/-- The first head's stored retention gradient is the retention gradient of one head. -/
theorem ry0 : k0_pay30 (F := Ideal) (k0_pay20 (k0_pay17 y) (k0_pay18 y)) (k0_pay21 (k0_pay17 y) (k0_pay18 y)) g (k0_pay26 D x) = dryT (k0_pay24 D) y x g := rfl
/-- The fourth head's updated gain gradient is the gain gradient of one head. -/
theorem gr3 : k0_pay1 (F := Ideal) (k0_pay59 (k0_pay56 y)) (k0_pay64 D x) a = dgrT a (k0_pay62 D) y x := rfl
/-- The third head's updated gain gradient is the gain gradient of one head. -/
theorem gr2 : k0_pay54 (F := Ideal) (k0_pay46 y) (k0_pay49 x) (k0_pay50 D) a = dgrT a (k0_pay50 D) y x := rfl
/-- The second head's updated gain gradient is the gain gradient of one head. -/
theorem gr1 : k0_pay39 (F := Ideal) D (k0_pay33 y) x a = dgrT a (k0_pay36 D) y x := rfl
/-- The first head's updated gain gradient is the gain gradient of one head. -/
theorem gr0 : k0_pay29 (F := Ideal) (k0_pay27 a) (k0_pay28 D (k0_pay17 y) (k0_pay18 y) x) = dgrT a (k0_pay24 D) y x := rfl

/-- The fourth head's lanes of the gradient of the gated retention output. -/
theorem D3 (i : Fin 512) (l : Fin 256) : k0_pay62 (F := Ideal) D (ix2 i l) = D (ix2 i ⟨768 + l.val, by omega⟩) := by pointwise [k0_pay62]
/-- The third head's lanes of the gradient of the gated retention output. -/
theorem D2 (i : Fin 512) (l : Fin 256) : k0_pay50 (F := Ideal) D (ix2 i l) = D (ix2 i ⟨512 + l.val, by omega⟩) := by pointwise [k0_pay50]
/-- The second head's lanes of the gradient of the gated retention output. -/
theorem D1 (i : Fin 512) (l : Fin 256) : k0_pay36 (F := Ideal) D (ix2 i l) = D (ix2 i ⟨256 + l.val, by omega⟩) := by pointwise [k0_pay36]
/-- The first head's lanes of the gradient of the gated retention output. -/
theorem D0 (i : Fin 512) (l : Fin 256) : k0_pay24 (F := Ideal) D (ix2 i l) = D (ix2 i ⟨0 + l.val, by omega⟩) := by pointwise [k0_pay24]
end

/-- Which block each window shows at step `t`: the `t`-th row block, or always the first one. -/
theorem idx_val : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![0, 0] ∧ win0_9.index t = ![0, 0] ∧ win0_10.index t = ![0, 0]
    ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] ∧ win0_17.index t = ![0, 0] :=
  (by decide +kernel : ∀ t : Fin grid0.N, _)

variable (m : (ℓ : Loc nD τ sig) → Buf (Elt Ideal) ℓ) (c : Dev nD)

/-- The operands of row `r` of the whole arrays. -/
def row (r : Fin 8192) : MRow where
  dx k := (V m c main_arg0 : FVec Ideal S8192x1024 .f32) (ix2 r k)
  ga k := (V m c main_arg1 : FVec Ideal S8192x1024 .bf16) (ix2 r k)
  gb k := (V m c main_arg2 : FVec Ideal S8192x1024 .bf16) (ix2 r k)
  u k := (V m c main_v26 : FVec Ideal S8192x1024 .bf16) (ix2 r k)
  ay k := (V m c main_arg3 : FVec Ideal S8192x1024 .bf16) (ix2 r k)
  rg k := (V m c main_arg4 : FVec Ideal S8192x1024 .bf16) (ix2 r k)
  ry k := (V m c main_arg5 : FVec Ideal S8192x1024 .bf16) (ix2 r k)
  g k := (V m c main_arg6 : FVec Ideal S1x1024 .f32) (ix2 0 k)
  wr j k := (V m c main_arg7 : FVec Ideal S1024x1024 .bf16) (ix2 j k)
  wa j k := (V m c main_arg8 : FVec Ideal S1024x1024 .bf16) (ix2 j k)
  wo j k := (V m c main_arg9 : FVec Ideal S1024x1024 .bf16) (ix2 j k)

/-- The operands of a row of the block at a grid point. -/
def brow (t : Fin cfg0.N) (i : Fin 512) : MRow :=
  blkRow (iblk m c 0 t) (iblk m c 1 t) (iblk m c 2 t) (iblk m c 3 t) (iblk m c 4 t) (iblk m c 5 t) (iblk m c 6 t) (iblk m c 7 t) (iblk m c 8 t)
    (iblk m c 9 t) (iblk m c 10 t) i

/-- The row of the whole arrays that a row of a block holds. -/
def arow (t : Fin cfg0.N) (i : Fin 512) : Fin 8192 := ⟨512 * t.val + i.val, by have := t.isLt; have : cfg0.N = 16 := N_0; omega⟩

/-- What operand 0 holds in the block that step `t` reads. -/
theorem blk0 (t : Fin cfg0.N) (i : Fin 512) (k : Fin 1024) :
    (iblk m c 0 t : FVec Ideal S512x1024 .f32) (ix2 i k) = (V m c main_arg0 : FVec Ideal S8192x1024 .f32) (ix2 (arow t i) k) := by
  blk_ext! [iblk, arow, idx_val t]

/-- What operand 1 holds in the block that step `t` reads. -/
theorem blk1 (t : Fin cfg0.N) (i : Fin 512) (k : Fin 1024) :
    (iblk m c 1 t : FVec Ideal S512x1024 .bf16) (ix2 i k) = (V m c main_arg1 : FVec Ideal S8192x1024 .bf16) (ix2 (arow t i) k) := by
  blk_ext! [iblk, arow, idx_val t]

/-- What operand 2 holds in the block that step `t` reads. -/
theorem blk2 (t : Fin cfg0.N) (i : Fin 512) (k : Fin 1024) :
    (iblk m c 2 t : FVec Ideal S512x1024 .bf16) (ix2 i k) = (V m c main_arg2 : FVec Ideal S8192x1024 .bf16) (ix2 (arow t i) k) := by
  blk_ext! [iblk, arow, idx_val t]

/-- What operand 3 holds in the block that step `t` reads. -/
theorem blk3 (t : Fin cfg0.N) (i : Fin 512) (k : Fin 1024) :
    (iblk m c 3 t : FVec Ideal S512x1024 .bf16) (ix2 i k) = (V m c main_v26 : FVec Ideal S8192x1024 .bf16) (ix2 (arow t i) k) := by
  blk_ext! [iblk, arow, idx_val t]

/-- What operand 4 holds in the block that step `t` reads. -/
theorem blk4 (t : Fin cfg0.N) (i : Fin 512) (k : Fin 1024) :
    (iblk m c 4 t : FVec Ideal S512x1024 .bf16) (ix2 i k) = (V m c main_arg3 : FVec Ideal S8192x1024 .bf16) (ix2 (arow t i) k) := by
  blk_ext! [iblk, arow, idx_val t]

/-- What operand 5 holds in the block that step `t` reads. -/
theorem blk5 (t : Fin cfg0.N) (i : Fin 512) (k : Fin 1024) :
    (iblk m c 5 t : FVec Ideal S512x1024 .bf16) (ix2 i k) = (V m c main_arg4 : FVec Ideal S8192x1024 .bf16) (ix2 (arow t i) k) := by
  blk_ext! [iblk, arow, idx_val t]

/-- What operand 6 holds in the block that step `t` reads. -/
theorem blk6 (t : Fin cfg0.N) (i : Fin 512) (k : Fin 1024) :
    (iblk m c 6 t : FVec Ideal S512x1024 .bf16) (ix2 i k) = (V m c main_arg5 : FVec Ideal S8192x1024 .bf16) (ix2 (arow t i) k) := by
  blk_ext! [iblk, arow, idx_val t]

/-- What operand 7 holds in the block that step `t` reads. -/
theorem blk7 (t : Fin cfg0.N) (k : Fin 1024) : (iblk m c 7 t : FVec Ideal S1x1024 .f32) (ix2 0 k) = (V m c main_arg6 : FVec Ideal S1x1024 .f32) (ix2 0 k) := by
  blk_ext! [iblk, idx_val t]

/-- What operand 8 holds in the block that step `t` reads. -/
theorem blk8 (t : Fin cfg0.N) (j k : Fin 1024) :
    (iblk m c 8 t : FVec Ideal S1024x1024 .bf16) (ix2 j k) = (V m c main_arg7 : FVec Ideal S1024x1024 .bf16) (ix2 j k) := by
  blk_ext! [iblk, idx_val t]

/-- What operand 9 holds in the block that step `t` reads. -/
theorem blk9 (t : Fin cfg0.N) (j k : Fin 1024) :
    (iblk m c 9 t : FVec Ideal S1024x1024 .bf16) (ix2 j k) = (V m c main_arg8 : FVec Ideal S1024x1024 .bf16) (ix2 j k) := by
  blk_ext! [iblk, idx_val t]

/-- What operand 10 holds in the block that step `t` reads. -/
theorem blk10 (t : Fin cfg0.N) (j k : Fin 1024) :
    (iblk m c 10 t : FVec Ideal S1024x1024 .bf16) (ix2 j k) = (V m c main_arg9 : FVec Ideal S1024x1024 .bf16) (ix2 j k) := by
  blk_ext! [iblk, idx_val t]

/-- A block's row is the arrays' row it holds. -/
theorem brow_eq (t : Fin cfg0.N) (i : Fin 512) : brow m c t i = row m c (arow t i) := by
  unfold brow blkRow row
  simp only [blk0, blk1, blk2, blk3, blk4, blk5, blk6, blk7, blk8, blk9, blk10]

/-- What a row of a block has at a column is what the arrays' row has at the index the block's entry lands on. -/
theorem at_emb {n : ℕ} (f : MRow → Fin n → EReal) (t : Fin cfg0.N) (i : Fin 512) (k : Fin n) (r : Fin 8192) (k' : Fin n) (h0 : r.val = 512 * t.val + i.val)
    (h1 : k'.val = k.val) : f (brow m c t i) k = f (row m c r) k' := by
  have e0 : r = arow t i := Fin.ext h0
  have e1 : k' = k := Fin.ext h1
  rw [brow_eq, e0, e1]

/-- The cotangent of the gated retention output, over a block. -/
def bdu (t : Fin cfg0.N) : FVec Ideal S512x1024 .f32 := k0_pay16 (F := Ideal) (k0_pay4 (iblk m c 0 t) (iblk m c 10 t)) (k0_pay7 (iblk m c 1 t)) (iblk m c 8 t)

/-- It at a row. -/
theorem bdu_at (t : Fin cfg0.N) (i : Fin 512) (k : Fin 1024) : bdu m c t (ix2 i k) = (brow m c t i).du k :=
  du (iblk m c 0 t) (iblk m c 1 t) (iblk m c 2 t) (iblk m c 3 t) (iblk m c 4 t) (iblk m c 5 t) (iblk m c 6 t) (iblk m c 7 t) (iblk m c 8 t) (iblk m c 9 t) (iblk m c 10 t) i k

section
variable (o : ℕ) (ho : o % 256 = 0) (hb : o + 256 ≤ 1024) (P : FVec Ideal S512x1024 .f32 → FVec Ideal S512x256 .f32)
  (hP : ∀ D (i : Fin 512) (l : Fin 256), P D (ix2 i l) = D (ix2 i ⟨o + l.val, by omega⟩)) (inb inb') (t : Fin cfg0.N) (x : S512x256.Idx) (r : Fin 8192) (k : Fin 1024)
  (h0 : r.val = 512 * t.val + (x 0).val) (h1 : k.val = o + (x 1).val)
include ho hP h0 h1

/-- A stored piece of the retention gate's gradient. -/
theorem drg_piece : drgT (P (bdu m c t)) (View.ld (Val := Elt Ideal) (S := S512x1024) (e' := .bf16) (iblk m c 6 t) (Rect.unit ![0, o] ![512, 256] inb))
    (View.ld (Val := Elt Ideal) (S := S512x1024) (e' := .bf16) (iblk m c 5 t) (Rect.unit ![0, o] ![512, 256] inb))
    (View.ld (Val := Elt Ideal) (S := S1x1024) (e' := .f32) (iblk m c 7 t) (Rect.unit ![0, o] ![1, 256] inb')) x = (row m c r).drg k := by
  obtain ⟨i, l, rfl⟩ : ∃ i l, x = ix2 i l := ⟨x 0, x 1, eq_ix2 x⟩
  rw [drg_at (brow m c t i) o ho hb _ _ _ _ i (fun l => by rw [hP, bdu_at]) (fun l => ld_at _ o hb inb _ _) (fun l => ld_at _ o hb inb _ _)
    (fun l => ld_row_at _ o hb inb' _) l]
  exact at_emb m c MRow.drg t _ _ r k h0 h1

/-- A stored piece of the retention output's gradient. -/
theorem dry_piece : dryT (P (bdu m c t)) (View.ld (Val := Elt Ideal) (S := S512x1024) (e' := .bf16) (iblk m c 6 t) (Rect.unit ![0, o] ![512, 256] inb))
    (View.ld (Val := Elt Ideal) (S := S512x1024) (e' := .bf16) (iblk m c 5 t) (Rect.unit ![0, o] ![512, 256] inb))
    (View.ld (Val := Elt Ideal) (S := S1x1024) (e' := .f32) (iblk m c 7 t) (Rect.unit ![0, o] ![1, 256] inb')) x = (row m c r).dry k := by
  obtain ⟨i, l, rfl⟩ : ∃ i l, x = ix2 i l := ⟨x 0, x 1, eq_ix2 x⟩
  rw [dry_at (brow m c t i) o ho hb _ _ _ _ i (fun l => by rw [hP, bdu_at]) (fun l => ld_at _ o hb inb _ _) (fun l => ld_at _ o hb inb _ _)
    (fun l => ld_row_at _ o hb inb' _) l]
  exact at_emb m c MRow.dry t _ _ r k h0 h1
end

end Cert.Merge.Ker
-- ==== Proof.MergeGates.lean ====
module

public import proofs.«01_k».proof.Proof.MergeRows
public import proofs.«01_k».proof.Proof.Gen.KernelIdeal.Frame
public import Idealize.ShloMosaic.Lib.Pipeline.ValueKit
public import Idealize.ShloMosaic.Lib.Pipeline.ReadBack

/-!
# The gradients of the merge gates, of the branches and of the attention output

Each is written as whole row blocks; every stored entry holds its row's value.
-/

@[expose] public section

set_option maxRecDepth 16384

noncomputable section

namespace Cert.Merge.Ker

open Cert.KernelIdeal Cert.KernelIdeal.Gen Cert.Scalars
open Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- Window 13's array: the cotangent of the retention branch's projected output. -/
theorem final_13 : (dats m 0 c).arrAt 13 cfg0.N = fun y : S8192x1024.Idx => (row m c (y 0)).dba (y 1) := by
  refine (dats m 0 c).arrAt_eq_of_covers 13 _ (by decide +kernel) fun t hf y => ?_
  blk_simp [idx_val t]
  rw [after0_13]
  by_cases h : t.val % 16 = 0
  · rw [outsAt0_A m c t h]; dsimp only
    frame_out
    obtain ⟨i, k, rfl⟩ : ∃ i k, y = ix2 (n0 := 512) (n1 := 1024) i k := ⟨y 0, y 1, eq_ix2 y⟩
    refine (dba (iblk m c 0 t) (iblk m c 1 t) (iblk m c 2 t) (iblk m c 3 t) (iblk m c 4 t) (iblk m c 5 t) (iblk m c 6 t) (iblk m c 7 t) (iblk m c 8 t) (iblk m c 9 t) (iblk m c 10 t) i k).trans (at_emb m c MRow.dba t i k _ _ ?_ ?_) <;> (blk_simp [idx_val t]; try omega)
  · rw [outsAt0_B m c t h]; dsimp only
    frame_out
    obtain ⟨i, k, rfl⟩ : ∃ i k, y = ix2 (n0 := 512) (n1 := 1024) i k := ⟨y 0, y 1, eq_ix2 y⟩
    refine (dba (iblk m c 0 t) (iblk m c 1 t) (iblk m c 2 t) (iblk m c 3 t) (iblk m c 4 t) (iblk m c 5 t) (iblk m c 6 t) (iblk m c 7 t) (iblk m c 8 t) (iblk m c 9 t) (iblk m c 10 t) i k).trans (at_emb m c MRow.dba t i k _ _ ?_ ?_) <;> (blk_simp [idx_val t]; try omega)

/-- Window 14's array: the cotangent of the attention branch's projected output. -/
theorem final_14 : (dats m 0 c).arrAt 14 cfg0.N = fun y : S8192x1024.Idx => (row m c (y 0)).dbb (y 1) := by
  refine (dats m 0 c).arrAt_eq_of_covers 14 _ (by decide +kernel) fun t hf y => ?_
  blk_simp [idx_val t]
  rw [after0_14]
  by_cases h : t.val % 16 = 0
  · rw [outsAt0_A m c t h]; dsimp only
    frame_out
    obtain ⟨i, k, rfl⟩ : ∃ i k, y = ix2 (n0 := 512) (n1 := 1024) i k := ⟨y 0, y 1, eq_ix2 y⟩
    refine (dbb (iblk m c 0 t) (iblk m c 1 t) (iblk m c 2 t) (iblk m c 3 t) (iblk m c 4 t) (iblk m c 5 t) (iblk m c 6 t) (iblk m c 7 t) (iblk m c 8 t) (iblk m c 9 t) (iblk m c 10 t) i k).trans (at_emb m c MRow.dbb t i k _ _ ?_ ?_) <;> (blk_simp [idx_val t]; try omega)
  · rw [outsAt0_B m c t h]; dsimp only
    frame_out
    obtain ⟨i, k, rfl⟩ : ∃ i k, y = ix2 (n0 := 512) (n1 := 1024) i k := ⟨y 0, y 1, eq_ix2 y⟩
    refine (dbb (iblk m c 0 t) (iblk m c 1 t) (iblk m c 2 t) (iblk m c 3 t) (iblk m c 4 t) (iblk m c 5 t) (iblk m c 6 t) (iblk m c 7 t) (iblk m c 8 t) (iblk m c 9 t) (iblk m c 10 t) i k).trans (at_emb m c MRow.dbb t i k _ _ ?_ ?_) <;> (blk_simp [idx_val t]; try omega)

/-- Window 15's array: the attention output's gradient. -/
theorem final_15 : (dats m 0 c).arrAt 15 cfg0.N = fun y : S8192x1024.Idx => (row m c (y 0)).day (y 1) := by
  refine (dats m 0 c).arrAt_eq_of_covers 15 _ (by decide +kernel) fun t hf y => ?_
  blk_simp [idx_val t]
  rw [after0_15]
  by_cases h : t.val % 16 = 0
  · rw [outsAt0_A m c t h]; dsimp only
    frame_out
    obtain ⟨i, k, rfl⟩ : ∃ i k, y = ix2 (n0 := 512) (n1 := 1024) i k := ⟨y 0, y 1, eq_ix2 y⟩
    refine (day (iblk m c 0 t) (iblk m c 1 t) (iblk m c 2 t) (iblk m c 3 t) (iblk m c 4 t) (iblk m c 5 t) (iblk m c 6 t) (iblk m c 7 t) (iblk m c 8 t) (iblk m c 9 t) (iblk m c 10 t) i k).trans (at_emb m c MRow.day t i k _ _ ?_ ?_) <;> (blk_simp [idx_val t]; try omega)
  · rw [outsAt0_B m c t h]; dsimp only
    frame_out
    obtain ⟨i, k, rfl⟩ : ∃ i k, y = ix2 (n0 := 512) (n1 := 1024) i k := ⟨y 0, y 1, eq_ix2 y⟩
    refine (day (iblk m c 0 t) (iblk m c 1 t) (iblk m c 2 t) (iblk m c 3 t) (iblk m c 4 t) (iblk m c 5 t) (iblk m c 6 t) (iblk m c 7 t) (iblk m c 8 t) (iblk m c 9 t) (iblk m c 10 t) i k).trans (at_emb m c MRow.day t i k _ _ ?_ ?_) <;> (blk_simp [idx_val t]; try omega)

/-- The second half of the gates' gradients. -/
theorem _root_.Cert.Merge.MRow.dgates_hi (q : MRow) (k : Fin 1024) : q.dgates ⟨1024 + k.val, by omega⟩ = q.dgb k := by
  simp [MRow.dgates]

/-- The first half of the gates' gradients. -/
theorem _root_.Cert.Merge.MRow.dgates_lo (q : MRow) (k : Fin 1024) : q.dgates ⟨k.val, by omega⟩ = q.dga k := by
  simp [MRow.dgates]

/-- Window 11's array: the two gates' gradients beside each other. -/
theorem final_11 : (dats m 0 c).arrAt 11 cfg0.N = fun y : S8192x2048.Idx => (row m c (y 0)).dgates (y 1) := by
  refine (dats m 0 c).arrAt_eq_of_covers 11 _ (by decide +kernel) fun t hf y => ?_
  blk_simp [idx_val t]
  rw [after0_11]
  by_cases h : t.val % 16 = 0
  · rw [outsAt0_A m c t h]; dsimp only
    frame_out
    canon_tiles x h
    · refine (congrArg _ (eq_ix2 (n0 := 512) (n1 := 1024) x)).trans ((dgb (iblk m c 0 t) (iblk m c 1 t) (iblk m c 2 t) (iblk m c 3 t) (iblk m c 4 t) (iblk m c 5 t) (iblk m c 6 t) (iblk m c 7 t) (iblk m c 8 t) (iblk m c 9 t) (iblk m c 10 t) (x 0) (x 1)).trans
        ((MRow.dgates_hi (brow m c t (x 0)) (x 1)).symm.trans (at_emb m c MRow.dgates t (x 0) _ _ _ ?_ ?_)))
      · blk_simp [idx_val t]; omega
      · blk_simp [idx_val t]; exact h1
    · refine (congrArg _ (eq_ix2 (n0 := 512) (n1 := 1024) x)).trans ((dga (iblk m c 0 t) (iblk m c 1 t) (iblk m c 2 t) (iblk m c 3 t) (iblk m c 4 t) (iblk m c 5 t) (iblk m c 6 t) (iblk m c 7 t) (iblk m c 8 t) (iblk m c 9 t) (iblk m c 10 t) (x 0) (x 1)).trans
        ((MRow.dgates_lo (brow m c t (x 0)) (x 1)).symm.trans (at_emb m c MRow.dgates t (x 0) _ _ _ ?_ ?_)))
      · blk_simp [idx_val t]; omega
      · blk_simp [idx_val t]; exact h1
  · rw [outsAt0_B m c t h]; dsimp only
    frame_out
    canon_tiles x h
    · refine (congrArg _ (eq_ix2 (n0 := 512) (n1 := 1024) x)).trans ((dgb (iblk m c 0 t) (iblk m c 1 t) (iblk m c 2 t) (iblk m c 3 t) (iblk m c 4 t) (iblk m c 5 t) (iblk m c 6 t) (iblk m c 7 t) (iblk m c 8 t) (iblk m c 9 t) (iblk m c 10 t) (x 0) (x 1)).trans
        ((MRow.dgates_hi (brow m c t (x 0)) (x 1)).symm.trans (at_emb m c MRow.dgates t (x 0) _ _ _ ?_ ?_)))
      · blk_simp [idx_val t]; omega
      · blk_simp [idx_val t]; exact h1
    · refine (congrArg _ (eq_ix2 (n0 := 512) (n1 := 1024) x)).trans ((dga (iblk m c 0 t) (iblk m c 1 t) (iblk m c 2 t) (iblk m c 3 t) (iblk m c 4 t) (iblk m c 5 t) (iblk m c 6 t) (iblk m c 7 t) (iblk m c 8 t) (iblk m c 9 t) (iblk m c 10 t) (x 0) (x 1)).trans
        ((MRow.dgates_lo (brow m c t (x 0)) (x 1)).symm.trans (at_emb m c MRow.dgates t (x 0) _ _ _ ?_ ?_)))
      · blk_simp [idx_val t]; omega
      · blk_simp [idx_val t]; exact h1

end Cert.Merge.Ker
-- ==== Proof.MergeGain.lean ====
module

public import proofs.«01_k».proof.Proof.MergeGates
public import proofs.«01_k».proof.Proof.Gen.KernelIdeal.Frame
public import Idealize.ShloMosaic.Lib.Pipeline.ValueKit
public import Idealize.ShloMosaic.Lib.Pipeline.ReadBack

/-!
# The gradient of the group norm's gain

The one output that all grid steps add to: its final value is the sum over all rows.
-/

@[expose] public section

set_option maxRecDepth 16384

noncomputable section

namespace Cert.Merge.Ker

open Cert.KernelIdeal Cert.KernelIdeal.Gen Cert.Scalars
open Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- A head's tile of the gain's gradient. -/
theorem dgr_at (Q : Fin 512 → MRow) (o : ℕ) (ho : o % 256 = 0) (hb : o + 256 ≤ 1024)
    (d : FVec Ideal S512x256 .f32) (y x : FVec Ideal S512x256 .bf16) (a : FVec Ideal S1x256 .f32)
    (hD : ∀ i (l : Fin 256), d (ix2 i l) = (Q i).du ⟨o + l.val, by omega⟩) (hY : ∀ i (l : Fin 256), y (ix2 i l) = (Q i).ry ⟨o + l.val, by omega⟩)
    (hX : ∀ i (l : Fin 256), x (ix2 i l) = (Q i).rg ⟨o + l.val, by omega⟩) (l : Fin 256) :
    dgrT a d y x (ix2 0 l) = a (ix2 0 l) + ∑ i, (Q i).dgr ⟨o + l.val, by omega⟩ := by
  rw [dgrT_apply]; simp only [MRow.dgr, yn_at _ o ho hb, hD, hY, hX, MRow.dyg]

/-- A stored piece of the gain's gradient: what the block held, and the block's rows' parts. -/
theorem dgr_piece (o : ℕ) (ho : o % 256 = 0) (hb : o + 256 ≤ 1024) (P : FVec Ideal S512x1024 .f32 → FVec Ideal S512x256 .f32)
    (hP : ∀ D (i : Fin 512) (l : Fin 256), P D (ix2 i l) = D (ix2 i ⟨o + l.val, by omega⟩)) (inb) (t : Fin cfg0.N) (x : S1x256.Idx) (k : Fin 1024)
    (a : FVec Ideal S1x256 .f32) (v : EReal) (h1 : k.val = o + (x 1).val) (ha : a x = v) :
    dgrT a (P (bdu m c t)) (View.ld (Val := Elt Ideal) (S := S512x1024) (e' := .bf16) (iblk m c 6 t) (Rect.unit ![0, o] ![512, 256] inb))
      (View.ld (Val := Elt Ideal) (S := S512x1024) (e' := .bf16) (iblk m c 5 t) (Rect.unit ![0, o] ![512, 256] inb)) x
      = v + ∑ i, (brow m c t i).dgr k := by
  obtain ⟨j, l, rfl⟩ : ∃ j l, x = ix2 (n0 := 1) (n1 := 256) j l := ⟨x 0, x 1, eq_ix2 x⟩
  obtain rfl : j = 0 := Subsingleton.elim _ _
  have hk : k = ⟨o + l.val, by omega⟩ := Fin.ext h1
  rw [dgr_at (brow m c t) o ho hb _ _ _ _ (fun i l => by rw [hP, bdu_at]) (fun i l => ld_at _ o hb inb _ _) (fun i l => ld_at _ o hb inb _ _) l, ha, hk]

/-- A tile of what the block held, read at a lane. -/
theorem prev_at (b : S1x1024.Idx → EReal) (o : ℕ) (inb) (x : S1x256.Idx) (y : S1x1024.Idx) (h0 : (y 0).val = (x 0).val) (h1 : (y 1).val = o + (x 1).val) :
    (View.ld (Val := Elt Ideal) (S := S1x1024) (e' := .f32) b (Rect.unit ![0, o] ![1, 256] inb) : S1x256.Idx → EReal) x = b y := by
  refine congrArg b (funext fun a => Fin.ext ?_)
  match a with
  | ⟨0, _⟩ => simpa [Rect.unit, LoadRect.idx] using h0.symm
  | ⟨1, _⟩ => simpa [Rect.unit, LoadRect.idx] using h1.symm

/-- Where earlier stores cover an index, the buffer read back there is theirs alone, whatever was stored before them. -/
theorem canon_append_of_mem {S : Shape} {e : EltTy} (L L' : List (View.Piece (Elt Ideal) S e)) (y : S.Idx) (hc : ∃ p ∈ L, y ∈ p.1.set) :
    View.canon (L ++ L') y = View.canon L y := by
  induction L with
  | nil => obtain ⟨p, hp, _⟩ := hc; exact absurd hp List.not_mem_nil
  | cons p L ih =>
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      obtain ⟨q, hq, hyq⟩ := hc
      rcases List.mem_cons.mp hq with rfl | hq
      · exact absurd hyq hm
      · exact ih ⟨q, hq, hyq⟩

/-- Four stores over a fill. -/
theorem canon_four {S : Shape} {e : EltTy} (p3 p2 p1 p0 z : View.Piece (Elt Ideal) S e) (y : S.Idx) (hc : ∃ p ∈ [p3, p2, p1, p0], y ∈ p.1.set) :
    View.canon [p3, p2, p1, p0, z] y = View.canon [p3, p2, p1, p0] y :=
  canon_append_of_mem [p3, p2, p1, p0] [z] y hc

/-- The fill is zero. -/
theorem fill_zero (x : S1x1024.Idx) : k0_pay3 (F := Ideal) x = 0 := by
  idx_vars x
  pointwise [k0_pay3]

/-- The gain's gradient after a point that begins the sum. -/
theorem dgr_first (t : Fin cfg0.N) (h : t.val % 16 = 0) (y : S1x1024.Idx) :
    ((outsAt0 m c t.val t.isLt).2.2.2.2.2.2 : S1x1024.Idx → EReal) y = 0 + ∑ i, (brow m c t i).dgr (y 1) := by
  rw [outsAt0_A m c t h]; dsimp only
  frame_out
  rw [gr0, gr1, gr2, gr3]
  rw [canon_four _ _ _ _ _ y (View.cover_of_tiled_head _ _ _ (by rfl) y)]
  canon_tiles x h
  · refine dgr_piece m c 768 rfl (by norm_num) k0_pay62 D3 _ t x _ _ _ (by omega) ?_
    rw [View.readCov_skip _ _ _ _ _ (by decide), View.readCov_skip _ _ _ _ _ (by decide), View.readCov_skip _ _ _ _ _ (by decide), View.readCov_fill _ _ _ _ _ (by decide)]
    exact fill_zero _
  · refine dgr_piece m c 512 rfl (by norm_num) k0_pay50 D2 _ t x _ _ _ (by omega) ?_
    rw [View.readCov_skip _ _ _ _ _ (by decide), View.readCov_skip _ _ _ _ _ (by decide), View.readCov_fill _ _ _ _ _ (by decide)]
    exact fill_zero _
  · refine dgr_piece m c 256 rfl (by norm_num) k0_pay36 D1 _ t x _ _ _ (by omega) ?_
    rw [View.readCov_skip _ _ _ _ _ (by decide), View.readCov_fill _ _ _ _ _ (by decide)]
    exact fill_zero _
  · refine dgr_piece m c 0 rfl (by norm_num) k0_pay24 D0 _ t x _ _ _ (by omega) ?_
    rw [View.readCov_fill _ _ _ _ _ (by decide)]
    exact fill_zero _

/-- The gain's gradient after any other point. -/
theorem dgr_next (t : Fin cfg0.N) (h : ¬t.val % 16 = 0) (y : S1x1024.Idx) :
    ((outsAt0 m c t.val t.isLt).2.2.2.2.2.2 : S1x1024.Idx → EReal) y
      = ((outsAt0 m c (t.val - 1) (by omega)).2.2.2.2.2.2 : S1x1024.Idx → EReal) y + ∑ i, (brow m c t i).dgr (y 1) := by
  rw [outsAt0_B m c t h]; dsimp only
  frame_out
  rw [gr0, gr1, gr2, gr3]
  canon_tiles x h
  · refine dgr_piece m c 768 rfl (by norm_num) k0_pay62 D3 _ t x _ _ _ (by omega) ?_
    exact prev_at _ 768 _ x y (by omega) (by omega)
  · refine dgr_piece m c 512 rfl (by norm_num) k0_pay50 D2 _ t x _ _ _ (by omega) ?_
    exact prev_at _ 512 _ x y (by omega) (by omega)
  · refine dgr_piece m c 256 rfl (by norm_num) k0_pay36 D1 _ t x _ _ _ (by omega) ?_
    exact prev_at _ 256 _ x y (by omega) (by omega)
  · refine dgr_piece m c 0 rfl (by norm_num) k0_pay24 D0 _ t x _ _ _ (by omega) ?_
    exact prev_at _ 0 _ x y (by omega) (by omega)

/-- Window 17's array: the gain's gradient, the rows' parts summed. -/
theorem final_17 : (dats m 0 c).arrAt 17 cfg0.N = fun y : S1x1024.Idx => ∑ r, (row m c r).dgr (y 1) := by
  refine (dats m 0 c).arrAt_eq_of_after_last 17 t0_15 (by decide +kernel) _ fun j => ?_
  blk_simp [idx_val t0_15]
  rw [after0_17]
  rw [Pipeline.eq_sum_fin_of_reset_step_apply_last (fun n h => ((outsAt0 m c n h).2.2.2.2.2.2 : S1x1024.Idx → EReal)) 16 (fun _ => 0)
    (fun t y => ∑ i, (brow m c t i).dgr (y 1)) (dgr_first m c) (dgr_next m c) (le_of_eq N_0) t0_15 rfl j, zero_add]
  refine Fin.sum_mul_add_congr (S := cfg0.N) (n := 512) (f := fun r : Fin 8192 => (row m c r).dgr (j 1)) (fun t i hl => ?_) (show 8192 = grid0.N * 512 by rw [N_0])
  exact at_emb m c MRow.dgr t i (j 1) _ _ (by show t.val * 512 + i.val = _; omega) rfl

end Cert.Merge.Ker
-- ==== Proof.MergeHeads.lean ====
module

public import proofs.«01_k».proof.Proof.MergeRows
public import proofs.«01_k».proof.Proof.Gen.KernelIdeal.Frame
public import Idealize.ShloMosaic.Lib.Pipeline.ValueKit
public import Idealize.ShloMosaic.Lib.Pipeline.ReadBack

/-!
# The gradients of the retention gate and of the retention output

Both are written head by head; every stored column holds its row's value.
-/

@[expose] public section

set_option maxRecDepth 16384

noncomputable section

namespace Cert.Merge.Ker

open Cert.KernelIdeal Cert.KernelIdeal.Gen Cert.Scalars
open Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- Window 12's array: the retention gate's gradient. -/
theorem final_12 : (dats m 0 c).arrAt 12 cfg0.N = fun y : S8192x1024.Idx => (row m c (y 0)).drg (y 1) := by
  refine (dats m 0 c).arrAt_eq_of_covers 12 _ (by decide +kernel) fun t hf y => ?_
  blk_simp [idx_val t]
  rw [after0_12]
  have e0 : (((View.whole main_v27_1).slice (win0_12.rect t)).emb y 0).val = 512 * t.val + (y 0).val := by blk_simp [idx_val t]; omega
  have e1 : (((View.whole main_v27_1).slice (win0_12.rect t)).emb y 1).val = (y 1).val := by blk_simp [idx_val t]
  generalize ((View.whole main_v27_1).slice (win0_12.rect t)).emb y = z at e0 e1 ⊢
  by_cases h : t.val % 16 = 0
  · rw [outsAt0_A m c t h]; dsimp only
    frame_out
    rw [rg0, rg1, rg2, rg3]
    canon_tiles x h
    · refine drg_piece m c 768 rfl (by norm_num) k0_pay62 D3 _ _ t x _ _ (by omega) (by omega)
    · refine drg_piece m c 512 rfl (by norm_num) k0_pay50 D2 _ _ t x _ _ (by omega) (by omega)
    · refine drg_piece m c 256 rfl (by norm_num) k0_pay36 D1 _ _ t x _ _ (by omega) (by omega)
    · refine drg_piece m c 0 rfl (by norm_num) k0_pay24 D0 _ _ t x _ _ (by omega) (by omega)
  · rw [outsAt0_B m c t h]; dsimp only
    frame_out
    rw [rg0, rg1, rg2, rg3]
    canon_tiles x h
    · refine drg_piece m c 768 rfl (by norm_num) k0_pay62 D3 _ _ t x _ _ (by omega) (by omega)
    · refine drg_piece m c 512 rfl (by norm_num) k0_pay50 D2 _ _ t x _ _ (by omega) (by omega)
    · refine drg_piece m c 256 rfl (by norm_num) k0_pay36 D1 _ _ t x _ _ (by omega) (by omega)
    · refine drg_piece m c 0 rfl (by norm_num) k0_pay24 D0 _ _ t x _ _ (by omega) (by omega)

/-- Window 16's array: the retention output's gradient. -/
theorem final_16 : (dats m 0 c).arrAt 16 cfg0.N = fun y : S8192x1024.Idx => (row m c (y 0)).dry (y 1) := by
  refine (dats m 0 c).arrAt_eq_of_covers 16 _ (by decide +kernel) fun t hf y => ?_
  blk_simp [idx_val t]
  rw [after0_16]
  have e0 : (((View.whole main_v27_5).slice (win0_16.rect t)).emb y 0).val = 512 * t.val + (y 0).val := by blk_simp [idx_val t]; omega
  have e1 : (((View.whole main_v27_5).slice (win0_16.rect t)).emb y 1).val = (y 1).val := by blk_simp [idx_val t]
  generalize ((View.whole main_v27_5).slice (win0_16.rect t)).emb y = z at e0 e1 ⊢
  by_cases h : t.val % 16 = 0
  · rw [outsAt0_A m c t h]; dsimp only
    frame_out
    rw [ry0, ry1, ry2, ry3]
    canon_tiles x h
    · refine dry_piece m c 768 rfl (by norm_num) k0_pay62 D3 _ _ t x _ _ (by omega) (by omega)
    · refine dry_piece m c 512 rfl (by norm_num) k0_pay50 D2 _ _ t x _ _ (by omega) (by omega)
    · refine dry_piece m c 256 rfl (by norm_num) k0_pay36 D1 _ _ t x _ _ (by omega) (by omega)
    · refine dry_piece m c 0 rfl (by norm_num) k0_pay24 D0 _ _ t x _ _ (by omega) (by omega)
  · rw [outsAt0_B m c t h]; dsimp only
    frame_out
    rw [ry0, ry1, ry2, ry3]
    canon_tiles x h
    · refine dry_piece m c 768 rfl (by norm_num) k0_pay62 D3 _ _ t x _ _ (by omega) (by omega)
    · refine dry_piece m c 512 rfl (by norm_num) k0_pay50 D2 _ _ t x _ _ (by omega) (by omega)
    · refine dry_piece m c 256 rfl (by norm_num) k0_pay36 D1 _ _ t x _ _ (by omega) (by omega)
    · refine dry_piece m c 0 rfl (by norm_num) k0_pay24 D0 _ _ t x _ _ (by omega) (by omega)

end Cert.Merge.Ker
-- ==== Proof.MergeReference.lean ====
/- MergeReference: what the reference's operations compute at a row, in MergeSpec's words. -/
module

public import proofs.«01_k».proof.Proof.MergeSpec
public import proofs.«01_k».proof.Proof.Gen.ReferenceIdeal.Read

@[expose] public section

set_option maxRecDepth 16384

noncomputable section

namespace Cert.Merge.Ref

open Cert.ReferenceIdeal Cert.ReferenceIdeal.Gen Cert.ReferenceIdeal.Read Cert.Scalars
open Idealize.ShloMosaic Idealize.ShloMosaic.TcCoe Idealize.SL.Sem
open scoped BigOperators

variable (x0 : FVec Ideal S8192x1024 .f32) (x1 x2 x3 x4 x5 : FVec Ideal S8192x1024 .bf16) (x6 : FVec Ideal S1x1024 .f32)
  (x7 x8 x9 : FVec Ideal S1024x1024 .bf16)

/-- The operands of row `r`, the gated retention output being the one the reference's own lines compute. -/
def row (r : Fin 8192) : MRow where
  dx k := x0 (ix2 r k)
  ga k := x1 (ix2 r k)
  gb k := x2 (ix2 r k)
  u k := val_main_v34 (F := Ideal) x4 x5 x6 (ix2 r k)
  ay k := x3 (ix2 r k)
  rg k := x4 (ix2 r k)
  ry k := x5 (ix2 r k)
  g k := x6 (ix2 0 k)
  wr j k := x7 (ix2 j k)
  wa j k := x8 (ix2 j k)
  wo j k := x9 (ix2 j k)

/-- The logistic function of the retention branch's gate. -/
theorem sga (r : Fin 8192) (k : Fin 1024) : val_main_v42 (F := Ideal) x1 (ix2 r k) = sg (x1 (ix2 r k)) := by
  pointwise [val_main_v42, val_main_v41, val_main_cst_6, val_main_v40, val_main_v39, val_main_cst_5, val_main_v38, val_main_v37, val_main_v0, sg]

/-- The logistic function of the attention branch's gate. -/
theorem sgb (r : Fin 8192) (k : Fin 1024) : val_main_v52 (F := Ideal) x2 (ix2 r k) = sg (x2 (ix2 r k)) := by
  pointwise [val_main_v52, val_main_v51, val_main_cst_9, val_main_v50, val_main_v49, val_main_cst_8, val_main_v48, val_main_v47, val_main_v1, sg]

/-- The logistic function of the retention output's gate. -/
theorem sgr (r : Fin 8192) (k : Fin 1024) : val_main_v33_2 (F := Ideal) x4 (ix2 r k) = sg (x4 (ix2 r k)) := by
  pointwise [val_main_v33_2, val_main_call0_v4, val_main_call0_cst_0, val_main_call0_v3, val_main_call0_v2, val_main_call0_cst, val_main_call0_v1, val_main_call0_v0, val_main_v3, sg]

/-- The retention output's gate times its logistic function. -/
theorem silu (r : Fin 8192) (k : Fin 1024) : val_main_v33_0 (F := Ideal) x4 (ix2 r k) = x4 (ix2 r k) * sg (x4 (ix2 r k)) := by
  pointwise [val_main_v33_0, val_main_v3, sgr]

/-- The logistic function's derivative at the retention output's gate. -/
theorem dsgr (r : Fin 8192) (k : Fin 1024) : val_main_v33_1 (F := Ideal) x4 (ix2 r k) = sg (x4 (ix2 r k)) * (1 - sg (x4 (ix2 r k))) := by
  pointwise [val_main_v33_1, val_main_call0_v7, val_main_call0_v6, val_main_call0_cst_1, sgr]

/-- The cotangent of the merged sum. -/
theorem dm (r : Fin 8192) (k : Fin 1024) : val_main_v59 (F := Ideal) x0 x9 (ix2 r k) = (row x0 x1 x2 x3 x4 x5 x6 x7 x8 x9 r).dm k := by
  pointwise [val_main_v59, val_main_v7, MRow.dm, row]

/-- The retention branch's projected output. -/
theorem ba (r : Fin 8192) (k : Fin 1024) : val_main_v35 (F := Ideal) x4 x5 x6 x7 (ix2 r k) = (row x0 x1 x2 x3 x4 x5 x6 x7 x8 x9 r).ba k := by
  pointwise [val_main_v35, val_main_v5, MRow.ba, row]

/-- The attention branch's projected output. -/
theorem bb (r : Fin 8192) (k : Fin 1024) : val_main_v36 (F := Ideal) x3 x8 (ix2 r k) = (row x0 x1 x2 x3 x4 x5 x6 x7 x8 x9 r).bb k := by
  pointwise [val_main_v36, val_main_v2, val_main_v6, MRow.bb, row]

/-- The retention branch's gate's gradient. -/
theorem dga (r : Fin 8192) (k : Fin 1024) : val_main_v65 (F := Ideal) x0 x1 x4 x5 x6 x7 x9 (ix2 r k) = (row x0 x1 x2 x3 x4 x5 x6 x7 x8 x9 r).dga k := by
  pointwise [val_main_v65, val_main_v64, val_main_v45, val_main_v44, val_main_v43, val_main_cst_7, sga x1]
  rw [dm x0 x1 x2 x3 x4 x5 x6 x7 x8 x9, ba x0 x1 x2 x3 x4 x5 x6 x7 x8 x9]; rfl

/-- The attention branch's gate's gradient. -/
theorem dgb (r : Fin 8192) (k : Fin 1024) : val_main_v62 (F := Ideal) x0 x2 x3 x8 x9 (ix2 r k) = (row x0 x1 x2 x3 x4 x5 x6 x7 x8 x9 r).dgb k := by
  pointwise [val_main_v62, val_main_v61, val_main_v55, val_main_v54, val_main_v53, val_main_cst_10, sgb x2]
  rw [dm x0 x1 x2 x3 x4 x5 x6 x7 x8 x9, bb x0 x1 x2 x3 x4 x5 x6 x7 x8 x9]; rfl

/-- The cotangent of the retention branch's projected output. -/
theorem dba (r : Fin 8192) (k : Fin 1024) : val_main_v63 (F := Ideal) x0 x1 x9 (ix2 r k) = (row x0 x1 x2 x3 x4 x5 x6 x7 x8 x9 r).dba k := by
  pointwise [val_main_v63, sga x1]
  rw [dm x0 x1 x2 x3 x4 x5 x6 x7 x8 x9, mul_comm]; rfl

/-- The cotangent of the attention branch's projected output. -/
theorem dbb (r : Fin 8192) (k : Fin 1024) : val_main_v60 (F := Ideal) x0 x2 x9 (ix2 r k) = (row x0 x1 x2 x3 x4 x5 x6 x7 x8 x9 r).dbb k := by
  pointwise [val_main_v60, sgb x2]
  rw [dm x0 x1 x2 x3 x4 x5 x6 x7 x8 x9, mul_comm]; rfl

/-- The attention output's gradient. -/
theorem day (r : Fin 8192) (k : Fin 1024) : val_main_v66 (F := Ideal) x0 x2 x8 x9 (ix2 r k) = (row x0 x1 x2 x3 x4 x5 x6 x7 x8 x9 r).day k := by
  pointwise [val_main_v66, val_main_v6]
  exact Finset.sum_congr rfl fun j _ => by rw [dbb x0 x1 x2 x3 x4 x5 x6 x7 x8 x9]; rfl

/-- The cotangent of the gated retention output. -/
theorem du (r : Fin 8192) (k : Fin 1024) : val_main_v67 (F := Ideal) x0 x1 x7 x9 (ix2 r k) = (row x0 x1 x2 x3 x4 x5 x6 x7 x8 x9 r).du k := by
  pointwise [val_main_v67, val_main_v5]
  exact Finset.sum_congr rfl fun j _ => by rw [dba x0 x1 x2 x3 x4 x5 x6 x7 x8 x9]; rfl

/-- The lanes of head `h` of row `r` of the retention output. -/
def yh (r : Fin 8192) (h : Fin 4) (l : Fin 256) : EReal := x5 (ix2 r ⟨h.val * 256 + l.val, by omega⟩)

/-- The centred retention output. -/
theorem cen (r : Fin 8192) (h : Fin 4) (l : Fin 256) : val_main_v15 (F := Ideal) x5 (ix3 r h l) = gcen (yh x5 r h) l := by
  pointwise [val_main_v15, val_main_v8, val_main_v4, val_main_v14, val_main_v13, val_main_v11, val_main_v10, val_main_cst, val_main_v12, val_main_cst_0, gcen, gmean, yh]

/-- The variance plus the small constant. -/
theorem ve (r : Fin 8192) (h : Fin 4) : val_main_v22 (F := Ideal) x5 (ix3 r h 0) = gve (yh x5 r h) := by
  pointwise [val_main_v22, val_main_v20, val_main_v18, val_main_v17, val_main_v16, val_main_cst_1, val_main_v19, val_main_cst_2, val_main_v21, val_main_cst_3, gve, gmean, cen]

/-- The reciprocal deviation. -/
theorem rstd (r : Fin 8192) (h : Fin 4) : val_main_v23 (F := Ideal) x5 (ix3 r h 0) = grstd (yh x5 r h) := by
  pointwise [val_main_v23, grstd, ve]

/-- The normalised retention output. -/
theorem yn (r : Fin 8192) (h : Fin 4) (l : Fin 256) : val_main_v28 (F := Ideal) x5 (ix3 r h l) = gyn (yh x5 r h) l := by
  pointwise [val_main_v28, val_main_v27, gyn, cen, rstd]

/-- The normalised retention output at a column. -/
theorem yn2 (r : Fin 8192) (k : Fin 1024) : val_main_v29 (F := Ideal) x5 (ix2 r k) = (row x0 x1 x2 x3 x4 x5 x6 x7 x8 x9 r).yn k := by
  pointwise [val_main_v29]
  exact yn x5 r ⟨k.val / 256, by omega⟩ (ln k)

/-- The gain at a column. -/
theorem gain (r : Fin 8192) (k : Fin 1024) : val_main_v31 (F := Ideal) x6 (ix2 r k) = x6 (ix2 0 k) := by
  pointwise [val_main_v31, val_main_v30, val_main_v9]

/-- The retention output's gate's gradient. -/
theorem drg (r : Fin 8192) (k : Fin 1024) (hq : (row x0 x1 x2 x3 x4 x5 x6 x7 x8 x9 r).Real) :
    val_main_v70 (F := Ideal) x0 x1 x4 x5 x6 x7 x9 (ix2 r k) = (row x0 x1 x2 x3 x4 x5 x6 x7 x8 x9 r).drg k := by
  pointwise [val_main_v70, val_main_call1_v1, val_main_call1_v2, val_main_call1_v0, val_main_v69, val_main_v32, val_main_v3, sgr, dsgr, gain]
  rw [yn2 x0 x1 x2 x3 x4 x5 x6 x7 x8 x9, du x0 x1 x2 x3 x4 x5 x6 x7 x8 x9]
  exact silu_bwd ((hq.du k).mul ((hq.yn k).mul (hq.g k))) (hq.rg k)

/-- The cotangent of the scaled, normalised retention output. -/
theorem dyg (r : Fin 8192) (k : Fin 1024) : val_main_v68 (F := Ideal) x0 x1 x4 x7 x9 (ix2 r k) = (row x0 x1 x2 x3 x4 x5 x6 x7 x8 x9 r).dyg k := by
  pointwise [val_main_v68, silu]
  rw [du x0 x1 x2 x3 x4 x5 x6 x7 x8 x9, mul_comm]; rfl

/-- The gain's gradient: the sum of the rows' parts. -/
theorem dgr (k : Fin 1024) : val_main_v100 (F := Ideal) x0 x1 x4 x5 x7 x9 (ix2 0 k) = ∑ r, (row x0 x1 x2 x3 x4 x5 x6 x7 x8 x9 r).dgr k := by
  pointwise [val_main_v100, val_main_v76, val_main_v73, val_main_v72, val_main_cst_11, val_main_cst_12, val_main_v71]
  rw [Fin.sum_univ_one]
  exact Finset.sum_congr rfl fun r _ => by rw [yn2 x0 x1 x2 x3 x4 x5 x6 x7 x8 x9, dyg x0 x1 x2 x3 x4 x5 x6 x7 x8 x9, mul_comm]; rfl

/-- The retention output's gradient at a head's lane. -/
theorem dry3 (r : Fin 8192) (h : Fin 4) (l : Fin 256) : val_main_v99 (F := Ideal) x0 x1 x4 x5 x6 x7 x9 (ix3 r h l)
    = gnormVjp (yh x5 r h) (fun l => (row x0 x1 x2 x3 x4 x5 x6 x7 x8 x9 r).dyg ⟨h.val * 256 + l.val, by omega⟩ * x6 (ix2 0 ⟨h.val * 256 + l.val, by omega⟩)) l := by
  pointwise [val_main_v99, val_main_v91, val_main_v89, val_main_v82, val_main_v77, val_main_v75, val_main_v74, val_main_v30, val_main_v9, val_main_v81, val_main_v88, val_main_v87, val_main_v86, val_main_v85, val_main_v83, val_main_v80, val_main_v79, val_main_v78, val_main_cst_13, val_main_v26, val_main_v25, val_main_cst_4, val_main_v24, val_main_v84, val_main_cst_14, val_main_cst_15, val_main_v90, val_main_v98, val_main_v97, val_main_v96, val_main_v94, val_main_v93, val_main_v92, val_main_cst_16, val_main_v95, val_main_cst_17, val_main_cst_18, cen, ve, rstd, gnormVjp]
  simp only [Fin.sum_univ_one, ve, rstd, dyg x0 x1 x2 x3 x4 x5 x6 x7 x8 x9]

/-- The retention output's gradient at a column. -/
theorem dry (r : Fin 8192) (k : Fin 1024) (hq : (row x0 x1 x2 x3 x4 x5 x6 x7 x8 x9 r).Real) :
    val_main_v101 (F := Ideal) x0 x1 x4 x5 x6 x7 x9 (ix2 r k) = (row x0 x1 x2 x3 x4 x5 x6 x7 x8 x9 r).dry k := by
  pointwise [val_main_v101]
  exact (dry3 x0 x1 x2 x3 x4 x5 x6 x7 x8 x9 r ⟨k.val / 256, by omega⟩ (ln k)).trans
    (gnormVjp_eq (fun l => hq.ry _) (fun l => (hq.dyg _).mul (hq.g _)) _)

/-- The two gates' gradients beside each other. -/
theorem dgates (r : Fin 8192) (k : Fin 2048) : val_main_v102 (F := Ideal) x0 x1 x2 x3 x4 x5 x6 x7 x8 x9 (ix2 r k) = (row x0 x1 x2 x3 x4 x5 x6 x7 x8 x9 r).dgates k := by
  pointwise [val_main_v102]
  unfold MRow.dgates
  split
  · exact dga x0 x1 x2 x3 x4 x5 x6 x7 x8 x9 r _
  · exact dgb x0 x1 x2 x3 x4 x5 x6 x7 x8 x9 r _

end Cert.Merge.Ref
-- ==== Proof.MergeClaim.lean ====
/- MergeClaim: the kernel's arrays are the reference's, at real operands. -/
module

public import proofs.«01_k».proof.Proof.MergeGain
public import proofs.«01_k».proof.Proof.MergeHeads
public import proofs.«01_k».proof.Proof.MergeReference
public import proofs.«01_k».proof.Defs

@[expose] public section

set_option maxRecDepth 16384

noncomputable section

namespace Cert.Merge

open Cert.KernelIdeal Cert.KernelIdeal.Gen Cert.Scalars
open Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- The gated retention output the launch reads is the one the reference's lines compute. -/
theorem u_eq : (V m c main_v26 : FVec Ideal S8192x1024 .bf16)
    = Cert.ReferenceIdeal.Read.val_main_v34 (F := Ideal) (V m c main_arg4) (V m c main_arg5) (V m c main_arg6) := by
  entry_read
  rfl

/-- The launch's rows are the reference's. -/
theorem row_eq (r : Fin 8192) : Ker.row m c r = Ref.row (V m c main_arg0) (V m c main_arg1) (V m c main_arg2) (V m c main_arg3) (V m c main_arg4) (V m c main_arg5)
    (V m c main_arg6) (V m c main_arg7) (V m c main_arg8) (V m c main_arg9) r := by
  unfold Ker.row Ref.row
  rw [u_eq]

/-- The bit pattern the precondition compares against is infinity. -/
theorem ofBits_top : Ideal.ofBits .f32 2139095040#32 = (⊤ : EReal) := by
  simp [Ideal.ofBits, Ideal.ieee]

/-- A value below infinity in absolute value is real. -/
theorem isReal_of_cmp (x : EReal) (h : BitVec.ofBool (decide (FloatOps.absf (F := Ideal) (φ := .f32) x < Ideal.ofBits .f32 2139095040#32)) = 1#1) : IsReal x := by
  have h' : (FloatOps.absf (F := Ideal) (φ := .f32) x : EReal) < ⊤ := by
    rw [ofBits_top] at h
    by_contra hc
    rw [decide_eq_false hc] at h
    exact absurd h (by decide)
  refine isReal_of_abs_lt ?_ ?_
  · rintro rfl; simp [FloatOps.absf] at h'
  · rintro rfl; simp [FloatOps.absf] at h'

/-- Where the precondition holds, every row's operands are real. -/
theorem real_of_pre [Cert.Pre_finite_merge.Facts] (h : Cert.Pre_KernelIdeal_finite_merge m) (r : Fin 8192) : (Ker.row m c r).Real := by
  obtain ⟨h0, h1, h2, h3, h4, h5⟩ := h c
  constructor
  · intro k
    have := congrFun h0 (ix2 r k)
    pointwise [Cert.Pre_finite_merge.fn, Cert.Pre_finite_merge.fn_part1] at this
    exact isReal_of_cmp _ this
  · intro k
    have := congrFun h1 (ix2 r k)
    pointwise [Cert.Pre_finite_merge.fn, Cert.Pre_finite_merge.fn_part1] at this
    exact isReal_of_cmp _ this
  · intro k
    have := congrFun h2 (ix2 r k)
    pointwise [Cert.Pre_finite_merge.fn, Cert.Pre_finite_merge.fn_part1] at this
    exact isReal_of_cmp _ this
  · intro k
    have := congrFun h3 (ix2 0 k)
    pointwise [Cert.Pre_finite_merge.fn, Cert.Pre_finite_merge.fn_part1] at this
    exact isReal_of_cmp _ this
  · intro j k
    have := congrFun h4 (ix2 j k)
    pointwise [Cert.Pre_finite_merge.fn, Cert.Pre_finite_merge.fn_part1] at this
    exact isReal_of_cmp _ this
  · intro j k
    have := congrFun h5 (ix2 j k)
    pointwise [Cert.Pre_finite_merge.fn, Cert.Pre_finite_merge.fn_part1] at this
    exact isReal_of_cmp _ this

/-- Window 11 ends holding the reference's result: the two gates' gradients. -/
theorem out_11 : (dats m 0 c).arrAt 11 cfg0.N = Cert.ReferenceIdeal.Read.val_main_v103 (F := Ideal) (V m c main_arg0) (V m c main_arg1) (V m c main_arg2) (V m c main_arg3) (V m c main_arg4) (V m c main_arg5) (V m c main_arg6) (V m c main_arg7) (V m c main_arg8) (V m c main_arg9) := by
  rw [Ker.final_11]
  funext y
  obtain ⟨r, k, rfl⟩ : ∃ r k, y = ix2 (n0 := 8192) (n1 := 2048) r k := ⟨y 0, y 1, eq_ix2 y⟩
  exact (congrArg (fun q : MRow => q.dgates k) (row_eq m c r)).trans (Ref.dgates (V m c main_arg0) (V m c main_arg1) (V m c main_arg2) (V m c main_arg3) (V m c main_arg4) (V m c main_arg5) (V m c main_arg6) (V m c main_arg7) (V m c main_arg8) (V m c main_arg9) r k).symm

/-- Window 12 ends holding the reference's result: the retention gate's gradient. -/
theorem out_12 [Cert.Pre_finite_merge.Facts] (h : Cert.Pre_KernelIdeal_finite_merge m) : (dats m 0 c).arrAt 12 cfg0.N = Cert.ReferenceIdeal.Read.val_main_v104 (F := Ideal) (V m c main_arg0) (V m c main_arg1) (V m c main_arg4) (V m c main_arg5) (V m c main_arg6) (V m c main_arg7) (V m c main_arg9) := by
  rw [Ker.final_12]
  funext y
  obtain ⟨r, k, rfl⟩ : ∃ r k, y = ix2 (n0 := 8192) (n1 := 1024) r k := ⟨y 0, y 1, eq_ix2 y⟩
  exact (congrArg (fun q : MRow => q.drg k) (row_eq m c r)).trans (Ref.drg (V m c main_arg0) (V m c main_arg1) (V m c main_arg2) (V m c main_arg3) (V m c main_arg4) (V m c main_arg5) (V m c main_arg6) (V m c main_arg7) (V m c main_arg8) (V m c main_arg9) r k (row_eq m c r ▸ real_of_pre m c h r)).symm

/-- Window 13 ends holding the reference's result: the cotangent of the retention branch's projected output. -/
theorem out_13 : (dats m 0 c).arrAt 13 cfg0.N = Cert.ReferenceIdeal.Read.val_main_v105 (F := Ideal) (V m c main_arg0) (V m c main_arg1) (V m c main_arg9) := by
  rw [Ker.final_13]
  funext y
  obtain ⟨r, k, rfl⟩ : ∃ r k, y = ix2 (n0 := 8192) (n1 := 1024) r k := ⟨y 0, y 1, eq_ix2 y⟩
  exact (congrArg (fun q : MRow => q.dba k) (row_eq m c r)).trans (Ref.dba (V m c main_arg0) (V m c main_arg1) (V m c main_arg2) (V m c main_arg3) (V m c main_arg4) (V m c main_arg5) (V m c main_arg6) (V m c main_arg7) (V m c main_arg8) (V m c main_arg9) r k).symm

/-- Window 14 ends holding the reference's result: the cotangent of the attention branch's projected output. -/
theorem out_14 : (dats m 0 c).arrAt 14 cfg0.N = Cert.ReferenceIdeal.Read.val_main_v106 (F := Ideal) (V m c main_arg0) (V m c main_arg2) (V m c main_arg9) := by
  rw [Ker.final_14]
  funext y
  obtain ⟨r, k, rfl⟩ : ∃ r k, y = ix2 (n0 := 8192) (n1 := 1024) r k := ⟨y 0, y 1, eq_ix2 y⟩
  exact (congrArg (fun q : MRow => q.dbb k) (row_eq m c r)).trans (Ref.dbb (V m c main_arg0) (V m c main_arg1) (V m c main_arg2) (V m c main_arg3) (V m c main_arg4) (V m c main_arg5) (V m c main_arg6) (V m c main_arg7) (V m c main_arg8) (V m c main_arg9) r k).symm

/-- Window 15 ends holding the reference's result: the attention output's gradient. -/
theorem out_15 : (dats m 0 c).arrAt 15 cfg0.N = Cert.ReferenceIdeal.Read.val_main_v107 (F := Ideal) (V m c main_arg0) (V m c main_arg2) (V m c main_arg8) (V m c main_arg9) := by
  rw [Ker.final_15]
  funext y
  obtain ⟨r, k, rfl⟩ : ∃ r k, y = ix2 (n0 := 8192) (n1 := 1024) r k := ⟨y 0, y 1, eq_ix2 y⟩
  exact (congrArg (fun q : MRow => q.day k) (row_eq m c r)).trans (Ref.day (V m c main_arg0) (V m c main_arg1) (V m c main_arg2) (V m c main_arg3) (V m c main_arg4) (V m c main_arg5) (V m c main_arg6) (V m c main_arg7) (V m c main_arg8) (V m c main_arg9) r k).symm

/-- Window 16 ends holding the reference's result: the retention output's gradient. -/
theorem out_16 [Cert.Pre_finite_merge.Facts] (h : Cert.Pre_KernelIdeal_finite_merge m) : (dats m 0 c).arrAt 16 cfg0.N = Cert.ReferenceIdeal.Read.val_main_v108 (F := Ideal) (V m c main_arg0) (V m c main_arg1) (V m c main_arg4) (V m c main_arg5) (V m c main_arg6) (V m c main_arg7) (V m c main_arg9) := by
  rw [Ker.final_16]
  funext y
  obtain ⟨r, k, rfl⟩ : ∃ r k, y = ix2 (n0 := 8192) (n1 := 1024) r k := ⟨y 0, y 1, eq_ix2 y⟩
  exact (congrArg (fun q : MRow => q.dry k) (row_eq m c r)).trans (Ref.dry (V m c main_arg0) (V m c main_arg1) (V m c main_arg2) (V m c main_arg3) (V m c main_arg4) (V m c main_arg5) (V m c main_arg6) (V m c main_arg7) (V m c main_arg8) (V m c main_arg9) r k (row_eq m c r ▸ real_of_pre m c h r)).symm

/-- Window 17 ends holding the reference's result: the gain's gradient. -/
theorem out_17 : (dats m 0 c).arrAt 17 cfg0.N = Cert.ReferenceIdeal.Read.val_main_v100 (F := Ideal) (V m c main_arg0) (V m c main_arg1) (V m c main_arg4) (V m c main_arg5) (V m c main_arg7) (V m c main_arg9) := by
  rw [Ker.final_17]
  funext y
  obtain ⟨r, k, rfl⟩ : ∃ r k, y = ix2 (n0 := 1) (n1 := 1024) r k := ⟨y 0, y 1, eq_ix2 y⟩
  obtain rfl : r = 0 := Subsingleton.elim _ _
  exact (Finset.sum_congr rfl fun r _ => congrArg (fun q : MRow => q.dgr k) (row_eq m c r)).trans (Ref.dgr (V m c main_arg0) (V m c main_arg1) (V m c main_arg2) (V m c main_arg3) (V m c main_arg4) (V m c main_arg5) (V m c main_arg6) (V m c main_arg7) (V m c main_arg8) (V m c main_arg9) k).symm

/-- Over arguments that agree, the reference's result is window 11's array. -/
theorem of_agree_11 (x0 : FVec Ideal S8192x1024 .f32) (x1 : FVec Ideal S8192x1024 .bf16) (x2 : FVec Ideal S8192x1024 .bf16) (x3 : FVec Ideal S8192x1024 .bf16) (x4 : FVec Ideal S8192x1024 .bf16) (x5 : FVec Ideal S8192x1024 .bf16) (x6 : FVec Ideal S1x1024 .f32) (x7 : FVec Ideal S1024x1024 .bf16) (x8 : FVec Ideal S1024x1024 .bf16) (x9 : FVec Ideal S1024x1024 .bf16)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) (e4 : x4 = m ((c.tc : Thread nD τ).loc main_arg4)) (e5 : x5 = m ((c.tc : Thread nD τ).loc main_arg5)) (e6 : x6 = m ((c.tc : Thread nD τ).loc main_arg6)) (e7 : x7 = m ((c.tc : Thread nD τ).loc main_arg7)) (e8 : x8 = m ((c.tc : Thread nD τ).loc main_arg8)) (e9 : x9 = m ((c.tc : Thread nD τ).loc main_arg9)) :
    Cert.ReferenceIdeal.Read.val_main_v103 (F := Ideal) x0 x1 x2 x3 x4 x5 x6 x7 x8 x9 = (dats m 0 c).arrAt 11 cfg0.N := by
  subst e0 e1 e2 e3 e4 e5 e6 e7 e8 e9
  exact (out_11 m c).symm

/-- Over arguments that agree, the reference's result is window 12's array. -/
theorem of_agree_12 [Cert.Pre_finite_merge.Facts] (h : Cert.Pre_KernelIdeal_finite_merge m) (x0 : FVec Ideal S8192x1024 .f32) (x1 : FVec Ideal S8192x1024 .bf16) (x4 : FVec Ideal S8192x1024 .bf16) (x5 : FVec Ideal S8192x1024 .bf16) (x6 : FVec Ideal S1x1024 .f32) (x7 : FVec Ideal S1024x1024 .bf16) (x9 : FVec Ideal S1024x1024 .bf16)
    (e0 : x0 = m ((c.tc : Thread nD τ).loc main_arg0)) (e1 : x1 = m ((c.tc : Thread nD τ).loc main_arg1)) (e4 : x4 = m ((c.tc : Thread nD τ).loc main_arg4)) (e5 : x5 = m ((c.tc : Thread nD τ).loc main_arg5)) (e6 : x6 = m ((c.tc : Thread nD τ).loc main_arg6)) (e7 : x7 = m ((c.tc : Thread nD τ).loc main_arg7)) (e9 : x9 = m ((c.tc : Thread nD τ).loc main_arg9)) :
    Cert.ReferenceIdeal.Read.val_main_v104 (F := Ideal) x0 x1 x4 x5 x6 x7 x9 = (dats m 0 c).arrAt 12 cfg0.N := by
  subst e0 e1 e4 e5 e6 e7 e9
  exact (out_12 m c h).symm

/-- Over arguments that agree, the reference's result is window 13's array. -/
theorem of_agree_13 (x0 : FVec Ideal S8192x1024 .f32) (x1 : FVec Ideal S8192x1024 .bf16) (x9 : FVec Ideal S1024x1024 .bf16)
    (e0 : x0 = m ((c.tc : Thread nD τ).loc main_arg0)) (e1 : x1 = m ((c.tc : Thread nD τ).loc main_arg1)) (e9 : x9 = m ((c.tc : Thread nD τ).loc main_arg9)) :
    Cert.ReferenceIdeal.Read.val_main_v105 (F := Ideal) x0 x1 x9 = (dats m 0 c).arrAt 13 cfg0.N := by
  subst e0 e1 e9
  exact (out_13 m c).symm

/-- Over arguments that agree, the reference's result is window 14's array. -/
theorem of_agree_14 (x0 : FVec Ideal S8192x1024 .f32) (x2 : FVec Ideal S8192x1024 .bf16) (x9 : FVec Ideal S1024x1024 .bf16)
    (e0 : x0 = m ((c.tc : Thread nD τ).loc main_arg0)) (e2 : x2 = m ((c.tc : Thread nD τ).loc main_arg2)) (e9 : x9 = m ((c.tc : Thread nD τ).loc main_arg9)) :
    Cert.ReferenceIdeal.Read.val_main_v106 (F := Ideal) x0 x2 x9 = (dats m 0 c).arrAt 14 cfg0.N := by
  subst e0 e2 e9
  exact (out_14 m c).symm

/-- Over arguments that agree, the reference's result is window 15's array. -/
theorem of_agree_15 (x0 : FVec Ideal S8192x1024 .f32) (x2 : FVec Ideal S8192x1024 .bf16) (x8 : FVec Ideal S1024x1024 .bf16) (x9 : FVec Ideal S1024x1024 .bf16)
    (e0 : x0 = m ((c.tc : Thread nD τ).loc main_arg0)) (e2 : x2 = m ((c.tc : Thread nD τ).loc main_arg2)) (e8 : x8 = m ((c.tc : Thread nD τ).loc main_arg8)) (e9 : x9 = m ((c.tc : Thread nD τ).loc main_arg9)) :
    Cert.ReferenceIdeal.Read.val_main_v107 (F := Ideal) x0 x2 x8 x9 = (dats m 0 c).arrAt 15 cfg0.N := by
  subst e0 e2 e8 e9
  exact (out_15 m c).symm

/-- Over arguments that agree, the reference's result is window 16's array. -/
theorem of_agree_16 [Cert.Pre_finite_merge.Facts] (h : Cert.Pre_KernelIdeal_finite_merge m) (x0 : FVec Ideal S8192x1024 .f32) (x1 : FVec Ideal S8192x1024 .bf16) (x4 : FVec Ideal S8192x1024 .bf16) (x5 : FVec Ideal S8192x1024 .bf16) (x6 : FVec Ideal S1x1024 .f32) (x7 : FVec Ideal S1024x1024 .bf16) (x9 : FVec Ideal S1024x1024 .bf16)
    (e0 : x0 = m ((c.tc : Thread nD τ).loc main_arg0)) (e1 : x1 = m ((c.tc : Thread nD τ).loc main_arg1)) (e4 : x4 = m ((c.tc : Thread nD τ).loc main_arg4)) (e5 : x5 = m ((c.tc : Thread nD τ).loc main_arg5)) (e6 : x6 = m ((c.tc : Thread nD τ).loc main_arg6)) (e7 : x7 = m ((c.tc : Thread nD τ).loc main_arg7)) (e9 : x9 = m ((c.tc : Thread nD τ).loc main_arg9)) :
    Cert.ReferenceIdeal.Read.val_main_v108 (F := Ideal) x0 x1 x4 x5 x6 x7 x9 = (dats m 0 c).arrAt 16 cfg0.N := by
  subst e0 e1 e4 e5 e6 e7 e9
  exact (out_16 m c h).symm

/-- Over arguments that agree, the reference's result is window 17's array. -/
theorem of_agree_17 (x0 : FVec Ideal S8192x1024 .f32) (x1 : FVec Ideal S8192x1024 .bf16) (x4 : FVec Ideal S8192x1024 .bf16) (x5 : FVec Ideal S8192x1024 .bf16) (x7 : FVec Ideal S1024x1024 .bf16) (x9 : FVec Ideal S1024x1024 .bf16)
    (e0 : x0 = m ((c.tc : Thread nD τ).loc main_arg0)) (e1 : x1 = m ((c.tc : Thread nD τ).loc main_arg1)) (e4 : x4 = m ((c.tc : Thread nD τ).loc main_arg4)) (e5 : x5 = m ((c.tc : Thread nD τ).loc main_arg5)) (e7 : x7 = m ((c.tc : Thread nD τ).loc main_arg7)) (e9 : x9 = m ((c.tc : Thread nD τ).loc main_arg9)) :
    Cert.ReferenceIdeal.Read.val_main_v100 (F := Ideal) x0 x1 x4 x5 x7 x9 = (dats m 0 c).arrAt 17 cfg0.N := by
  subst e0 e1 e4 e5 e7 e9
  exact (out_17 m c).symm

end Cert.Merge
-- ==== Proof.RmsNorm.lean ====
/- RmsNorm: a row of 1024 divided by its root mean square, and the gradient of that. -/
module

public import proofs.«01_k».proof.Proof.Scalars

@[expose] public section

noncomputable section

namespace Cert.Scalars

open Idealize.ShloMosaic
open scoped BigOperators

/-- The mean of 1024 entries. -/
def rmean (y : Fin 1024 → EReal) : EReal := Ideal.div (∑ k, y k) (Ideal.ofBits .f32 0x44800000#32)

/-- The mean square plus the small constant. -/
def rve (y : Fin 1024 → EReal) : EReal := rmean (fun k => y k * y k) + Ideal.ofBits .f32 0x358637BD#32

/-- The reciprocal root mean square. -/
def rrt (y : Fin 1024 → EReal) : EReal := Ideal.rsqrt (rve y)

/-- The normalised row. -/
def rn (y : Fin 1024 → EReal) (k : Fin 1024) : EReal := y k * rrt y

/-- The mean of real entries. -/
theorem rmean_coe (y : Fin 1024 → ℝ) : rmean (fun k => (y k : EReal)) = (((∑ k, y k) / 1024 : ℝ) : EReal) := by
  unfold rmean; rw [sum_coe, ofBits_1024, div_coe_coe _ _ (by norm_num)]

/-- The statistics of a real row: a positive real reciprocal root `s` whose square is the reciprocal of the mean square plus
    the constant. -/
theorem rnorm_real (r : Fin 1024 → ℝ) :
    ∃ s v : ℝ, rrt (fun k => (r k : EReal)) = (s : EReal) ∧ rve (fun k => (r k : EReal)) = (v : EReal) ∧ v ≠ 0 ∧ s * s * v = 1 ∧ 0 < s := by
  obtain ⟨e, he, hE⟩ := ofBits_eps
  have hv : rve (fun k => (r k : EReal)) = (((∑ k, r k * r k) / 1024 + e : ℝ) : EReal) := by
    unfold rve
    simp only [← EReal.coe_mul]
    rw [rmean_coe, hE, ← EReal.coe_add]
  set v := (∑ k, r k * r k) / 1024 + e with hvd
  have hpos : 0 < v := by
    have : 0 ≤ ∑ k, r k * r k := Finset.sum_nonneg fun l _ => mul_self_nonneg _
    positivity
  refine ⟨(Real.sqrt v)⁻¹, v, ?_, hv, hpos.ne', ?_, inv_pos.2 (Real.sqrt_pos.2 hpos)⟩
  · unfold rrt
    rw [hv, Ideal.rsqrt_coe, if_neg hpos.le.not_gt, if_neg hpos.ne']
  · have := Real.mul_self_sqrt hpos.le
    have h0 : Real.sqrt v ≠ 0 := (Real.sqrt_pos.2 hpos).ne'
    field_simp
    nlinarith

/-- A square is not negative. -/
theorem sq_nonneg (x : EReal) : 0 ≤ x * x := by
  induction x with
  | bot => rw [EReal.bot_mul_bot]; exact le_top
  | top => rw [EReal.top_mul_top]; exact le_top
  | coe r => rw [← EReal.coe_mul]; exact EReal.coe_nonneg.2 (mul_self_nonneg r)

/-- A row is real, or its mean square is infinite. -/
theorem real_or_top (y : Fin 1024 → EReal) : (∃ r : Fin 1024 → ℝ, y = fun k => (r k : EReal)) ∨ rve y = ⊤ := by
  by_cases h : ∀ k, IsReal (y k)
  · choose r hr using h
    exact Or.inl ⟨r, funext hr⟩
  · obtain ⟨k, hk⟩ := not_forall.1 h
    right
    have h1 : y k * y k = ⊤ := by
      generalize y k = x at hk
      induction x with
      | bot => exact EReal.bot_mul_bot
      | top => exact EReal.top_mul_top
      | coe r => exact absurd (isReal_coe r) hk
    have h2 : ∑ j, y j * y j = ⊤ :=
      top_le_iff.1 (h1 ▸ Finset.single_le_sum (f := fun j => y j * y j) (fun j _ => sq_nonneg (y j)) (Finset.mem_univ k))
    obtain ⟨e, -, hE⟩ := ofBits_eps
    unfold rve rmean
    rw [h2, ofBits_1024, Ideal.div_coe (by norm_num), EReal.top_mul_coe_of_pos (by norm_num), hE, EReal.top_add_coe]

/-- Where the mean square is infinite the reciprocal root is zero. -/
theorem rrt_of_top {y : Fin 1024 → EReal} (h : rve y = ⊤) : rrt y = 0 := by rw [rrt, h, Ideal.rsqrt_top]

/-- The normalised row is real, whatever the row. -/
theorem isReal_rn (y : Fin 1024 → EReal) (k : Fin 1024) : IsReal (rn y k) := by
  rcases real_or_top y with ⟨r, rfl⟩ | h
  · obtain ⟨s, v, hs, -⟩ := rnorm_real r
    unfold rn; rw [hs]; exact (isReal_coe _).mul (isReal_coe _)
  · rw [rn, rrt_of_top h, mul_zero]; exact isReal_zero

/-- The gradient of the normalisation in closed form. -/
def rnormBwd (y d : Fin 1024 → EReal) (k : Fin 1024) : EReal :=
  rrt y * (d k - rn y k * rmean (fun j => d j * rn y j))

/-- The gradient of the normalisation as the chain rule composes it: through the reciprocal root and both factors of the
    mean square. -/
def rnormVjp (y d : Fin 1024 → EReal) (k : Fin 1024) : EReal :=
  let w := Ideal.div ((∑ j, y j * d j) * (Ideal.ofBits .f32 0xBF000000#32 * Ideal.div (rrt y) (rve y))) (Ideal.ofBits .f32 0x44800000#32)
  (d k * rrt y + y k * w) + w * y k

/-- A sum times a real that is not negative is the sum of the products, infinities included. -/
theorem sum_mul_coe {ι : Type*} (t : Finset ι) (f : ι → EReal) {s : ℝ} (h : 0 ≤ s) : (∑ i ∈ t, f i) * (s : EReal) = ∑ i ∈ t, f i * (s : EReal) := by
  classical
  induction t using Finset.induction_on with
  | empty => simp
  | insert a t ha ih =>
    rw [Finset.sum_insert ha, Finset.sum_insert ha, ← ih,
      EReal.right_distrib_of_nonneg_of_ne_top (EReal.coe_nonneg.2 h) (EReal.coe_ne_top s)]

/-- Twice a value. -/
theorem add_self (x : EReal) : x + x = x * ((2 : ℝ) : EReal) := by
  induction x with
  | bot => rw [EReal.bot_mul_coe_of_pos (by norm_num), EReal.bot_add]
  | top => rw [EReal.top_mul_coe_of_pos (by norm_num), EReal.top_add_top]
  | coe r => rw [← EReal.coe_add, ← EReal.coe_mul]; congr 1; ring

/-- The two agree, whatever the row and the cotangent: of a row with an infinite entry both are zero, and of a real row
    only the cotangent's sum against it can be infinite. -/
theorem rnormVjp_eq (y d : Fin 1024 → EReal) (k : Fin 1024) : rnormVjp y d k = rnormBwd y d k := by
  rcases real_or_top y with ⟨r, rfl⟩ | h
  · obtain ⟨s, v, hs, hv, hv0, hsv, hs0⟩ := rnorm_real r
    have hA : ∑ j, d j * ((r j : EReal) * (s : EReal)) = (∑ j, (r j : EReal) * d j) * (s : EReal) := by
      rw [sum_mul_coe _ _ hs0.le]
      exact Finset.sum_congr rfl fun j _ => by rw [← mul_assoc, mul_comm (d j)]
    have hw : s / v = s * s * s := by
      rw [div_eq_iff hv0]; linear_combination (-s) * hsv
    unfold rnormVjp rnormBwd rn rmean
    simp only [hs, hv]
    rw [hA]
    generalize (∑ j, (r j : EReal) * d j) = T
    rw [ofBits_neg_half, ofBits_1024, div_coe_coe _ _ hv0, ← EReal.coe_mul, Ideal.div_coe (by norm_num), Ideal.div_coe (by norm_num)]
    have e1 : (r k : EReal) * (T * ((-(1 / 2) * (s / v) : ℝ) : EReal) * ((1 / 1024 : ℝ) : EReal)) = T * ((r k * (-(1 / 2) * (s / v) * (1 / 1024)) : ℝ) : EReal) := by
      push_cast; ac_rfl
    have e2 : T * ((-(1 / 2) * (s / v) : ℝ) : EReal) * ((1 / 1024 : ℝ) : EReal) * (r k : EReal) = T * ((r k * (-(1 / 2) * (s / v) * (1 / 1024)) : ℝ) : EReal) := by
      push_cast; ac_rfl
    have e3 : (s : EReal) * -(((r k : ℝ) : EReal) * (s : EReal) * (T * (s : EReal) * ((1 / 1024 : ℝ) : EReal))) = T * ((-(r k * s * s * s * (1 / 1024)) : ℝ) : EReal) := by
      rw [EReal.coe_neg, mul_neg, mul_neg]; push_cast; congr 1; ac_rfl
    rw [e1, e2, add_assoc, add_self, sub_eq_add_neg, EReal.left_distrib_of_nonneg_of_ne_top (EReal.coe_nonneg.2 hs0.le) (EReal.coe_ne_top s), e3,
      mul_comm (d k), mul_assoc T, ← EReal.coe_mul, hw]
    congr 3
    ring
  · obtain hz := rrt_of_top h
    unfold rnormVjp rnormBwd
    simp only [hz, h]
    rw [show Ideal.div 0 ⊤ = 0 by rw [Ideal.div, if_neg EReal.top_ne_zero, zero_mul], mul_zero, mul_zero, ofBits_1024,
      Ideal.div_coe (by norm_num)]
    simp

end Cert.Scalars
-- ==== Proof.FfnSpec.lean ====
/- FfnSpec: the gradient of the SwiGLU channel mixer of one row, as functions of that row's operands. Both programs compute
   it row by row; each module about a program says what it leaves at a row in these words. -/
module

public import proofs.«01_k».proof.Proof.RmsNorm

@[expose] public section

noncomputable section

namespace Cert.Ffn

open Idealize.ShloMosaic Cert.Scalars
open scoped BigOperators

/-- One row's operands: the cotangent `dx`, the saved gate and linear projections, the row `x` before the norm, and what
    every row shares: the norm's gain `g` and the three weights. -/
structure FRow where
  /-- the cotangent of the mixer's output -/
  dx : Fin 1024 → EReal
  /-- the gate projection -/
  gate : Fin 2816 → EReal
  /-- the linear projection -/
  up : Fin 2816 → EReal
  /-- the row before the norm -/
  x : Fin 1024 → EReal
  /-- the norm's gain -/
  g : Fin 1024 → EReal
  /-- the gate projection's weight -/
  wg : Fin 2816 → Fin 1024 → EReal
  /-- the linear projection's weight -/
  wu : Fin 2816 → Fin 1024 → EReal
  /-- the output projection's weight -/
  wd : Fin 2816 → Fin 1024 → EReal

namespace FRow

variable (q : FRow)

/-- The cotangent of the hidden activations. -/
def dact (f : Fin 2816) : EReal := ∑ k, q.dx k * q.wd f k
/-- The gate projection's gradient. -/
def dgate (f : Fin 2816) : EReal := q.dact f * q.up f * (sg (q.gate f) * (1 + q.gate f * (1 - sg (q.gate f))))
/-- The linear projection's gradient. -/
def dup (f : Fin 2816) : EReal := q.dact f * (q.gate f * sg (q.gate f))
/-- The cotangent of the scaled, normalised row. -/
def dh (k : Fin 1024) : EReal := (∑ f, q.dgate f * q.wg f k) + ∑ f, q.dup f * q.wu f k
/-- The row's part of the gain's gradient. -/
def dgain (k : Fin 1024) : EReal := q.dh k * rn q.x k
/-- The gradient of the row, through the mixer and past it. -/
def dout (k : Fin 1024) : EReal := q.dx k + rnormBwd q.x (fun j => q.dh j * q.g j) k

/-- The operands that must be real: with an infinite cotangent of a hidden activation the chain rule's two terms for the gate
    projection can be infinities of both signs. -/
structure Real : Prop where
  /-- the cotangent is real -/
  dx : ∀ k, IsReal (q.dx k)
  /-- the linear projection is real -/
  up : ∀ k, IsReal (q.up k)
  /-- the output projection's weight is real -/
  wd : ∀ j k, IsReal (q.wd j k)

variable {q}

/-- The cotangent of the hidden activations is real. -/
theorem Real.dact (h : q.Real) (f : Fin 2816) : IsReal (q.dact f) := isReal_sum _ _ fun k => (h.dx k).mul (h.wd f k)

end FRow

/-- The gradient of `x * sg x` at any `x`, as the chain rule composes it and in closed form: at the infinities both are the
    cotangent or zero. -/
theorem silu_bwd_any {d : EReal} (hd : IsReal d) (x : EReal) :
    d * sg x + (x * d) * (sg x * (1 - sg x)) = d * (sg x * (1 + x * (1 - sg x))) := by
  have h : (1 : EReal) - 1 = 0 := by rw [← EReal.coe_one, ← EReal.coe_sub, sub_self, EReal.coe_zero]
  induction x with
  | bot => simp [sg_bot]
  | top => simp [sg_top, h]
  | coe r => exact silu_bwd hd (isReal_coe r)

end Cert.Ffn
-- ==== Proof.FfnBwdTiles.lean ====
/- FfnBwdTiles: what the kernel's stored values are at a row of a block, in FfnSpec's words. -/
module

public import proofs.«01_k».proof.Proof.FfnSpec
public import proofs.«01_k».proof.Proof.Gen.Kernel2Ideal.Skeleton

@[expose] public section

set_option maxRecDepth 16384

noncomputable section

namespace Cert.FfnBwd.Ker

open Cert.Kernel2Ideal Cert.Kernel2Ideal.Gen Cert.Scalars Cert.Ffn
open Idealize.ShloMosaic Idealize.ShloMosaic.TcCoe Idealize.SL.Sem
open scoped BigOperators

/-- The operands of row `i` of a block. -/
def blkRow (b0 : FVec Ideal S256x1024 .f32) (b1 b2 : FVec Ideal S256x2816 .f32) (b3 : FVec Ideal S256x1024 .f32) (b4 : FVec Ideal S1x1024 .f32)
    (b5 b6 b7 : FVec Ideal S2816x1024 .bf16) (i : Fin 256) : FRow where
  dx k := b0 (ix2 i k)
  gate k := b1 (ix2 i k)
  up k := b2 (ix2 i k)
  x k := b3 (ix2 i k)
  g k := b4 (ix2 0 k)
  wg j k := b5 (ix2 j k)
  wu j k := b6 (ix2 j k)
  wd j k := b7 (ix2 j k)

variable (b0 : FVec Ideal S256x1024 .f32) (b1 b2 : FVec Ideal S256x2816 .f32) (b3 : FVec Ideal S256x1024 .f32) (b4 : FVec Ideal S1x1024 .f32)
  (b5 b6 b7 : FVec Ideal S2816x1024 .bf16)

/-- The cotangent of the hidden activations. -/
theorem dact (i : Fin 256) (f : Fin 2816) : k0_pay7 (F := Ideal) b0 b7 (ix2 i f) = (blkRow b0 b1 b2 b3 b4 b5 b6 b7 i).dact f := by
  pointwise [k0_pay7, FRow.dact, blkRow]

/-- The logistic function of the gate projection. -/
theorem sgt (i : Fin 256) (f : Fin 2816) : k0_pay9 (F := Ideal) b1 (ix2 i f) = sg (b1 (ix2 i f)) := by
  pointwise [k0_pay9, k0_pay8, half_tanh]

/-- The gate projection's gradient. -/
theorem dgate (i : Fin 256) (f : Fin 2816) : k0_pay10 (F := Ideal) b0 b7 b1 b2 (ix2 i f) = (blkRow b0 b1 b2 b3 b4 b5 b6 b7 i).dgate f := by
  pointwise [k0_pay10, k0_pay8, sgt]
  rw [dact b0 b1 b2 b3 b4 b5 b6 b7]; rfl

/-- The linear projection's gradient. -/
theorem dup (i : Fin 256) (f : Fin 2816) : k0_pay11 (F := Ideal) b0 b7 b1 (ix2 i f) = (blkRow b0 b1 b2 b3 b4 b5 b6 b7 i).dup f := by
  pointwise [k0_pay11, k0_pay8, sgt]
  rw [dact b0 b1 b2 b3 b4 b5 b6 b7]; rfl

/-- The sum a product starts from. -/
abbrev zero : FVec Ideal S256x1024 .f32 := constant S256x1024 .f32 0x00000000#32

/-- The cotangent of the scaled, normalised row. -/
theorem dh (i : Fin 256) (k : Fin 1024) : k0_pay1 (F := Ideal) (k0_pay10 b0 b7 b1 b2) (k0_pay11 b0 b7 b1) b5 zero b6 (ix2 i k)
      = (blkRow b0 b1 b2 b3 b4 b5 b6 b7 i).dh k := by
  pointwise [k0_pay1]
  exact congrArg₂ _ (Finset.sum_congr rfl fun f _ => by rw [dgate b0 b1 b2 b3 b4 b5 b6 b7]; rfl)
    (Finset.sum_congr rfl fun f _ => by rw [dup b0 b1 b2 b3 b4 b5 b6 b7]; rfl)

/-- The reciprocal root mean square. -/
theorem rt (i : Fin 256) : k0_pay2 (F := Ideal) b3 (ix2 i 0) = rrt (fun k => b3 (ix2 i k)) := by
  pointwise [k0_pay2, rrt, rve, rmean]

/-- The normalised row. -/
theorem nrm (i : Fin 256) (k : Fin 1024) : k0_pay3 (F := Ideal) b3 (ix2 i k) = rn (fun k => b3 (ix2 i k)) k := by
  pointwise [k0_pay3, rt, rn]

/-- The gain's gradient: what the block held, and the block's rows' parts. -/
theorem dgain (a : FVec Ideal S1x1024 .f32) (k : Fin 1024) :
    k0_pay4 (F := Ideal) (k0_pay10 b0 b7 b1 b2) (k0_pay11 b0 b7 b1) b5 zero b6 b3 a (ix2 0 k)
      = a (ix2 0 k) + ∑ i, (blkRow b0 b1 b2 b3 b4 b5 b6 b7 i).dgain k := by
  pointwise [k0_pay4, nrm]
  refine congrArg _ (Finset.sum_congr rfl fun i _ => ?_)
  rw [dh b0 b1 b2 b3 b4 b5 b6 b7]; rfl

/-- The row's gradient. -/
theorem dout (i : Fin 256) (k : Fin 1024) :
    k0_pay5 (F := Ideal) b0 (k0_pay10 b0 b7 b1 b2) (k0_pay11 b0 b7 b1) b5 zero b6 b3 b4 (ix2 i k)
      = (blkRow b0 b1 b2 b3 b4 b5 b6 b7 i).dout k := by
  pointwise [k0_pay5, nrm, rt]
  simp only [dh b0 b1 b2 b3 b4 b5 b6 b7]; rfl

end Cert.FfnBwd.Ker
-- ==== Proof.FfnBwdRows.lean ====
/- FfnBwdRows: what the launch of the mixer's backward pass leaves in its four arrays, in FfnSpec's words. -/
module

public import proofs.«01_k».proof.Proof.FfnBwdTiles
public import proofs.«01_k».proof.Proof.Gen.Kernel2Ideal.Frame
public import Idealize.ShloMosaic.Lib.Pipeline.ValueKit
public import Idealize.ShloMosaic.Lib.Pipeline.ReadBack

@[expose] public section

set_option maxRecDepth 16384

noncomputable section

namespace Cert.FfnBwd.Ker

open Cert.Kernel2Ideal Cert.Kernel2Ideal.Gen Cert.Scalars Cert.Ffn
open Idealize.ShloMosaic Idealize.ShloMosaic.TcCoe Idealize.SL.Sem
open Idealize.ShloMosaic.Pipeline (Dat)
open scoped BigOperators

/-- Which block each window shows at step `t`: the `t`-th row block, or always the first one. -/
theorem idx_val : ∀ t : Fin cfg0.N, win0_0.index t = ![t.val, 0] ∧ win0_1.index t = ![t.val, 0] ∧ win0_2.index t = ![t.val, 0] ∧ win0_3.index t = ![t.val, 0] ∧ win0_8.index t = ![t.val, 0] ∧ win0_9.index t = ![t.val, 0] ∧ win0_10.index t = ![t.val, 0]
    ∧ win0_4.index t = ![0, 0] ∧ win0_5.index t = ![0, 0] ∧ win0_6.index t = ![0, 0] ∧ win0_7.index t = ![0, 0] ∧ win0_11.index t = ![0, 0] :=
  (by decide +kernel : ∀ t : Fin grid0.N, _)

variable (m : (ℓ : Loc nD τ sig) → Buf (Elt Ideal) ℓ) (c : Dev nD)

/-- The operands of row `r` of the whole arrays. -/
def row (r : Fin 8192) : FRow where
  dx k := (V m c main_arg0 : FVec Ideal S8192x1024 .f32) (ix2 r k)
  gate k := (V m c main_v18 : FVec Ideal S8192x2816 .f32) (ix2 r k)
  up k := (V m c main_v19 : FVec Ideal S8192x2816 .f32) (ix2 r k)
  x k := (V m c main_arg1 : FVec Ideal S8192x1024 .f32) (ix2 r k)
  g k := (V m c main_arg2 : FVec Ideal S1x1024 .f32) (ix2 0 k)
  wg j k := (V m c main_arg3 : FVec Ideal S2816x1024 .bf16) (ix2 j k)
  wu j k := (V m c main_arg4 : FVec Ideal S2816x1024 .bf16) (ix2 j k)
  wd j k := (V m c main_arg5 : FVec Ideal S2816x1024 .bf16) (ix2 j k)

/-- The operands of a row of the block at a grid point. -/
def brow (t : Fin cfg0.N) (i : Fin 256) : FRow := blkRow (iblk m c 0 t) (iblk m c 1 t) (iblk m c 2 t) (iblk m c 3 t) (iblk m c 4 t) (iblk m c 5 t) (iblk m c 6 t) (iblk m c 7 t) i

/-- The row of the whole arrays that a row of a block holds. -/
def arow (t : Fin cfg0.N) (i : Fin 256) : Fin 8192 := ⟨256 * t.val + i.val, by have := t.isLt; have : cfg0.N = 32 := N_0; omega⟩

/-- What operand 0 holds in the block that step `t` reads. -/
theorem blk0 (t : Fin cfg0.N) (i : Fin 256) (k : Fin 1024) :
    (iblk m c 0 t : FVec Ideal S256x1024 .f32) (ix2 i k) = (V m c main_arg0 : FVec Ideal S8192x1024 .f32) (ix2 (arow t i) k) := by
  blk_ext! [iblk, arow, idx_val t]

/-- What operand 1 holds in the block that step `t` reads. -/
theorem blk1 (t : Fin cfg0.N) (i : Fin 256) (k : Fin 2816) :
    (iblk m c 1 t : FVec Ideal S256x2816 .f32) (ix2 i k) = (V m c main_v18 : FVec Ideal S8192x2816 .f32) (ix2 (arow t i) k) := by
  blk_ext! [iblk, arow, idx_val t]

/-- What operand 2 holds in the block that step `t` reads. -/
theorem blk2 (t : Fin cfg0.N) (i : Fin 256) (k : Fin 2816) :
    (iblk m c 2 t : FVec Ideal S256x2816 .f32) (ix2 i k) = (V m c main_v19 : FVec Ideal S8192x2816 .f32) (ix2 (arow t i) k) := by
  blk_ext! [iblk, arow, idx_val t]

/-- What operand 3 holds in the block that step `t` reads. -/
theorem blk3 (t : Fin cfg0.N) (i : Fin 256) (k : Fin 1024) :
    (iblk m c 3 t : FVec Ideal S256x1024 .f32) (ix2 i k) = (V m c main_arg1 : FVec Ideal S8192x1024 .f32) (ix2 (arow t i) k) := by
  blk_ext! [iblk, arow, idx_val t]

/-- What operand 4 holds in the block that step `t` reads. -/
theorem blk4 (t : Fin cfg0.N) (k : Fin 1024) :
    (iblk m c 4 t : FVec Ideal S1x1024 .f32) (ix2 0 k) = (V m c main_arg2 : FVec Ideal S1x1024 .f32) (ix2 0 k) := by
  blk_ext! [iblk, idx_val t]

/-- What operand 5 holds in the block that step `t` reads. -/
theorem blk5 (t : Fin cfg0.N) (j : Fin 2816) (k : Fin 1024) :
    (iblk m c 5 t : FVec Ideal S2816x1024 .bf16) (ix2 j k) = (V m c main_arg3 : FVec Ideal S2816x1024 .bf16) (ix2 j k) := by
  blk_ext! [iblk, idx_val t]

/-- What operand 6 holds in the block that step `t` reads. -/
theorem blk6 (t : Fin cfg0.N) (j : Fin 2816) (k : Fin 1024) :
    (iblk m c 6 t : FVec Ideal S2816x1024 .bf16) (ix2 j k) = (V m c main_arg4 : FVec Ideal S2816x1024 .bf16) (ix2 j k) := by
  blk_ext! [iblk, idx_val t]

/-- What operand 7 holds in the block that step `t` reads. -/
theorem blk7 (t : Fin cfg0.N) (j : Fin 2816) (k : Fin 1024) :
    (iblk m c 7 t : FVec Ideal S2816x1024 .bf16) (ix2 j k) = (V m c main_arg5 : FVec Ideal S2816x1024 .bf16) (ix2 j k) := by
  blk_ext! [iblk, idx_val t]

/-- A block's row is the arrays' row it holds. -/
theorem brow_eq (t : Fin cfg0.N) (i : Fin 256) : brow m c t i = row m c (arow t i) := by
  unfold brow blkRow row
  simp only [blk0, blk1, blk2, blk3, blk4, blk5, blk6, blk7]

/-- What a row of a block has at a column is what the arrays' row has at the index the block's entry lands on. -/
theorem at_emb {n : ℕ} (f : FRow → Fin n → EReal) (t : Fin cfg0.N) (i : Fin 256) (k : Fin n) (r : Fin 8192) (k' : Fin n) (h0 : r.val = 256 * t.val + i.val)
    (h1 : k'.val = k.val) : f (brow m c t i) k = f (row m c r) k' := by
  have e0 : r = arow t i := Fin.ext h0
  have e1 : k' = k := Fin.ext h1
  rw [brow_eq, e0, e1]

/-- Window 8's array: the gate projection's gradient. -/
theorem final_8 : (dats m 0 c).arrAt 8 cfg0.N = fun y : S8192x2816.Idx => (row m c (y 0)).dgate (y 1) := by
  refine (dats m 0 c).arrAt_eq_of_covers 8 _ (by decide +kernel) fun t hf y => ?_
  blk_simp [idx_val t]
  rw [after0_8]
  by_cases h : t.val % 32 = 0
  · rw [outsAt0_A m c t h]; dsimp only
    frame_out
    obtain ⟨i, k, rfl⟩ : ∃ i k, y = ix2 (n0 := 256) (n1 := 2816) i k := ⟨y 0, y 1, eq_ix2 y⟩
    refine (dgate (iblk m c 0 t) (iblk m c 1 t) (iblk m c 2 t) (iblk m c 3 t) (iblk m c 4 t) (iblk m c 5 t) (iblk m c 6 t) (iblk m c 7 t) i k).trans (at_emb m c FRow.dgate t i k _ _ ?_ ?_) <;> (blk_simp [idx_val t]; try omega)
  · rw [outsAt0_B m c t h]; dsimp only
    frame_out
    obtain ⟨i, k, rfl⟩ : ∃ i k, y = ix2 (n0 := 256) (n1 := 2816) i k := ⟨y 0, y 1, eq_ix2 y⟩
    refine (dgate (iblk m c 0 t) (iblk m c 1 t) (iblk m c 2 t) (iblk m c 3 t) (iblk m c 4 t) (iblk m c 5 t) (iblk m c 6 t) (iblk m c 7 t) i k).trans (at_emb m c FRow.dgate t i k _ _ ?_ ?_) <;> (blk_simp [idx_val t]; try omega)

/-- Window 9's array: the linear projection's gradient. -/
theorem final_9 : (dats m 0 c).arrAt 9 cfg0.N = fun y : S8192x2816.Idx => (row m c (y 0)).dup (y 1) := by
  refine (dats m 0 c).arrAt_eq_of_covers 9 _ (by decide +kernel) fun t hf y => ?_
  blk_simp [idx_val t]
  rw [after0_9]
  by_cases h : t.val % 32 = 0
  · rw [outsAt0_A m c t h]; dsimp only
    frame_out
    obtain ⟨i, k, rfl⟩ : ∃ i k, y = ix2 (n0 := 256) (n1 := 2816) i k := ⟨y 0, y 1, eq_ix2 y⟩
    refine (dup (iblk m c 0 t) (iblk m c 1 t) (iblk m c 2 t) (iblk m c 3 t) (iblk m c 4 t) (iblk m c 5 t) (iblk m c 6 t) (iblk m c 7 t) i k).trans (at_emb m c FRow.dup t i k _ _ ?_ ?_) <;> (blk_simp [idx_val t]; try omega)
  · rw [outsAt0_B m c t h]; dsimp only
    frame_out
    obtain ⟨i, k, rfl⟩ : ∃ i k, y = ix2 (n0 := 256) (n1 := 2816) i k := ⟨y 0, y 1, eq_ix2 y⟩
    refine (dup (iblk m c 0 t) (iblk m c 1 t) (iblk m c 2 t) (iblk m c 3 t) (iblk m c 4 t) (iblk m c 5 t) (iblk m c 6 t) (iblk m c 7 t) i k).trans (at_emb m c FRow.dup t i k _ _ ?_ ?_) <;> (blk_simp [idx_val t]; try omega)

/-- Window 10's array: the row's gradient. -/
theorem final_10 : (dats m 0 c).arrAt 10 cfg0.N = fun y : S8192x1024.Idx => (row m c (y 0)).dout (y 1) := by
  refine (dats m 0 c).arrAt_eq_of_covers 10 _ (by decide +kernel) fun t hf y => ?_
  blk_simp [idx_val t]
  rw [after0_10]
  by_cases h : t.val % 32 = 0
  · rw [outsAt0_A m c t h]; dsimp only
    frame_out
    obtain ⟨i, k, rfl⟩ : ∃ i k, y = ix2 (n0 := 256) (n1 := 1024) i k := ⟨y 0, y 1, eq_ix2 y⟩
    refine (dout (iblk m c 0 t) (iblk m c 1 t) (iblk m c 2 t) (iblk m c 3 t) (iblk m c 4 t) (iblk m c 5 t) (iblk m c 6 t) (iblk m c 7 t) i k).trans (at_emb m c FRow.dout t i k _ _ ?_ ?_) <;> (blk_simp [idx_val t]; try omega)
  · rw [outsAt0_B m c t h]; dsimp only
    frame_out
    obtain ⟨i, k, rfl⟩ : ∃ i k, y = ix2 (n0 := 256) (n1 := 1024) i k := ⟨y 0, y 1, eq_ix2 y⟩
    refine (dout (iblk m c 0 t) (iblk m c 1 t) (iblk m c 2 t) (iblk m c 3 t) (iblk m c 4 t) (iblk m c 5 t) (iblk m c 6 t) (iblk m c 7 t) i k).trans (at_emb m c FRow.dout t i k _ _ ?_ ?_) <;> (blk_simp [idx_val t]; try omega)

/-- The fill is zero. -/
theorem fill_zero (x : S1x1024.Idx) : k0_pay6 (F := Ideal) x = 0 := by
  idx_vars x
  pointwise [k0_pay6]

/-- The gain's gradient after a point that begins the sum. -/
theorem dgain_first (t : Fin cfg0.N) (h : t.val % 32 = 0) (y : S1x1024.Idx) :
    ((outsAt0 m c t.val t.isLt).2.2.2 : S1x1024.Idx → EReal) y = 0 + ∑ i, (brow m c t i).dgain (y 1) := by
  rw [outsAt0_A m c t h]; dsimp only
  frame_out
  obtain ⟨j, k, rfl⟩ : ∃ j k, y = ix2 (n0 := 1) (n1 := 1024) j k := ⟨y 0, y 1, eq_ix2 y⟩
  obtain rfl : j = 0 := Subsingleton.elim _ _
  exact (dgain (iblk m c 0 t) (iblk m c 1 t) (iblk m c 2 t) (iblk m c 3 t) (iblk m c 4 t) (iblk m c 5 t) (iblk m c 6 t) (iblk m c 7 t) k0_pay6 k).trans (congrArg (· + _) (fill_zero _))

/-- The gain's gradient after any other point. -/
theorem dgain_next (t : Fin cfg0.N) (h : ¬t.val % 32 = 0) (y : S1x1024.Idx) :
    ((outsAt0 m c t.val t.isLt).2.2.2 : S1x1024.Idx → EReal) y
      = ((outsAt0 m c (t.val - 1) (by omega)).2.2.2 : S1x1024.Idx → EReal) y + ∑ i, (brow m c t i).dgain (y 1) := by
  rw [outsAt0_B m c t h]; dsimp only
  frame_out
  obtain ⟨j, k, rfl⟩ : ∃ j k, y = ix2 (n0 := 1) (n1 := 1024) j k := ⟨y 0, y 1, eq_ix2 y⟩
  obtain rfl : j = 0 := Subsingleton.elim _ _
  exact dgain (iblk m c 0 t) (iblk m c 1 t) (iblk m c 2 t) (iblk m c 3 t) (iblk m c 4 t) (iblk m c 5 t) (iblk m c 6 t) (iblk m c 7 t) _ k

/-- The last grid point. -/
def tLast : Fin grid0.N := ⟨31, by rw [N_0]; decide⟩

/-- Window 11's array: the gain's gradient, the rows' parts summed. -/
theorem final_11 : (dats m 0 c).arrAt 11 cfg0.N = fun y : S1x1024.Idx => ∑ r, (row m c r).dgain (y 1) := by
  refine (dats m 0 c).arrAt_eq_of_after_last 11 tLast (by decide +kernel) _ fun j => ?_
  blk_simp [idx_val tLast]
  rw [after0_11]
  rw [Pipeline.eq_sum_fin_of_reset_step_apply_last (fun n h => ((outsAt0 m c n h).2.2.2 : S1x1024.Idx → EReal)) 32 (fun _ => 0)
    (fun t y => ∑ i, (brow m c t i).dgain (y 1)) (dgain_first m c) (dgain_next m c) (le_of_eq N_0) tLast rfl j, zero_add]
  refine Fin.sum_mul_add_congr (S := cfg0.N) (n := 256) (f := fun r : Fin 8192 => (row m c r).dgain (j 1)) (fun t i hl => ?_) (show 8192 = grid0.N * 256 by rw [N_0])
  exact at_emb m c FRow.dgain t i (j 1) _ _ (by show t.val * 256 + i.val = _; omega) rfl

end Cert.FfnBwd.Ker
-- ==== Proof.FfnBwdReference.lean ====
/- FfnBwdReference: what the reference's operations compute at a row, in FfnSpec's words. -/
module

public import proofs.«01_k».proof.Proof.FfnSpec
public import proofs.«01_k».proof.Proof.Gen.Reference2Ideal.Read

@[expose] public section

set_option maxRecDepth 16384

noncomputable section

namespace Cert.FfnBwd.Ref

open Cert.Reference2Ideal Cert.Reference2Ideal.Gen Cert.Reference2Ideal.Read Cert.Scalars Cert.Ffn
open Idealize.ShloMosaic Idealize.ShloMosaic.TcCoe Idealize.SL.Sem
open scoped BigOperators

variable (x0 x1 : FVec Ideal S8192x1024 .f32) (x2 : FVec Ideal S1x1024 .f32) (x3 x4 x5 : FVec Ideal S2816x1024 .bf16)

/-- The operands of row `r`, the two projections being the ones the reference's own lines compute. -/
def row (r : Fin 8192) : FRow where
  dx k := x0 (ix2 r k)
  gate k := val_main_v21 (F := Ideal) x1 x2 x3 (ix2 r k)
  up k := val_main_v22 (F := Ideal) x1 x2 x4 (ix2 r k)
  x k := x1 (ix2 r k)
  g k := x2 (ix2 0 k)
  wg j k := x3 (ix2 j k)
  wu j k := x4 (ix2 j k)
  wd j k := x5 (ix2 j k)

/-- The mean square plus the small constant. -/
theorem ve (r : Fin 8192) : val_main_v11 (F := Ideal) x1 (ix2 r 0) = rve (fun k => x1 (ix2 r k)) := by
  pointwise [val_main_v11, val_main_v9, val_main_v7, val_main_v6, val_main_v5, val_main_cst, val_main_v8, val_main_cst_0, val_main_v10, val_main_cst_1, rve, rmean]

/-- The reciprocal root mean square. -/
theorem rt (r : Fin 8192) : val_main_v12 (F := Ideal) x1 (ix2 r 0) = rrt (fun k => x1 (ix2 r k)) := by
  pointwise [val_main_v12, rrt, ve]

/-- The normalised row. -/
theorem nrm (r : Fin 8192) (k : Fin 1024) : val_main_v17 (F := Ideal) x1 (ix2 r k) = rn (fun k => x1 (ix2 r k)) k := by
  pointwise [val_main_v17, val_main_v16, rt, rn]

/-- The gain at a column. -/
theorem gain (r : Fin 8192) (k : Fin 1024) : val_main_v19 (F := Ideal) x2 (ix2 r k) = x2 (ix2 0 k) := by
  pointwise [val_main_v19, val_main_v18, val_main_v4]

/-- The gate projection. -/
theorem gate_apply (r : Fin 8192) (f : Fin 2816) :
    val_main_v21 (F := Ideal) x1 x2 x3 (ix2 r f) = ∑ k, rn (fun k => x1 (ix2 r k)) k * x2 (ix2 0 k) * x3 (ix2 f k) := by
  pointwise [val_main_v21, val_main_v20, val_main_v1, val_main_v0, nrm, gain]

/-- The linear projection. -/
theorem up_apply (r : Fin 8192) (f : Fin 2816) :
    val_main_v22 (F := Ideal) x1 x2 x4 (ix2 r f) = ∑ k, rn (fun k => x1 (ix2 r k)) k * x2 (ix2 0 k) * x4 (ix2 f k) := by
  pointwise [val_main_v22, val_main_v20, val_main_v3, val_main_v2, nrm, gain]

/-- The logistic function of the gate projection. -/
theorem sgt (r : Fin 8192) (f : Fin 2816) : val_main_v24_2 (F := Ideal) x1 x2 x3 (ix2 r f) = sg ((row x0 x1 x2 x3 x4 x5 r).gate f) := by
  pointwise [val_main_v24_2, val_main_call0_v4, val_main_call0_cst_0, val_main_call0_v3, val_main_call0_v2, val_main_call0_cst, val_main_call0_v1, val_main_call0_v0, sg, row]

/-- The cotangent of the hidden activations. -/
theorem dact (r : Fin 8192) (f : Fin 2816) : val_main_v29 (F := Ideal) x0 x5 (ix2 r f) = (row x0 x1 x2 x3 x4 x5 r).dact f := by
  pointwise [val_main_v29, val_main_v28, val_main_v23, FRow.dact, row]

/-- The linear projection's gradient. -/
theorem dup (r : Fin 8192) (f : Fin 2816) : val_main_v30 (F := Ideal) x0 x1 x2 x3 x5 (ix2 r f) = (row x0 x1 x2 x3 x4 x5 r).dup f := by
  pointwise [val_main_v30, val_main_v24_0]
  rw [dact x0 x1 x2 x3 x4 x5, sgt x0 x1 x2 x3 x4 x5, mul_comm]; rfl

/-- The gate projection's gradient. -/
theorem dgate (r : Fin 8192) (f : Fin 2816) (hq : (row x0 x1 x2 x3 x4 x5 r).Real) :
    val_main_v32 (F := Ideal) x0 x1 x2 x3 x4 x5 (ix2 r f) = (row x0 x1 x2 x3 x4 x5 r).dgate f := by
  pointwise [val_main_v32, val_main_call1_v1, val_main_call1_v2, val_main_call1_v0, val_main_v31, val_main_v24_1, val_main_call0_v7, val_main_call0_v6, val_main_call0_cst_1]
  rw [dact x0 x1 x2 x3 x4 x5, sgt x0 x1 x2 x3 x4 x5]
  exact silu_bwd_any ((hq.dact f).mul (hq.up f)) _

/-- The cotangent of the scaled, normalised row. -/
theorem dh (r : Fin 8192) (k : Fin 1024) (hq : (row x0 x1 x2 x3 x4 x5 r).Real) :
    val_main_v35 (F := Ideal) x0 x1 x2 x3 x4 x5 (ix2 r k) = (row x0 x1 x2 x3 x4 x5 r).dh k := by
  pointwise [val_main_v35, val_main_v33, val_main_v34, val_main_v3, val_main_v2, val_main_v1, val_main_v0]
  rw [add_comm]
  exact congrArg₂ _ (Finset.sum_congr rfl fun f _ => by rw [dgate x0 x1 x2 x3 x4 x5 r f hq]; rfl)
    (Finset.sum_congr rfl fun f _ => by rw [dup x0 x1 x2 x3 x4 x5]; rfl)

/-- The gain's gradient: the sum of the rows' parts. -/
theorem dgain (k : Fin 1024) (hq : ∀ r, (row x0 x1 x2 x3 x4 x5 r).Real) :
    val_main_v56 (F := Ideal) x0 x1 x2 x3 x4 x5 (ix2 0 k) = ∑ r, (row x0 x1 x2 x3 x4 x5 r).dgain k := by
  pointwise [val_main_v56, val_main_v41, val_main_v38, val_main_v37, val_main_cst_3, val_main_cst_4, val_main_v36]
  rw [Fin.sum_univ_one]
  exact Finset.sum_congr rfl fun r _ => by rw [nrm, dh x0 x1 x2 x3 x4 x5 r k (hq r), mul_comm]; rfl

/-- The row's gradient. -/
theorem dout (r : Fin 8192) (k : Fin 1024) (hq : (row x0 x1 x2 x3 x4 x5 r).Real) :
    val_main_v59 (F := Ideal) x0 x1 x2 x3 x4 x5 (ix2 r k) = (row x0 x1 x2 x3 x4 x5 r).dout k := by
  have hv : val_main_v55 (F := Ideal) x0 x1 x2 x3 x4 x5 (ix2 r k)
      = rnormVjp (row x0 x1 x2 x3 x4 x5 r).x (fun j => (row x0 x1 x2 x3 x4 x5 r).dh j * (row x0 x1 x2 x3 x4 x5 r).g j) k := by
    have hd : ∀ j, val_main_v40 (F := Ideal) x0 x1 x2 x3 x4 x5 (ix2 r j) = (row x0 x1 x2 x3 x4 x5 r).dh j * (row x0 x1 x2 x3 x4 x5 r).g j := fun j => by
      pointwise [val_main_v40, val_main_v39, val_main_v18, val_main_v4]
      rw [dh x0 x1 x2 x3 x4 x5 r j hq]; rfl
    pointwise [val_main_v55, val_main_v54, val_main_v53, val_main_v52, val_main_v51, val_main_v50, val_main_v49, val_main_v48, val_main_v47, val_main_v46, val_main_v45,
      val_main_v44, val_main_v43, val_main_v42, val_main_v15, val_main_v14, val_main_v13, val_main_cst_2, val_main_cst_5, val_main_cst_6, val_main_cst_7, rt, ve, hd]
    rw [Fin.sum_univ_one, rt, ve]; rfl
  pointwise [val_main_v59]
  rw [hv, rnormVjp_eq]
  rfl

end Cert.FfnBwd.Ref
-- ==== Proof.FfnBwdClaim.lean ====
/- FfnBwdClaim: the arrays of the mixer's backward launch are the reference's, where the precondition holds. -/
module

public import proofs.«01_k».proof.Proof.FfnBwdRows
public import proofs.«01_k».proof.Proof.FfnBwdReference
public import proofs.«01_k».proof.Proof.MergeClaim
public import proofs.«01_k».proof.Defs

@[expose] public section

set_option maxRecDepth 16384

noncomputable section

namespace Cert.FfnBwd

open Cert.Kernel2Ideal Cert.Kernel2Ideal.Gen Cert.Scalars Cert.Ffn
open Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- The gate projection the launch reads is the one the reference's lines compute. -/
theorem gate_eq : (V m c main_v18 : FVec Ideal S8192x2816 .f32)
    = Cert.Reference2Ideal.Read.val_main_v21 (F := Ideal) (V m c main_arg1) (V m c main_arg2) (V m c main_arg3) := by
  entry_read
  rfl

/-- The linear projection the launch reads is the one the reference's lines compute. -/
theorem up_eq : (V m c main_v19 : FVec Ideal S8192x2816 .f32)
    = Cert.Reference2Ideal.Read.val_main_v22 (F := Ideal) (V m c main_arg1) (V m c main_arg2) (V m c main_arg4) := by
  entry_read
  rfl

/-- The launch's rows are the reference's. -/
theorem row_eq (r : Fin 8192) : Ker.row m c r = Ref.row (V m c main_arg0) (V m c main_arg1) (V m c main_arg2) (V m c main_arg3) (V m c main_arg4)
    (V m c main_arg5) r := by
  unfold Ker.row Ref.row
  rw [gate_eq, up_eq]

/-- Where the precondition holds, what must be real of every row's operands is. -/
theorem real_of_pre [Cert.Pre_finite_ffn_bwd.Facts] (h : Cert.Pre_Kernel2Ideal_finite_ffn_bwd m) (r : Fin 8192) : (Ker.row m c r).Real := by
  obtain ⟨h0, h1, h2, h3⟩ := h c
  have rdx : ∀ k, IsReal ((Ker.row m c r).dx k) := by
    intro k
    have := congrFun h0 (ix2 r k)
    pointwise [Cert.Pre_finite_ffn_bwd.fn] at this
    exact Merge.isReal_of_cmp _ this
  have rg : ∀ k, IsReal ((Ker.row m c r).g k) := by
    intro k
    have := congrFun h1 (ix2 0 k)
    pointwise [Cert.Pre_finite_ffn_bwd.fn] at this
    exact Merge.isReal_of_cmp _ this
  have rwu : ∀ j k, IsReal ((Ker.row m c r).wu j k) := by
    intro j k
    have := congrFun h2 (ix2 j k)
    pointwise [Cert.Pre_finite_ffn_bwd.fn] at this
    exact Merge.isReal_of_cmp _ this
  have rwd : ∀ j k, IsReal ((Ker.row m c r).wd j k) := by
    intro j k
    have := congrFun h3 (ix2 j k)
    pointwise [Cert.Pre_finite_ffn_bwd.fn] at this
    exact Merge.isReal_of_cmp _ this
  have rup : ∀ f, IsReal ((Ker.row m c r).up f) := by
    intro f
    have e : (Ker.row m c r).up f = ∑ k, rn (Ker.row m c r).x k * (Ker.row m c r).g k * (Ker.row m c r).wu f k :=
      (congrFun (up_eq m c) (ix2 r f)).trans (Ref.up_apply _ _ _ r f)
    rw [e]
    exact isReal_sum _ _ fun k => ((isReal_rn _ k).mul (rg k)).mul (rwu f k)
  exact ⟨rdx, rup, rwd⟩

/-- Window 8 ends holding the reference's result: the gate projection's gradient. -/
theorem out_8 [Cert.Pre_finite_ffn_bwd.Facts] (h : Cert.Pre_Kernel2Ideal_finite_ffn_bwd m) : (dats m 0 c).arrAt 8 cfg0.N
    = Cert.Reference2Ideal.Read.val_main_v57 (F := Ideal) (V m c main_arg0) (V m c main_arg1) (V m c main_arg2) (V m c main_arg3) (V m c main_arg4) (V m c main_arg5) := by
  rw [Ker.final_8]
  funext y
  obtain ⟨r, k, rfl⟩ : ∃ r k, y = ix2 (n0 := 8192) (n1 := 2816) r k := ⟨y 0, y 1, eq_ix2 y⟩
  exact (congrArg (fun q : FRow => q.dgate k) (row_eq m c r)).trans (Ref.dgate (V m c main_arg0) (V m c main_arg1) (V m c main_arg2) (V m c main_arg3) (V m c main_arg4) (V m c main_arg5) r k (row_eq m c r ▸ real_of_pre m c h r)).symm

/-- Window 9 ends holding the reference's result: the linear projection's gradient. -/
theorem out_9 : (dats m 0 c).arrAt 9 cfg0.N
    = Cert.Reference2Ideal.Read.val_main_v58 (F := Ideal) (V m c main_arg0) (V m c main_arg1) (V m c main_arg2) (V m c main_arg3) (V m c main_arg5) := by
  rw [Ker.final_9]
  funext y
  obtain ⟨r, k, rfl⟩ : ∃ r k, y = ix2 (n0 := 8192) (n1 := 2816) r k := ⟨y 0, y 1, eq_ix2 y⟩
  exact (congrArg (fun q : FRow => q.dup k) (row_eq m c r)).trans (Ref.dup (V m c main_arg0) (V m c main_arg1) (V m c main_arg2) (V m c main_arg3) (V m c main_arg4) (V m c main_arg5) r k).symm

/-- Window 10 ends holding the reference's result: the row's gradient. -/
theorem out_10 [Cert.Pre_finite_ffn_bwd.Facts] (h : Cert.Pre_Kernel2Ideal_finite_ffn_bwd m) : (dats m 0 c).arrAt 10 cfg0.N
    = Cert.Reference2Ideal.Read.val_main_v59 (F := Ideal) (V m c main_arg0) (V m c main_arg1) (V m c main_arg2) (V m c main_arg3) (V m c main_arg4) (V m c main_arg5) := by
  rw [Ker.final_10]
  funext y
  obtain ⟨r, k, rfl⟩ : ∃ r k, y = ix2 (n0 := 8192) (n1 := 1024) r k := ⟨y 0, y 1, eq_ix2 y⟩
  exact (congrArg (fun q : FRow => q.dout k) (row_eq m c r)).trans (Ref.dout (V m c main_arg0) (V m c main_arg1) (V m c main_arg2) (V m c main_arg3) (V m c main_arg4) (V m c main_arg5) r k (row_eq m c r ▸ real_of_pre m c h r)).symm

/-- Window 11 ends holding the reference's result: the gain's gradient. -/
theorem out_11 [Cert.Pre_finite_ffn_bwd.Facts] (h : Cert.Pre_Kernel2Ideal_finite_ffn_bwd m) : (dats m 0 c).arrAt 11 cfg0.N
    = Cert.Reference2Ideal.Read.val_main_v56 (F := Ideal) (V m c main_arg0) (V m c main_arg1) (V m c main_arg2) (V m c main_arg3) (V m c main_arg4) (V m c main_arg5) := by
  rw [Ker.final_11]
  funext y
  obtain ⟨r, k, rfl⟩ : ∃ r k, y = ix2 (n0 := 1) (n1 := 1024) r k := ⟨y 0, y 1, eq_ix2 y⟩
  obtain rfl : r = 0 := Subsingleton.elim _ _
  exact (Finset.sum_congr rfl fun r _ => congrArg (fun q : FRow => q.dgain k) (row_eq m c r)).trans
    (Ref.dgain (V m c main_arg0) (V m c main_arg1) (V m c main_arg2) (V m c main_arg3) (V m c main_arg4) (V m c main_arg5) k fun r => row_eq m c r ▸ real_of_pre m c h r).symm

/-- Over arguments that agree, the reference's result is window 8's array. -/
theorem of_agree_8 [Cert.Pre_finite_ffn_bwd.Facts] (h : Cert.Pre_Kernel2Ideal_finite_ffn_bwd m) (x0 : FVec Ideal S8192x1024 .f32) (x1 : FVec Ideal S8192x1024 .f32) (x2 : FVec Ideal S1x1024 .f32) (x3 : FVec Ideal S2816x1024 .bf16) (x4 : FVec Ideal S2816x1024 .bf16) (x5 : FVec Ideal S2816x1024 .bf16)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) (e4 : x4 = m ((c.tc : Thread nD τ).loc main_arg4)) (e5 : x5 = m ((c.tc : Thread nD τ).loc main_arg5)) :
    Cert.Reference2Ideal.Read.val_main_v57 (F := Ideal) x0 x1 x2 x3 x4 x5 = (dats m 0 c).arrAt 8 cfg0.N := by
  subst e0 e1 e2 e3 e4 e5
  exact (out_8 m c h).symm

/-- Over arguments that agree, the reference's result is window 9's array. -/
theorem of_agree_9 (x0 : FVec Ideal S8192x1024 .f32) (x1 : FVec Ideal S8192x1024 .f32) (x2 : FVec Ideal S1x1024 .f32) (x3 : FVec Ideal S2816x1024 .bf16) (x5 : FVec Ideal S2816x1024 .bf16)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) (e5 : x5 = m ((c.tc : Thread nD τ).loc main_arg5)) :
    Cert.Reference2Ideal.Read.val_main_v58 (F := Ideal) x0 x1 x2 x3 x5 = (dats m 0 c).arrAt 9 cfg0.N := by
  subst e0 e1 e2 e3 e5
  exact (out_9 m c).symm

/-- Over arguments that agree, the reference's result is window 10's array. -/
theorem of_agree_10 [Cert.Pre_finite_ffn_bwd.Facts] (h : Cert.Pre_Kernel2Ideal_finite_ffn_bwd m) (x0 : FVec Ideal S8192x1024 .f32) (x1 : FVec Ideal S8192x1024 .f32) (x2 : FVec Ideal S1x1024 .f32) (x3 : FVec Ideal S2816x1024 .bf16) (x4 : FVec Ideal S2816x1024 .bf16) (x5 : FVec Ideal S2816x1024 .bf16)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) (e4 : x4 = m ((c.tc : Thread nD τ).loc main_arg4)) (e5 : x5 = m ((c.tc : Thread nD τ).loc main_arg5)) :
    Cert.Reference2Ideal.Read.val_main_v59 (F := Ideal) x0 x1 x2 x3 x4 x5 = (dats m 0 c).arrAt 10 cfg0.N := by
  subst e0 e1 e2 e3 e4 e5
  exact (out_10 m c h).symm

/-- Over arguments that agree, the reference's result is window 11's array. -/
theorem of_agree_11 [Cert.Pre_finite_ffn_bwd.Facts] (h : Cert.Pre_Kernel2Ideal_finite_ffn_bwd m) (x0 : FVec Ideal S8192x1024 .f32) (x1 : FVec Ideal S8192x1024 .f32) (x2 : FVec Ideal S1x1024 .f32) (x3 : FVec Ideal S2816x1024 .bf16) (x4 : FVec Ideal S2816x1024 .bf16) (x5 : FVec Ideal S2816x1024 .bf16)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) (e4 : x4 = m ((c.tc : Thread nD τ).loc main_arg4)) (e5 : x5 = m ((c.tc : Thread nD τ).loc main_arg5)) :
    Cert.Reference2Ideal.Read.val_main_v56 (F := Ideal) x0 x1 x2 x3 x4 x5 = (dats m 0 c).arrAt 11 cfg0.N := by
  subst e0 e1 e2 e3 e4 e5
  exact (out_11 m c h).symm

end Cert.FfnBwd
-- ==== Proof.FfnFwdSpec.lean ====
/- FfnFwdSpec: the SwiGLU channel mixer of one row, the RMSNorm and the loss after it, and the loss's gradient at the mixer's
   output, as functions of that row's operands. Both programs compute it row by row; each module about a program says what
   it leaves at a row in these words. -/
module

public import proofs.«01_k».proof.Proof.RmsNorm

@[expose] public section

noncomputable section

namespace Cert.FfnFwd

open Idealize.ShloMosaic Cert.Scalars
open scoped BigOperators

/-- One row's operands: the row `x`, its target `t`, and what every row shares: the gains of the norm before the mixer and of
    the last norm, and the mixer's three weights. -/
structure LRow where
  /-- the row before the norm -/
  x : Fin 1024 → EReal
  /-- the loss's target -/
  t : Fin 1024 → EReal
  /-- the gain of the norm before the mixer -/
  g : Fin 1024 → EReal
  /-- the gain of the last norm -/
  g3 : Fin 1024 → EReal
  /-- the gate projection's weight -/
  wg : Fin 2816 → Fin 1024 → EReal
  /-- the linear projection's weight -/
  wu : Fin 2816 → Fin 1024 → EReal
  /-- the output projection's weight -/
  wd : Fin 2816 → Fin 1024 → EReal

namespace LRow

variable (q : LRow)

/-- The scaled, normalised row. -/
def h (k : Fin 1024) : EReal := rn q.x k * q.g k
/-- The gate projection. -/
def gate (f : Fin 2816) : EReal := ∑ k, q.h k * q.wg f k
/-- The linear projection. -/
def up (f : Fin 2816) : EReal := ∑ k, q.h k * q.wu f k
/-- The hidden activations. -/
def act (f : Fin 2816) : EReal := q.gate f * sg (q.gate f) * q.up f
/-- The mixer's output with the row added. -/
def x2 (k : Fin 1024) : EReal := q.x k + ∑ f, q.act f * q.wd f k
/-- The scaled, normalised output less the target. -/
def err (k : Fin 1024) : EReal := rn q.x2 k * q.g3 k - q.t k
/-- The row's part of the loss: half the mean of the squared errors. -/
def loss : EReal := rmean (fun k => q.err k * q.err k) * Ideal.ofBits .f32 0x3F000000#32
/-- The loss's gradient at the scaled output. -/
def dy (k : Fin 1024) : EReal := q.err k * Ideal.ofBits .f32 0x3A800000#32
/-- The row's part of the last gain's gradient. -/
def dgain (k : Fin 1024) : EReal := q.dy k * rn q.x2 k
/-- The loss's gradient at the mixer's output. -/
def dout (k : Fin 1024) : EReal := rnormBwd q.x2 (fun j => q.dy j * q.g3 j) k

end LRow

/-- The f32 pattern `0x40000000` is two. -/
theorem ofBits_two : Ideal.ofBits .f32 0x40000000#32 = ((2 : ℝ) : EReal) := by
  simp [Ideal.ofBits, Ideal.ieee, -EReal.coe_mul]; norm_num

/-- The f32 pattern `0x3A800000` is the reciprocal of 1024. -/
theorem ofBits_inv_1024 : Ideal.ofBits .f32 0x3A800000#32 = ((1 / 1024 : ℝ) : EReal) := by
  simp [Ideal.ofBits, Ideal.ieee, -EReal.coe_mul]; norm_num

/-- Half the mean's gradient against twice the error is the error over 1024. -/
theorem dy_eq (e : EReal) : Ideal.div (Ideal.ofBits .f32 0x3F000000#32) (Ideal.ofBits .f32 0x44800000#32)
    * (Ideal.ofBits .f32 0x40000000#32 * e) = e * Ideal.ofBits .f32 0x3A800000#32 := by
  rw [ofBits_half, ofBits_1024, ofBits_two, ofBits_inv_1024, div_coe_coe _ _ (by norm_num), ← mul_assoc, ← EReal.coe_mul, mul_comm]
  congr 2
  norm_num

end Cert.FfnFwd
-- ==== Proof.FfnFwdTiles.lean ====
/- FfnFwdTiles: what the kernel's stored values are at a row of a block, in FfnFwdSpec's words. -/
module

public import proofs.«01_k».proof.Proof.FfnFwdSpec
public import proofs.«01_k».proof.Proof.Gen.Kernel3Ideal.Skeleton

@[expose] public section

set_option maxRecDepth 16384

noncomputable section

namespace Cert.FfnFwd.Ker

open Cert.Kernel3Ideal Cert.Kernel3Ideal.Gen Cert.Scalars Cert.FfnFwd
open Idealize.ShloMosaic Idealize.ShloMosaic.TcCoe Idealize.SL.Sem
open scoped BigOperators

/-- The operands of row `i` of a block. -/
def blkRow (b0 b1 : FVec Ideal S256x1024 .f32) (b2 b3 : FVec Ideal S1x1024 .f32) (b4 b5 b6 : FVec Ideal S2816x1024 .bf16) (i : Fin 256) : LRow where
  x k := b0 (ix2 i k)
  t k := b1 (ix2 i k)
  g k := b2 (ix2 0 k)
  g3 k := b3 (ix2 0 k)
  wg j k := b4 (ix2 j k)
  wu j k := b5 (ix2 j k)
  wd j k := b6 (ix2 j k)

variable (b0 b1 : FVec Ideal S256x1024 .f32) (b2 b3 : FVec Ideal S1x1024 .f32) (b4 b5 b6 : FVec Ideal S2816x1024 .bf16)

/-- The scaled, normalised row. -/
theorem hn (i : Fin 256) (k : Fin 1024) : k0_pay6 (F := Ideal) b0 b2 (ix2 i k) = (blkRow b0 b1 b2 b3 b4 b5 b6 i).h k := by
  pointwise [k0_pay6, LRow.h, rn, rrt, rve, rmean, blkRow]

/-- The gate projection. -/
theorem gate (i : Fin 256) (f : Fin 2816) : k0_pay7 (F := Ideal) b0 b2 b4 (ix2 i f) = (blkRow b0 b1 b2 b3 b4 b5 b6 i).gate f := by
  pointwise [k0_pay7]
  simp only [hn b0 b1 b2 b3 b4 b5 b6]; rfl

/-- The linear projection. -/
theorem up (i : Fin 256) (f : Fin 2816) : k0_pay8 (F := Ideal) b0 b2 b5 (ix2 i f) = (blkRow b0 b1 b2 b3 b4 b5 b6 i).up f := by
  pointwise [k0_pay8]
  simp only [hn b0 b1 b2 b3 b4 b5 b6]; rfl

/-- The hidden activations. -/
theorem act (i : Fin 256) (f : Fin 2816) : k0_pay11 (F := Ideal) (k0_pay7 b0 b2 b4) (k0_pay8 b0 b2 b5) (k0_pay9 b0 b2 b4) k0_pay10 (ix2 i f) = (blkRow b0 b1 b2 b3 b4 b5 b6 i).act f := by
  pointwise [k0_pay11, k0_pay9, k0_pay10, half_tanh]
  rw [gate b0 b1 b2 b3 b4 b5 b6, up b0 b1 b2 b3 b4 b5 b6]; rfl

/-- The mixer's output with the row added. -/
theorem out (i : Fin 256) (k : Fin 1024) : k0_pay12 (F := Ideal) b0 (k0_pay7 b0 b2 b4) (k0_pay8 b0 b2 b5) (k0_pay9 b0 b2 b4) k0_pay10 b6 (ix2 i k) = (blkRow b0 b1 b2 b3 b4 b5 b6 i).x2 k := by
  pointwise [k0_pay12]
  simp only [act b0 b1 b2 b3 b4 b5 b6]; rfl

/-- Its reciprocal root mean square. -/
theorem rt2 (i : Fin 256) : k0_pay13 (F := Ideal) b0 (k0_pay7 b0 b2 b4) (k0_pay8 b0 b2 b5) (k0_pay9 b0 b2 b4) k0_pay10 b6 (ix2 i 0) = rrt (blkRow b0 b1 b2 b3 b4 b5 b6 i).x2 := by
  pointwise [k0_pay13]
  simp only [out b0 b1 b2 b3 b4 b5 b6]; rfl

/-- The normalised output. -/
theorem nrm2 (i : Fin 256) (k : Fin 1024) : k0_pay14 (F := Ideal) b0 (k0_pay7 b0 b2 b4) (k0_pay8 b0 b2 b5) (k0_pay9 b0 b2 b4) k0_pay10 b6 (ix2 i k) = rn (blkRow b0 b1 b2 b3 b4 b5 b6 i).x2 k := by
  pointwise [k0_pay14]
  rw [out b0 b1 b2 b3 b4 b5 b6, rt2 b0 b1 b2 b3 b4 b5 b6]; rfl

/-- The scaled, normalised output less the target. -/
theorem err (i : Fin 256) (k : Fin 1024) : k0_pay15 (F := Ideal) b0 (k0_pay7 b0 b2 b4) (k0_pay8 b0 b2 b5) (k0_pay9 b0 b2 b4) k0_pay10 b6 b3 b1 (ix2 i k) = (blkRow b0 b1 b2 b3 b4 b5 b6 i).err k := by
  pointwise [k0_pay15]
  rw [nrm2 b0 b1 b2 b3 b4 b5 b6]; rfl

/-- The loss: what the block held, and the block's rows' parts. -/
theorem loss (a : FVec Ideal S1x128 .f32) (l : Fin 128) : k0_pay16 (F := Ideal) b0 (k0_pay7 b0 b2 b4) (k0_pay8 b0 b2 b5) (k0_pay9 b0 b2 b4) k0_pay10 b6 b3 b1 a (ix2 0 l)
    = a (ix2 0 l) + ∑ i, (blkRow b0 b1 b2 b3 b4 b5 b6 i).loss := by
  pointwise [k0_pay16]
  simp only [err b0 b1 b2 b3 b4 b5 b6]
  rw [ofBits_half, mul_comm, sum_mul_coe _ _ (by norm_num)]
  refine congrArg _ (Finset.sum_congr rfl fun i _ => ?_)
  rw [← ofBits_half]; rfl

/-- The loss's gradient at the scaled output. -/
theorem dy (i : Fin 256) (k : Fin 1024) : k0_pay1 (F := Ideal) (k0_pay15 b0 (k0_pay7 b0 b2 b4) (k0_pay8 b0 b2 b5) (k0_pay9 b0 b2 b4) k0_pay10 b6 b3 b1) (Ideal.ofBits .f32 0x3A800000#32) (ix2 i k) = (blkRow b0 b1 b2 b3 b4 b5 b6 i).dy k := by
  pointwise [k0_pay1]
  rw [err b0 b1 b2 b3 b4 b5 b6]; rfl

/-- The last gain's gradient: what the block held, and the block's rows' parts. -/
theorem dgain (a : FVec Ideal S1x1024 .f32) (k : Fin 1024) : k0_pay2 (F := Ideal) (k0_pay14 b0 (k0_pay7 b0 b2 b4) (k0_pay8 b0 b2 b5) (k0_pay9 b0 b2 b4) k0_pay10 b6) (k0_pay15 b0 (k0_pay7 b0 b2 b4) (k0_pay8 b0 b2 b5) (k0_pay9 b0 b2 b4) k0_pay10 b6 b3 b1) (Scalar.ofBits .f32 0x3A800000#32) a (ix2 0 k)
    = a (ix2 0 k) + ∑ i, (blkRow b0 b1 b2 b3 b4 b5 b6 i).dgain k := by
  pointwise [k0_pay2]
  simp only [nrm2 b0 b1 b2 b3 b4 b5 b6, dy b0 b1 b2 b3 b4 b5 b6]; rfl

/-- The loss's gradient at the mixer's output. -/
theorem dout (i : Fin 256) (k : Fin 1024) : k0_pay3 (F := Ideal) (k0_pay13 b0 (k0_pay7 b0 b2 b4) (k0_pay8 b0 b2 b5) (k0_pay9 b0 b2 b4) k0_pay10 b6) (k0_pay14 b0 (k0_pay7 b0 b2 b4) (k0_pay8 b0 b2 b5) (k0_pay9 b0 b2 b4) k0_pay10 b6) b3 (k0_pay15 b0 (k0_pay7 b0 b2 b4) (k0_pay8 b0 b2 b5) (k0_pay9 b0 b2 b4) k0_pay10 b6 b3 b1) (Scalar.ofBits .f32 0x3A800000#32) (ix2 i k) = (blkRow b0 b1 b2 b3 b4 b5 b6 i).dout k := by
  pointwise [k0_pay3]
  simp only [nrm2 b0 b1 b2 b3 b4 b5 b6, dy b0 b1 b2 b3 b4 b5 b6, rt2 b0 b1 b2 b3 b4 b5 b6]; rfl

end Cert.FfnFwd.Ker
-- ==== Proof.FfnFwdRows.lean ====
/- FfnFwdRows: what the launch of the mixer's forward pass leaves in its seven arrays, in FfnFwdSpec's words. -/
module

public import proofs.«01_k».proof.Proof.FfnFwdTiles
public import proofs.«01_k».proof.Proof.Gen.Kernel3Ideal.Frame
public import Idealize.ShloMosaic.Lib.Pipeline.ValueKit
public import Idealize.ShloMosaic.Lib.Pipeline.ReadBack

@[expose] public section

set_option maxRecDepth 16384

noncomputable section

namespace Cert.FfnFwd.Ker

open Cert.Kernel3Ideal Cert.Kernel3Ideal.Gen Cert.Scalars Cert.FfnFwd
open Idealize.ShloMosaic Idealize.ShloMosaic.TcCoe Idealize.SL.Sem
open Idealize.ShloMosaic.Pipeline (Dat)
open scoped BigOperators

/-- Which block each window shows at step `t`: the `t`-th row block, or always the first one. -/
theorem idx_val : ∀ t : Fin cfg0.N, win0_0.index t = ![t.val, 0] ∧ win0_1.index t = ![t.val, 0] ∧ win0_7.index t = ![t.val, 0] ∧ win0_8.index t = ![t.val, 0] ∧ win0_9.index t = ![t.val, 0] ∧ win0_10.index t = ![t.val, 0] ∧ win0_11.index t = ![t.val, 0]
    ∧ win0_2.index t = ![0, 0] ∧ win0_3.index t = ![0, 0] ∧ win0_4.index t = ![0, 0] ∧ win0_5.index t = ![0, 0] ∧ win0_6.index t = ![0, 0] ∧ win0_12.index t = ![0, 0] ∧ win0_13.index t = ![0, 0] :=
  (by decide +kernel : ∀ t : Fin grid0.N, _)

/-- The last grid point. -/
def tLast : Fin grid0.N := ⟨31, by rw [N_0]; decide⟩

variable (m : (ℓ : Loc nD τ sig) → Buf (Elt Ideal) ℓ) (c : Dev nD)

/-- The operands of row `r` of the whole arrays. -/
def row (r : Fin 8192) : LRow where
  x k := (V m c main_arg0 : FVec Ideal S8192x1024 .f32) (ix2 r k)
  t k := (V m c main_arg1 : FVec Ideal S8192x1024 .f32) (ix2 r k)
  g k := (V m c main_arg2 : FVec Ideal S1x1024 .f32) (ix2 0 k)
  g3 k := (V m c main_arg3 : FVec Ideal S1x1024 .f32) (ix2 0 k)
  wg j k := (V m c main_arg4 : FVec Ideal S2816x1024 .bf16) (ix2 j k)
  wu j k := (V m c main_arg5 : FVec Ideal S2816x1024 .bf16) (ix2 j k)
  wd j k := (V m c main_arg6 : FVec Ideal S2816x1024 .bf16) (ix2 j k)

/-- The operands of a row of the block at a grid point. -/
def brow (t : Fin cfg0.N) (i : Fin 256) : LRow := blkRow (iblk m c 0 t) (iblk m c 1 t) (iblk m c 2 t) (iblk m c 3 t) (iblk m c 4 t) (iblk m c 5 t) (iblk m c 6 t) i

/-- The row of the whole arrays that a row of a block holds. -/
def arow (t : Fin cfg0.N) (i : Fin 256) : Fin 8192 := ⟨256 * t.val + i.val, by have := t.isLt; have : cfg0.N = 32 := N_0; omega⟩

/-- What operand 0 holds in the block that step `t` reads. -/
theorem blk0 (t : Fin cfg0.N) (i : Fin 256) (k : Fin 1024) :
    (iblk m c 0 t : FVec Ideal S256x1024 .f32) (ix2 i k) = (V m c main_arg0 : FVec Ideal S8192x1024 .f32) (ix2 (arow t i) k) := by
  blk_ext! [iblk, arow, idx_val t]

/-- What operand 1 holds in the block that step `t` reads. -/
theorem blk1 (t : Fin cfg0.N) (i : Fin 256) (k : Fin 1024) :
    (iblk m c 1 t : FVec Ideal S256x1024 .f32) (ix2 i k) = (V m c main_arg1 : FVec Ideal S8192x1024 .f32) (ix2 (arow t i) k) := by
  blk_ext! [iblk, arow, idx_val t]

/-- What operand 2 holds in the block that step `t` reads. -/
theorem blk2 (t : Fin cfg0.N) (k : Fin 1024) :
    (iblk m c 2 t : FVec Ideal S1x1024 .f32) (ix2 0 k) = (V m c main_arg2 : FVec Ideal S1x1024 .f32) (ix2 0 k) := by
  blk_ext! [iblk, idx_val t]

/-- What operand 3 holds in the block that step `t` reads. -/
theorem blk3 (t : Fin cfg0.N) (k : Fin 1024) :
    (iblk m c 3 t : FVec Ideal S1x1024 .f32) (ix2 0 k) = (V m c main_arg3 : FVec Ideal S1x1024 .f32) (ix2 0 k) := by
  blk_ext! [iblk, idx_val t]

/-- What operand 4 holds in the block that step `t` reads. -/
theorem blk4 (t : Fin cfg0.N) (j : Fin 2816) (k : Fin 1024) :
    (iblk m c 4 t : FVec Ideal S2816x1024 .bf16) (ix2 j k) = (V m c main_arg4 : FVec Ideal S2816x1024 .bf16) (ix2 j k) := by
  blk_ext! [iblk, idx_val t]

/-- What operand 5 holds in the block that step `t` reads. -/
theorem blk5 (t : Fin cfg0.N) (j : Fin 2816) (k : Fin 1024) :
    (iblk m c 5 t : FVec Ideal S2816x1024 .bf16) (ix2 j k) = (V m c main_arg5 : FVec Ideal S2816x1024 .bf16) (ix2 j k) := by
  blk_ext! [iblk, idx_val t]

/-- What operand 6 holds in the block that step `t` reads. -/
theorem blk6 (t : Fin cfg0.N) (j : Fin 2816) (k : Fin 1024) :
    (iblk m c 6 t : FVec Ideal S2816x1024 .bf16) (ix2 j k) = (V m c main_arg6 : FVec Ideal S2816x1024 .bf16) (ix2 j k) := by
  blk_ext! [iblk, idx_val t]

/-- A block's row is the arrays' row it holds. -/
theorem brow_eq (t : Fin cfg0.N) (i : Fin 256) : brow m c t i = row m c (arow t i) := by
  unfold brow blkRow row
  simp only [blk0, blk1, blk2, blk3, blk4, blk5, blk6]

/-- What a row of a block has at a column is what the arrays' row has at the index the block's entry lands on. -/
theorem at_emb {n : ℕ} (f : LRow → Fin n → EReal) (t : Fin cfg0.N) (i : Fin 256) (k : Fin n) (r : Fin 8192) (k' : Fin n) (h0 : r.val = 256 * t.val + i.val)
    (h1 : k'.val = k.val) : f (brow m c t i) k = f (row m c r) k' := by
  have e0 : r = arow t i := Fin.ext h0
  have e1 : k' = k := Fin.ext h1
  rw [brow_eq, e0, e1]

/-- Window 7's array: the gate projection. -/
theorem final_7 : (dats m 0 c).arrAt 7 cfg0.N = fun y : S8192x2816.Idx => (row m c (y 0)).gate (y 1) := by
  refine (dats m 0 c).arrAt_eq_of_covers 7 _ (by decide +kernel) fun t hf y => ?_
  blk_simp [idx_val t]
  rw [after0_7]
  by_cases h : t.val % 32 = 0
  · rw [outsAt0_A m c t h]; dsimp only
    frame_out
    obtain ⟨i, k, rfl⟩ : ∃ i k, y = ix2 (n0 := 256) (n1 := 2816) i k := ⟨y 0, y 1, eq_ix2 y⟩
    refine (gate (iblk m c 0 t) (iblk m c 1 t) (iblk m c 2 t) (iblk m c 3 t) (iblk m c 4 t) (iblk m c 5 t) (iblk m c 6 t) i k).trans (at_emb m c LRow.gate t i k _ _ ?_ ?_) <;> (blk_simp [idx_val t]; try omega)
  · rw [outsAt0_B m c t h]; dsimp only
    frame_out
    obtain ⟨i, k, rfl⟩ : ∃ i k, y = ix2 (n0 := 256) (n1 := 2816) i k := ⟨y 0, y 1, eq_ix2 y⟩
    refine (gate (iblk m c 0 t) (iblk m c 1 t) (iblk m c 2 t) (iblk m c 3 t) (iblk m c 4 t) (iblk m c 5 t) (iblk m c 6 t) i k).trans (at_emb m c LRow.gate t i k _ _ ?_ ?_) <;> (blk_simp [idx_val t]; try omega)

/-- Window 8's array: the linear projection. -/
theorem final_8 : (dats m 0 c).arrAt 8 cfg0.N = fun y : S8192x2816.Idx => (row m c (y 0)).up (y 1) := by
  refine (dats m 0 c).arrAt_eq_of_covers 8 _ (by decide +kernel) fun t hf y => ?_
  blk_simp [idx_val t]
  rw [after0_8]
  by_cases h : t.val % 32 = 0
  · rw [outsAt0_A m c t h]; dsimp only
    frame_out
    obtain ⟨i, k, rfl⟩ : ∃ i k, y = ix2 (n0 := 256) (n1 := 2816) i k := ⟨y 0, y 1, eq_ix2 y⟩
    refine (up (iblk m c 0 t) (iblk m c 1 t) (iblk m c 2 t) (iblk m c 3 t) (iblk m c 4 t) (iblk m c 5 t) (iblk m c 6 t) i k).trans (at_emb m c LRow.up t i k _ _ ?_ ?_) <;> (blk_simp [idx_val t]; try omega)
  · rw [outsAt0_B m c t h]; dsimp only
    frame_out
    obtain ⟨i, k, rfl⟩ : ∃ i k, y = ix2 (n0 := 256) (n1 := 2816) i k := ⟨y 0, y 1, eq_ix2 y⟩
    refine (up (iblk m c 0 t) (iblk m c 1 t) (iblk m c 2 t) (iblk m c 3 t) (iblk m c 4 t) (iblk m c 5 t) (iblk m c 6 t) i k).trans (at_emb m c LRow.up t i k _ _ ?_ ?_) <;> (blk_simp [idx_val t]; try omega)

/-- Window 9's array: the scaled, normalised row. -/
theorem final_9 : (dats m 0 c).arrAt 9 cfg0.N = fun y : S8192x1024.Idx => (row m c (y 0)).h (y 1) := by
  refine (dats m 0 c).arrAt_eq_of_covers 9 _ (by decide +kernel) fun t hf y => ?_
  blk_simp [idx_val t]
  rw [after0_9]
  by_cases h : t.val % 32 = 0
  · rw [outsAt0_A m c t h]; dsimp only
    frame_out
    obtain ⟨i, k, rfl⟩ : ∃ i k, y = ix2 (n0 := 256) (n1 := 1024) i k := ⟨y 0, y 1, eq_ix2 y⟩
    refine (hn (iblk m c 0 t) (iblk m c 1 t) (iblk m c 2 t) (iblk m c 3 t) (iblk m c 4 t) (iblk m c 5 t) (iblk m c 6 t) i k).trans (at_emb m c LRow.h t i k _ _ ?_ ?_) <;> (blk_simp [idx_val t]; try omega)
  · rw [outsAt0_B m c t h]; dsimp only
    frame_out
    obtain ⟨i, k, rfl⟩ : ∃ i k, y = ix2 (n0 := 256) (n1 := 1024) i k := ⟨y 0, y 1, eq_ix2 y⟩
    refine (hn (iblk m c 0 t) (iblk m c 1 t) (iblk m c 2 t) (iblk m c 3 t) (iblk m c 4 t) (iblk m c 5 t) (iblk m c 6 t) i k).trans (at_emb m c LRow.h t i k _ _ ?_ ?_) <;> (blk_simp [idx_val t]; try omega)

/-- Window 10's array: the hidden activations. -/
theorem final_10 : (dats m 0 c).arrAt 10 cfg0.N = fun y : S8192x2816.Idx => (row m c (y 0)).act (y 1) := by
  refine (dats m 0 c).arrAt_eq_of_covers 10 _ (by decide +kernel) fun t hf y => ?_
  blk_simp [idx_val t]
  rw [after0_10]
  by_cases h : t.val % 32 = 0
  · rw [outsAt0_A m c t h]; dsimp only
    frame_out
    obtain ⟨i, k, rfl⟩ : ∃ i k, y = ix2 (n0 := 256) (n1 := 2816) i k := ⟨y 0, y 1, eq_ix2 y⟩
    refine (act (iblk m c 0 t) (iblk m c 1 t) (iblk m c 2 t) (iblk m c 3 t) (iblk m c 4 t) (iblk m c 5 t) (iblk m c 6 t) i k).trans (at_emb m c LRow.act t i k _ _ ?_ ?_) <;> (blk_simp [idx_val t]; try omega)
  · rw [outsAt0_B m c t h]; dsimp only
    frame_out
    obtain ⟨i, k, rfl⟩ : ∃ i k, y = ix2 (n0 := 256) (n1 := 2816) i k := ⟨y 0, y 1, eq_ix2 y⟩
    refine (act (iblk m c 0 t) (iblk m c 1 t) (iblk m c 2 t) (iblk m c 3 t) (iblk m c 4 t) (iblk m c 5 t) (iblk m c 6 t) i k).trans (at_emb m c LRow.act t i k _ _ ?_ ?_) <;> (blk_simp [idx_val t]; try omega)

/-- Window 11's array: the loss's gradient at the mixer's output. -/
theorem final_11 : (dats m 0 c).arrAt 11 cfg0.N = fun y : S8192x1024.Idx => (row m c (y 0)).dout (y 1) := by
  refine (dats m 0 c).arrAt_eq_of_covers 11 _ (by decide +kernel) fun t hf y => ?_
  blk_simp [idx_val t]
  rw [after0_11]
  by_cases h : t.val % 32 = 0
  · rw [outsAt0_A m c t h]; dsimp only
    frame_out
    obtain ⟨i, k, rfl⟩ : ∃ i k, y = ix2 (n0 := 256) (n1 := 1024) i k := ⟨y 0, y 1, eq_ix2 y⟩
    refine (dout (iblk m c 0 t) (iblk m c 1 t) (iblk m c 2 t) (iblk m c 3 t) (iblk m c 4 t) (iblk m c 5 t) (iblk m c 6 t) i k).trans (at_emb m c LRow.dout t i k _ _ ?_ ?_) <;> (blk_simp [idx_val t]; try omega)
  · rw [outsAt0_B m c t h]; dsimp only
    frame_out
    obtain ⟨i, k, rfl⟩ : ∃ i k, y = ix2 (n0 := 256) (n1 := 1024) i k := ⟨y 0, y 1, eq_ix2 y⟩
    refine (dout (iblk m c 0 t) (iblk m c 1 t) (iblk m c 2 t) (iblk m c 3 t) (iblk m c 4 t) (iblk m c 5 t) (iblk m c 6 t) i k).trans (at_emb m c LRow.dout t i k _ _ ?_ ?_) <;> (blk_simp [idx_val t]; try omega)

/-- The fill of window 12 is zero. -/
theorem fill12 (x : S1x128.Idx) : k0_pay4 (F := Ideal) x = 0 := by
  idx_vars x
  pointwise [k0_pay4]

/-- Window 12 after a point that begins the sum. -/
theorem loss_first (t : Fin cfg0.N) (h : t.val % 32 = 0) (y : S1x128.Idx) :
    ((outsAt0 m c t.val t.isLt).2.2.2.2.2.1 : S1x128.Idx → EReal) y = 0 + ∑ i, (brow m c t i).loss := by
  rw [outsAt0_A m c t h]; dsimp only
  frame_out
  obtain ⟨j, k, rfl⟩ : ∃ j k, y = ix2 (n0 := 1) (n1 := 128) j k := ⟨y 0, y 1, eq_ix2 y⟩
  obtain rfl : j = 0 := Subsingleton.elim _ _
  exact (loss (iblk m c 0 t) (iblk m c 1 t) (iblk m c 2 t) (iblk m c 3 t) (iblk m c 4 t) (iblk m c 5 t) (iblk m c 6 t) k0_pay4 k).trans (congrArg (· + _) (fill12 _))

/-- Window 12 after any other point. -/
theorem loss_next (t : Fin cfg0.N) (h : ¬t.val % 32 = 0) (y : S1x128.Idx) :
    ((outsAt0 m c t.val t.isLt).2.2.2.2.2.1 : S1x128.Idx → EReal) y
      = ((outsAt0 m c (t.val - 1) (by omega)).2.2.2.2.2.1 : S1x128.Idx → EReal) y + ∑ i, (brow m c t i).loss := by
  rw [outsAt0_B m c t h]; dsimp only
  frame_out
  obtain ⟨j, k, rfl⟩ : ∃ j k, y = ix2 (n0 := 1) (n1 := 128) j k := ⟨y 0, y 1, eq_ix2 y⟩
  obtain rfl : j = 0 := Subsingleton.elim _ _
  exact loss (iblk m c 0 t) (iblk m c 1 t) (iblk m c 2 t) (iblk m c 3 t) (iblk m c 4 t) (iblk m c 5 t) (iblk m c 6 t) _ k

/-- Window 12's array: the loss, the rows' parts summed. -/
theorem final_12 : (dats m 0 c).arrAt 12 cfg0.N = fun y : S1x128.Idx => ∑ r, (row m c r).loss := by
  refine (dats m 0 c).arrAt_eq_of_after_last 12 tLast (by decide +kernel) _ fun j => ?_
  blk_simp [idx_val tLast]
  rw [after0_12]
  rw [Pipeline.eq_sum_fin_of_reset_step_apply_last (fun n h => ((outsAt0 m c n h).2.2.2.2.2.1 : S1x128.Idx → EReal)) 32 (fun _ => 0)
    (fun t y => ∑ i, (brow m c t i).loss) (loss_first m c) (loss_next m c) (le_of_eq N_0) tLast rfl j, zero_add]
  refine Fin.sum_mul_add_congr (S := cfg0.N) (n := 256) (f := fun r : Fin 8192 => (row m c r).loss) (fun t i hl => ?_) (show 8192 = grid0.N * 256 by rw [N_0])
  exact (congrArg LRow.loss (brow_eq m c t i)).trans (congrArg (fun r => (row m c r).loss) (Fin.ext (by show 256 * t.val + i.val = t.val * 256 + i.val; omega)))

/-- The fill of window 13 is zero. -/
theorem fill13 (x : S1x1024.Idx) : k0_pay5 (F := Ideal) x = 0 := by
  idx_vars x
  pointwise [k0_pay5]

/-- Window 13 after a point that begins the sum. -/
theorem dgain_first (t : Fin cfg0.N) (h : t.val % 32 = 0) (y : S1x1024.Idx) :
    ((outsAt0 m c t.val t.isLt).2.2.2.2.2.2 : S1x1024.Idx → EReal) y = 0 + ∑ i, (brow m c t i).dgain (y 1) := by
  rw [outsAt0_A m c t h]; dsimp only
  frame_out
  obtain ⟨j, k, rfl⟩ : ∃ j k, y = ix2 (n0 := 1) (n1 := 1024) j k := ⟨y 0, y 1, eq_ix2 y⟩
  obtain rfl : j = 0 := Subsingleton.elim _ _
  exact (dgain (iblk m c 0 t) (iblk m c 1 t) (iblk m c 2 t) (iblk m c 3 t) (iblk m c 4 t) (iblk m c 5 t) (iblk m c 6 t) k0_pay5 k).trans (congrArg (· + _) (fill13 _))

/-- Window 13 after any other point. -/
theorem dgain_next (t : Fin cfg0.N) (h : ¬t.val % 32 = 0) (y : S1x1024.Idx) :
    ((outsAt0 m c t.val t.isLt).2.2.2.2.2.2 : S1x1024.Idx → EReal) y
      = ((outsAt0 m c (t.val - 1) (by omega)).2.2.2.2.2.2 : S1x1024.Idx → EReal) y + ∑ i, (brow m c t i).dgain (y 1) := by
  rw [outsAt0_B m c t h]; dsimp only
  frame_out
  obtain ⟨j, k, rfl⟩ : ∃ j k, y = ix2 (n0 := 1) (n1 := 1024) j k := ⟨y 0, y 1, eq_ix2 y⟩
  obtain rfl : j = 0 := Subsingleton.elim _ _
  exact dgain (iblk m c 0 t) (iblk m c 1 t) (iblk m c 2 t) (iblk m c 3 t) (iblk m c 4 t) (iblk m c 5 t) (iblk m c 6 t) _ k

/-- Window 13's array: the last gain's gradient, the rows' parts summed. -/
theorem final_13 : (dats m 0 c).arrAt 13 cfg0.N = fun y : S1x1024.Idx => ∑ r, (row m c r).dgain (y 1) := by
  refine (dats m 0 c).arrAt_eq_of_after_last 13 tLast (by decide +kernel) _ fun j => ?_
  blk_simp [idx_val tLast]
  rw [after0_13]
  rw [Pipeline.eq_sum_fin_of_reset_step_apply_last (fun n h => ((outsAt0 m c n h).2.2.2.2.2.2 : S1x1024.Idx → EReal)) 32 (fun _ => 0)
    (fun t y => ∑ i, (brow m c t i).dgain (y 1)) (dgain_first m c) (dgain_next m c) (le_of_eq N_0) tLast rfl j, zero_add]
  refine Fin.sum_mul_add_congr (S := cfg0.N) (n := 256) (f := fun r : Fin 8192 => (row m c r).dgain (j 1)) (fun t i hl => ?_) (show 8192 = grid0.N * 256 by rw [N_0])
  exact at_emb m c LRow.dgain t i (j 1) _ _ (by show t.val * 256 + i.val = _; omega) rfl

end Cert.FfnFwd.Ker
-- ==== Proof.FfnFwdReference.lean ====
/- FfnFwdReference: what the reference's operations compute at a row, in FfnFwdSpec's words. -/
module

public import proofs.«01_k».proof.Proof.FfnFwdSpec
public import proofs.«01_k».proof.Proof.Gen.Reference3Ideal.Read

@[expose] public section

set_option maxRecDepth 16384

noncomputable section

namespace Cert.FfnFwd.Ref

open Cert.Reference3Ideal Cert.Reference3Ideal.Gen Cert.Reference3Ideal.Read Cert.Scalars Cert.FfnFwd
open Idealize.ShloMosaic Idealize.ShloMosaic.TcCoe Idealize.SL.Sem
open scoped BigOperators

variable (x0 x1 : FVec Ideal S8192x1024 .f32) (x2 x3 : FVec Ideal S1x1024 .f32) (x4 x5 x6 : FVec Ideal S2816x1024 .bf16)

/-- The operands of row `r`. -/
def row (r : Fin 8192) : LRow where
  x k := x0 (ix2 r k)
  t k := x1 (ix2 r k)
  g k := x2 (ix2 0 k)
  g3 k := x3 (ix2 0 k)
  wg j k := x4 (ix2 j k)
  wu j k := x5 (ix2 j k)
  wd j k := x6 (ix2 j k)

/-- The reciprocal root mean square. -/
theorem rt (r : Fin 8192) : val_main_v12 (F := Ideal) x0 (ix2 r 0) = rrt (fun k => x0 (ix2 r k)) := by
  pointwise [val_main_v12, val_main_v11, val_main_v9, val_main_v7, val_main_v6, val_main_v5, val_main_cst, val_main_v8, val_main_cst_0, val_main_v10, val_main_cst_1,
    rrt, rve, rmean]

/-- The scaled, normalised row. -/
theorem hn (r : Fin 8192) (k : Fin 1024) : val_main_v17 (F := Ideal) x0 x2 (ix2 r k) = (row x0 x1 x2 x3 x4 x5 x6 r).h k := by
  pointwise [val_main_v17, val_main_v14, val_main_v13, val_main_v16, val_main_v15, val_main_v4, rt, rn, LRow.h, row]

/-- The gate projection. -/
theorem gate (r : Fin 8192) (f : Fin 2816) : val_main_v18 (F := Ideal) x0 x2 x4 (ix2 r f) = (row x0 x1 x2 x3 x4 x5 x6 r).gate f := by
  pointwise [val_main_v18, val_main_v1, val_main_v0]
  simp only [hn x0 x1 x2 x3 x4 x5 x6]; rfl

/-- The linear projection. -/
theorem up (r : Fin 8192) (f : Fin 2816) : val_main_v19 (F := Ideal) x0 x2 x5 (ix2 r f) = (row x0 x1 x2 x3 x4 x5 x6 r).up f := by
  pointwise [val_main_v19, val_main_v3, val_main_v2]
  simp only [hn x0 x1 x2 x3 x4 x5 x6]; rfl

/-- The hidden activations. -/
theorem act (r : Fin 8192) (f : Fin 2816) : val_main_v22 (F := Ideal) x0 x2 x4 x5 (ix2 r f) = (row x0 x1 x2 x3 x4 x5 x6 r).act f := by
  pointwise [val_main_v22, val_main_v21, val_main_call0_v5, val_main_call0_v4, val_main_call0_cst_0, val_main_call0_v3, val_main_call0_v2, val_main_call0_cst,
    val_main_call0_v1, val_main_call0_v0]
  rw [gate x0 x1 x2 x3 x4 x5 x6, up x0 x1 x2 x3 x4 x5 x6]; rfl

/-- The mixer's output with the row added. -/
theorem out (r : Fin 8192) (k : Fin 1024) : val_main_v24 (F := Ideal) x0 x2 x4 x5 x6 (ix2 r k) = (row x0 x1 x2 x3 x4 x5 x6 r).x2 k := by
  pointwise [val_main_v24, val_main_v23, val_main_v20]
  simp only [act x0 x1 x2 x3 x4 x5 x6]; rfl

/-- Its mean square plus the small constant. -/
theorem ve2 (r : Fin 8192) : val_main_v32 (F := Ideal) x0 x2 x4 x5 x6 (ix2 r 0) = rve (row x0 x1 x2 x3 x4 x5 x6 r).x2 := by
  pointwise [val_main_v32, val_main_v30, val_main_v28, val_main_v27, val_main_v26, val_main_cst_2, val_main_v29, val_main_cst_3, val_main_v31, val_main_cst_4]
  simp only [out x0 x1 x2 x3 x4 x5 x6]; rfl

/-- Its reciprocal root mean square. -/
theorem rt2 (r : Fin 8192) : val_main_v33 (F := Ideal) x0 x2 x4 x5 x6 (ix2 r 0) = rrt (row x0 x1 x2 x3 x4 x5 x6 r).x2 := by
  pointwise [val_main_v33]
  rw [ve2 x0 x1 x2 x3 x4 x5 x6]; rfl

/-- The normalised output. -/
theorem nrm2 (r : Fin 8192) (k : Fin 1024) : val_main_v38 (F := Ideal) x0 x2 x4 x5 x6 (ix2 r k) = rn (row x0 x1 x2 x3 x4 x5 x6 r).x2 k := by
  pointwise [val_main_v38, val_main_v37]
  rw [out x0 x1 x2 x3 x4 x5 x6, rt2 x0 x1 x2 x3 x4 x5 x6]; rfl

/-- The scaled, normalised output less the target. -/
theorem err (r : Fin 8192) (k : Fin 1024) : val_main_v42 (F := Ideal) x0 x1 x2 x3 x4 x5 x6 (ix2 r k) = (row x0 x1 x2 x3 x4 x5 x6 r).err k := by
  pointwise [val_main_v42, val_main_v41, val_main_v40, val_main_v39, val_main_v25]
  rw [nrm2 x0 x1 x2 x3 x4 x5 x6]; rfl

/-- The loss, in every lane. -/
theorem loss (l : Fin 128) : val_main_v96 (F := Ideal) x0 x1 x2 x3 x4 x5 x6 (ix2 0 l) = ∑ r, (row x0 x1 x2 x3 x4 x5 x6 r).loss := by
  pointwise [val_main_v96, val_main_v50, val_main_cst_10, val_main_v49, val_main_cst_9, val_main_v48, val_main_v47, val_main_cst_8, val_main_v46, val_main_cst_7, val_main_v43]
  simp only [err x0 x1 x2 x3 x4 x5 x6]
  rw [ofBits_half, mul_comm, sum_mul_coe _ _ (by norm_num)]
  refine Finset.sum_congr rfl fun r _ => ?_
  rw [← ofBits_half]; rfl

/-- The loss's gradient at the scaled output. -/
theorem dy (r : Fin 8192) (k : Fin 1024) : val_main_v56 (F := Ideal) x0 x1 x2 x3 x4 x5 x6 (ix2 r k) = (row x0 x1 x2 x3 x4 x5 x6 r).dy k := by
  pointwise [val_main_v56, val_main_v55, val_main_v54, val_main_v53, val_main_cst_13, val_main_v52, val_main_v51, val_main_cst_11, val_main_cst_12, val_main_v45, val_main_v44, val_main_cst_6]
  rw [err x0 x1 x2 x3 x4 x5 x6]
  exact dy_eq _

/-- The last gain's gradient: the sum of the rows' parts. -/
theorem dgain (k : Fin 1024) : val_main_v77 (F := Ideal) x0 x1 x2 x3 x4 x5 x6 (ix2 0 k) = ∑ r, (row x0 x1 x2 x3 x4 x5 x6 r).dgain k := by
  pointwise [val_main_v77, val_main_v62, val_main_cst_15, val_main_v59, val_main_v58, val_main_cst_14, val_main_v57]
  rw [Fin.sum_univ_one]
  exact Finset.sum_congr rfl fun r _ => by rw [nrm2 x0 x1 x2 x3 x4 x5 x6, dy x0 x1 x2 x3 x4 x5 x6, mul_comm]; rfl

/-- The loss's gradient at the mixer's output. -/
theorem dout (r : Fin 8192) (k : Fin 1024) : val_main_v76 (F := Ideal) x0 x1 x2 x3 x4 x5 x6 (ix2 r k) = (row x0 x1 x2 x3 x4 x5 x6 r).dout k := by
  have hd : ∀ j, val_main_v61 (F := Ideal) x0 x1 x2 x3 x4 x5 x6 (ix2 r j) = (row x0 x1 x2 x3 x4 x5 x6 r).dy j * (row x0 x1 x2 x3 x4 x5 x6 r).g3 j := fun j => by
    pointwise [val_main_v61, val_main_v60, val_main_v39, val_main_v25]
    rw [dy x0 x1 x2 x3 x4 x5 x6]; rfl
  have hv : val_main_v76 (F := Ideal) x0 x1 x2 x3 x4 x5 x6 (ix2 r k) = rnormVjp (row x0 x1 x2 x3 x4 x5 x6 r).x2 (fun j => (row x0 x1 x2 x3 x4 x5 x6 r).dy j * (row x0 x1 x2 x3 x4 x5 x6 r).g3 j) k := by
    pointwise [val_main_v76, val_main_v75, val_main_v74, val_main_v73, val_main_v72, val_main_v71, val_main_cst_18, val_main_v70, val_main_v69, val_main_cst_17, val_main_v68,
      val_main_v67, val_main_v66, val_main_v65, val_main_v64, val_main_cst_16, val_main_v63, val_main_v36, val_main_v35, val_main_cst_5, val_main_v34, hd]
    simp only [out x0 x1 x2 x3 x4 x5 x6]
    rw [Fin.sum_univ_one, rt2 x0 x1 x2 x3 x4 x5 x6, ve2 x0 x1 x2 x3 x4 x5 x6]; rfl
  rw [hv, rnormVjp_eq]; rfl

/-- The scaled, normalised row as it is kept. -/
theorem hn_out (r : Fin 8192) (k : Fin 1024) : val_main_v94 (F := Ideal) x0 x2 (ix2 r k) = (row x0 x1 x2 x3 x4 x5 x6 r).h k := by
  pointwise [val_main_v94, val_main_v91, val_main_v90, val_main_v89, val_main_v78, val_main_v88, val_main_v87, val_main_v86, val_main_v85, val_main_v84, val_main_cst_21,
    val_main_v83, val_main_v82, val_main_cst_20, val_main_v81, val_main_v80, val_main_cst_19, val_main_v79, rrt, rve, rmean, rn, LRow.h, row]

/-- The hidden activations as they are kept. -/
theorem act_out (r : Fin 8192) (f : Fin 2816) : val_main_v95 (F := Ideal) x0 x2 x4 x5 (ix2 r f) = (row x0 x1 x2 x3 x4 x5 x6 r).act f := by
  pointwise [val_main_v95, val_main_v93, val_main_v92, val_main_call1_v5, val_main_call1_v4, val_main_call1_cst_0, val_main_call1_v3, val_main_call1_v2, val_main_call1_cst,
    val_main_call1_v1, val_main_call1_v0]
  rw [gate x0 x1 x2 x3 x4 x5 x6, up x0 x1 x2 x3 x4 x5 x6]; rfl

end Cert.FfnFwd.Ref
-- ==== Proof.FfnFwdClaim.lean ====
/- FfnFwdClaim: the arrays of the mixer's forward launch are the reference's. -/
module

public import proofs.«01_k».proof.Proof.FfnFwdRows
public import proofs.«01_k».proof.Proof.FfnFwdReference

@[expose] public section

set_option maxRecDepth 16384

noncomputable section

namespace Cert.FfnFwd

open Cert.Kernel3Ideal Cert.Kernel3Ideal.Gen Cert.Scalars
open Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- Window 7 ends holding the reference's result: the gate projection. -/
theorem out_7 : (dats m 0 c).arrAt 7 cfg0.N
    = Cert.Reference3Ideal.Read.val_main_v18 (F := Ideal) (V m c main_arg0) (V m c main_arg2) (V m c main_arg4) := by
  rw [Ker.final_7]
  funext y
  obtain ⟨r, k, rfl⟩ : ∃ r k, y = ix2 (n0 := 8192) (n1 := 2816) r k := ⟨y 0, y 1, eq_ix2 y⟩
  exact (Ref.gate (V m c main_arg0) (V m c main_arg1) (V m c main_arg2) (V m c main_arg3) (V m c main_arg4) (V m c main_arg5) (V m c main_arg6) r k).symm

/-- Window 8 ends holding the reference's result: the linear projection. -/
theorem out_8 : (dats m 0 c).arrAt 8 cfg0.N
    = Cert.Reference3Ideal.Read.val_main_v19 (F := Ideal) (V m c main_arg0) (V m c main_arg2) (V m c main_arg5) := by
  rw [Ker.final_8]
  funext y
  obtain ⟨r, k, rfl⟩ : ∃ r k, y = ix2 (n0 := 8192) (n1 := 2816) r k := ⟨y 0, y 1, eq_ix2 y⟩
  exact (Ref.up (V m c main_arg0) (V m c main_arg1) (V m c main_arg2) (V m c main_arg3) (V m c main_arg4) (V m c main_arg5) (V m c main_arg6) r k).symm

/-- Window 9 ends holding the reference's result: the scaled, normalised row. -/
theorem out_9 : (dats m 0 c).arrAt 9 cfg0.N
    = Cert.Reference3Ideal.Read.val_main_v94 (F := Ideal) (V m c main_arg0) (V m c main_arg2) := by
  rw [Ker.final_9]
  funext y
  obtain ⟨r, k, rfl⟩ : ∃ r k, y = ix2 (n0 := 8192) (n1 := 1024) r k := ⟨y 0, y 1, eq_ix2 y⟩
  exact (Ref.hn_out (V m c main_arg0) (V m c main_arg1) (V m c main_arg2) (V m c main_arg3) (V m c main_arg4) (V m c main_arg5) (V m c main_arg6) r k).symm

/-- Window 10 ends holding the reference's result: the hidden activations. -/
theorem out_10 : (dats m 0 c).arrAt 10 cfg0.N
    = Cert.Reference3Ideal.Read.val_main_v95 (F := Ideal) (V m c main_arg0) (V m c main_arg2) (V m c main_arg4) (V m c main_arg5) := by
  rw [Ker.final_10]
  funext y
  obtain ⟨r, k, rfl⟩ : ∃ r k, y = ix2 (n0 := 8192) (n1 := 2816) r k := ⟨y 0, y 1, eq_ix2 y⟩
  exact (Ref.act_out (V m c main_arg0) (V m c main_arg1) (V m c main_arg2) (V m c main_arg3) (V m c main_arg4) (V m c main_arg5) (V m c main_arg6) r k).symm

/-- Window 11 ends holding the reference's result: the loss's gradient at the mixer's output. -/
theorem out_11 : (dats m 0 c).arrAt 11 cfg0.N
    = Cert.Reference3Ideal.Read.val_main_v76 (F := Ideal) (V m c main_arg0) (V m c main_arg1) (V m c main_arg2) (V m c main_arg3) (V m c main_arg4) (V m c main_arg5) (V m c main_arg6) := by
  rw [Ker.final_11]
  funext y
  obtain ⟨r, k, rfl⟩ : ∃ r k, y = ix2 (n0 := 8192) (n1 := 1024) r k := ⟨y 0, y 1, eq_ix2 y⟩
  exact (Ref.dout (V m c main_arg0) (V m c main_arg1) (V m c main_arg2) (V m c main_arg3) (V m c main_arg4) (V m c main_arg5) (V m c main_arg6) r k).symm

/-- Window 12 ends holding the reference's result: the loss. -/
theorem out_12 : (dats m 0 c).arrAt 12 cfg0.N
    = Cert.Reference3Ideal.Read.val_main_v96 (F := Ideal) (V m c main_arg0) (V m c main_arg1) (V m c main_arg2) (V m c main_arg3) (V m c main_arg4) (V m c main_arg5) (V m c main_arg6) := by
  rw [Ker.final_12]
  funext y
  obtain ⟨r, k, rfl⟩ : ∃ r k, y = ix2 (n0 := 1) (n1 := 128) r k := ⟨y 0, y 1, eq_ix2 y⟩
  obtain rfl : r = 0 := Subsingleton.elim _ _
  exact (Ref.loss (V m c main_arg0) (V m c main_arg1) (V m c main_arg2) (V m c main_arg3) (V m c main_arg4) (V m c main_arg5) (V m c main_arg6) k).symm

/-- Window 13 ends holding the reference's result: the last gain's gradient. -/
theorem out_13 : (dats m 0 c).arrAt 13 cfg0.N
    = Cert.Reference3Ideal.Read.val_main_v77 (F := Ideal) (V m c main_arg0) (V m c main_arg1) (V m c main_arg2) (V m c main_arg3) (V m c main_arg4) (V m c main_arg5) (V m c main_arg6) := by
  rw [Ker.final_13]
  funext y
  obtain ⟨r, k, rfl⟩ : ∃ r k, y = ix2 (n0 := 1) (n1 := 1024) r k := ⟨y 0, y 1, eq_ix2 y⟩
  obtain rfl : r = 0 := Subsingleton.elim _ _
  exact (Ref.dgain (V m c main_arg0) (V m c main_arg1) (V m c main_arg2) (V m c main_arg3) (V m c main_arg4) (V m c main_arg5) (V m c main_arg6) k).symm

/-- Over arguments that agree, the reference's result is window 7's array. -/
theorem of_agree_7 (x0 : FVec Ideal S8192x1024 .f32) (x2 : FVec Ideal S1x1024 .f32) (x4 : FVec Ideal S2816x1024 .bf16)
    (e0 : x0 = m ((c.tc : Thread nD τ).loc main_arg0)) (e2 : x2 = m ((c.tc : Thread nD τ).loc main_arg2)) (e4 : x4 = m ((c.tc : Thread nD τ).loc main_arg4)) :
    Cert.Reference3Ideal.Read.val_main_v18 (F := Ideal) x0 x2 x4 = (dats m 0 c).arrAt 7 cfg0.N := by
  subst e0 e2 e4
  exact (out_7 m c).symm

/-- Over arguments that agree, the reference's result is window 8's array. -/
theorem of_agree_8 (x0 : FVec Ideal S8192x1024 .f32) (x2 : FVec Ideal S1x1024 .f32) (x5 : FVec Ideal S2816x1024 .bf16)
    (e0 : x0 = m ((c.tc : Thread nD τ).loc main_arg0)) (e2 : x2 = m ((c.tc : Thread nD τ).loc main_arg2)) (e5 : x5 = m ((c.tc : Thread nD τ).loc main_arg5)) :
    Cert.Reference3Ideal.Read.val_main_v19 (F := Ideal) x0 x2 x5 = (dats m 0 c).arrAt 8 cfg0.N := by
  subst e0 e2 e5
  exact (out_8 m c).symm

/-- Over arguments that agree, the reference's result is window 9's array. -/
theorem of_agree_9 (x0 : FVec Ideal S8192x1024 .f32) (x2 : FVec Ideal S1x1024 .f32)
    (e0 : x0 = m ((c.tc : Thread nD τ).loc main_arg0)) (e2 : x2 = m ((c.tc : Thread nD τ).loc main_arg2)) :
    Cert.Reference3Ideal.Read.val_main_v94 (F := Ideal) x0 x2 = (dats m 0 c).arrAt 9 cfg0.N := by
  subst e0 e2
  exact (out_9 m c).symm

/-- Over arguments that agree, the reference's result is window 10's array. -/
theorem of_agree_10 (x0 : FVec Ideal S8192x1024 .f32) (x2 : FVec Ideal S1x1024 .f32) (x4 : FVec Ideal S2816x1024 .bf16) (x5 : FVec Ideal S2816x1024 .bf16)
    (e0 : x0 = m ((c.tc : Thread nD τ).loc main_arg0)) (e2 : x2 = m ((c.tc : Thread nD τ).loc main_arg2)) (e4 : x4 = m ((c.tc : Thread nD τ).loc main_arg4)) (e5 : x5 = m ((c.tc : Thread nD τ).loc main_arg5)) :
    Cert.Reference3Ideal.Read.val_main_v95 (F := Ideal) x0 x2 x4 x5 = (dats m 0 c).arrAt 10 cfg0.N := by
  subst e0 e2 e4 e5
  exact (out_10 m c).symm

/-- Over arguments that agree, the reference's result is window 11's array. -/
theorem of_agree_11 (x0 : FVec Ideal S8192x1024 .f32) (x1 : FVec Ideal S8192x1024 .f32) (x2 : FVec Ideal S1x1024 .f32) (x3 : FVec Ideal S1x1024 .f32) (x4 : FVec Ideal S2816x1024 .bf16) (x5 : FVec Ideal S2816x1024 .bf16) (x6 : FVec Ideal S2816x1024 .bf16)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) (e4 : x4 = m ((c.tc : Thread nD τ).loc main_arg4)) (e5 : x5 = m ((c.tc : Thread nD τ).loc main_arg5)) (e6 : x6 = m ((c.tc : Thread nD τ).loc main_arg6)) :
    Cert.Reference3Ideal.Read.val_main_v76 (F := Ideal) x0 x1 x2 x3 x4 x5 x6 = (dats m 0 c).arrAt 11 cfg0.N := by
  subst e0 e1 e2 e3 e4 e5 e6
  exact (out_11 m c).symm

/-- Over arguments that agree, the reference's result is window 12's array. -/
theorem of_agree_12 (x0 : FVec Ideal S8192x1024 .f32) (x1 : FVec Ideal S8192x1024 .f32) (x2 : FVec Ideal S1x1024 .f32) (x3 : FVec Ideal S1x1024 .f32) (x4 : FVec Ideal S2816x1024 .bf16) (x5 : FVec Ideal S2816x1024 .bf16) (x6 : FVec Ideal S2816x1024 .bf16)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) (e4 : x4 = m ((c.tc : Thread nD τ).loc main_arg4)) (e5 : x5 = m ((c.tc : Thread nD τ).loc main_arg5)) (e6 : x6 = m ((c.tc : Thread nD τ).loc main_arg6)) :
    Cert.Reference3Ideal.Read.val_main_v96 (F := Ideal) x0 x1 x2 x3 x4 x5 x6 = (dats m 0 c).arrAt 12 cfg0.N := by
  subst e0 e1 e2 e3 e4 e5 e6
  exact (out_12 m c).symm

/-- Over arguments that agree, the reference's result is window 13's array. -/
theorem of_agree_13 (x0 : FVec Ideal S8192x1024 .f32) (x1 : FVec Ideal S8192x1024 .f32) (x2 : FVec Ideal S1x1024 .f32) (x3 : FVec Ideal S1x1024 .f32) (x4 : FVec Ideal S2816x1024 .bf16) (x5 : FVec Ideal S2816x1024 .bf16) (x6 : FVec Ideal S2816x1024 .bf16)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) (e4 : x4 = m ((c.tc : Thread nD τ).loc main_arg4)) (e5 : x5 = m ((c.tc : Thread nD τ).loc main_arg5)) (e6 : x6 = m ((c.tc : Thread nD τ).loc main_arg6)) :
    Cert.Reference3Ideal.Read.val_main_v77 (F := Ideal) x0 x1 x2 x3 x4 x5 x6 = (dats m 0 c).arrAt 13 cfg0.N := by
  subst e0 e1 e2 e3 e4 e5 e6
  exact (out_13 m c).symm

end Cert.FfnFwd
-- ==== Proof.ProjSpec.lean ====
/- ProjSpec: the gradient of the input projection of one normalised row, as functions of that row's operands, and where in the
   pieces of the projection's cotangent each of its columns lies. Both programs compute it row by row; each module about a
   program says what it leaves at a row in these words. -/
module

public import proofs.«01_k».proof.Proof.RmsNorm

@[expose] public section

noncomputable section

namespace Cert.Proj

open Idealize.ShloMosaic Cert.Scalars
open scoped BigOperators

/-- One row's operands: the cotangent `d` of the projection, the gradient `dx` of the row from past it, the row `x` before the
    norm, and what every row shares: the norm's gain `g` and the projection's weight `w`. -/
structure PRow where
  /-- the cotangent of the projection -/
  d : Fin 6400 → EReal
  /-- the gradient of the row from past the projection -/
  dx : Fin 1024 → EReal
  /-- the row before the norm -/
  x : Fin 1024 → EReal
  /-- the norm's gain -/
  g : Fin 1024 → EReal
  /-- the projection's weight -/
  w : Fin 6400 → Fin 1024 → EReal

namespace PRow

variable (q : PRow)

/-- The cotangent of the scaled, normalised row. -/
def dh (k : Fin 1024) : EReal := ∑ f, q.d f * q.w f k
/-- The row's part of the gain's gradient. -/
def dgain (k : Fin 1024) : EReal := q.dh k * rn q.x k
/-- The gradient of the row, through the projection and past it. -/
def dout (k : Fin 1024) : EReal := q.dx k + rnormBwd q.x (fun j => q.dh j * q.g j) k

end PRow

/-- A column of the cotangent, from the six pieces laid side by side. -/
def six {α : Type} (a : Fin 2048 → α) (b c : Fin 1024 → α) (d e : Fin 128 → α) (g : Fin 2048 → α) (f : Fin 6400) : α :=
  if h1 : f.1 < 2048 then a ⟨f.1, h1⟩
  else if h2 : f.1 < 3072 then b ⟨f.1 - 2048, by omega⟩
  else if h3 : f.1 < 4096 then c ⟨f.1 - 3072, by omega⟩
  else if h4 : f.1 < 4224 then d ⟨f.1 - 4096, by omega⟩
  else if h5 : f.1 < 4352 then e ⟨f.1 - 4224, by omega⟩
  else g ⟨f.1 - 4352, by omega⟩

/-- A row of two arrays that hold the even and the odd blocks of 128 rows. -/
def half {α : Type} (e o : Fin 4096 → α) (r : Fin 8192) : α :=
  if r.1 / 128 % 2 = 0 then e ⟨r.1 / 256 * 128 + r.1 % 128, by omega⟩ else o ⟨r.1 / 256 * 128 + r.1 % 128, by omega⟩

/-- The same of 512 rows. -/
def bhalf {α : Type} (e o : Fin 256 → α) (i : Fin 512) : α :=
  if i.1 / 128 % 2 = 0 then e ⟨i.1 / 256 * 128 + i.1 % 128, by omega⟩ else o ⟨i.1 / 256 * 128 + i.1 % 128, by omega⟩

/-- The six pieces laid side by side, each column found by taking off the widths before it. -/
theorem six_nested {α : Type} (a : Fin 2048 → α) (b c : Fin 1024 → α) (d e : Fin 128 → α) (g : Fin 2048 → α) (f : Fin 6400) :
    (if h : f.1 < 2048 then a ⟨f.1, h⟩
      else if h : f.1 - 2048 < 1024 then b ⟨f.1 - 2048, h⟩
      else if h : f.1 - 2048 - 1024 < 1024 then c ⟨f.1 - 2048 - 1024, h⟩
      else if h : f.1 - 2048 - 1024 - 1024 < 128 then d ⟨f.1 - 2048 - 1024 - 1024, h⟩
      else if h : f.1 - 2048 - 1024 - 1024 - 128 < 128 then e ⟨f.1 - 2048 - 1024 - 1024 - 128, h⟩
      else g ⟨f.1 - 2048 - 1024 - 1024 - 128 - 128, by omega⟩) = six a b c d e g f := by
  unfold six
  refine dite_congr rfl (fun _ => rfl) fun _ => ?_
  refine dite_congr (by simp only [eq_iff_iff]; omega) (fun _ => rfl) fun _ => ?_
  refine dite_congr (by simp only [eq_iff_iff]; omega) (fun _ => congrArg c (Fin.ext (by dsimp only; omega))) fun _ => ?_
  refine dite_congr (by simp only [eq_iff_iff]; omega) (fun _ => congrArg d (Fin.ext (by dsimp only; omega))) fun _ => ?_
  refine dite_congr (by simp only [eq_iff_iff]; omega) (fun _ => congrArg e (Fin.ext (by dsimp only; omega))) fun _ => ?_
  exact congrArg g (Fin.ext (by dsimp only; omega))

/-- Four blocks of 128 rows laid one under another, each row found by taking off the heights before it. -/
def nest {α : Type} (p q r s : Fin 128 → α) (i : Fin 512) : α :=
  if h : i.1 < 128 then p ⟨i.1, h⟩
  else if h : i.1 - 128 < 128 then q ⟨i.1 - 128, h⟩
  else if h : i.1 - 128 - 128 < 128 then r ⟨i.1 - 128 - 128, h⟩
  else s ⟨i.1 - 128 - 128 - 128, by omega⟩

/-- Of two blocks of 256 rows, halved and laid by turns, it is the even and the odd blocks by turns. -/
theorem nest_eq {α : Type} {p q r s : Fin 128 → α} {e o : Fin 256 → α} (hp : ∀ j : Fin 128, p j = e ⟨j.1, by omega⟩) (hq : ∀ j : Fin 128, q j = o ⟨j.1, by omega⟩)
    (hr : ∀ j : Fin 128, r j = e ⟨128 + j.1, by omega⟩) (hs : ∀ j : Fin 128, s j = o ⟨128 + j.1, by omega⟩) (i : Fin 512) : nest p q r s i = bhalf e o i := by
  unfold nest bhalf
  simp only [hp, hq, hr, hs]
  split_ifs <;> first
    | (exfalso; omega)
    | (refine congrArg _ (Fin.ext ?_); dsimp only; omega)

end Cert.Proj
-- ==== Proof.ProjBwdTiles.lean ====
/- ProjBwdTiles: what the kernel's stored values are at a row of a block, in ProjSpec's words. -/
module

public import proofs.«01_k».proof.Proof.ProjSpec
public import proofs.«01_k».proof.Proof.Gen.Kernel4Ideal.Skeleton

@[expose] public section

set_option maxRecDepth 16384

noncomputable section

namespace Cert.ProjBwd.Ker

open Cert.Kernel4Ideal Cert.Kernel4Ideal.Gen Cert.Scalars Cert.Proj
open Idealize.ShloMosaic Idealize.ShloMosaic.TcCoe Idealize.SL.Sem
open scoped BigOperators

/-- The operands of row `i` of a block. -/
def blkRow (b0 : FVec Ideal S512x2048 .bf16) (b1 b2 : FVec Ideal S512x1024 .bf16) (b3 b4 b5 b6 : FVec Ideal S256x128 .bf16) (b7 : FVec Ideal S512x2048 .bf16)
    (b8 b9 : FVec Ideal S512x1024 .f32) (b10 : FVec Ideal S1x1024 .f32) (b11 : FVec Ideal S6400x1024 .bf16) (i : Fin 512) : PRow where
  d := six (fun k => b0 (ix2 i k)) (fun k => b1 (ix2 i k)) (fun k => b2 (ix2 i k)) (fun k => bhalf (fun j => b3 (ix2 j k)) (fun j => b4 (ix2 j k)) i)
    (fun k => bhalf (fun j => b5 (ix2 j k)) (fun j => b6 (ix2 j k)) i) (fun k => b7 (ix2 i k))
  dx k := b9 (ix2 i k)
  x k := b8 (ix2 i k)
  g k := b10 (ix2 0 k)
  w j k := b11 (ix2 j k)

/-- The first 128 rows of a block of 256. -/
abbrev h0 (b : FVec Ideal S256x128 .bf16) : FVec Ideal S128x128 .bf16 :=
  View.ld (Val := Elt Ideal) (S := S256x128) (e' := .bf16) b (Rect.unit ![0, 0] S128x128.size inb_S256x128_S128x128_0_0)

/-- The last 128 rows of a block of 256. -/
abbrev h1 (b : FVec Ideal S256x128 .bf16) : FVec Ideal S128x128 .bf16 :=
  View.ld (Val := Elt Ideal) (S := S256x128) (e' := .bf16) b (Rect.unit ![128, 0] S128x128.size inb_S256x128_S128x128_128_0)

/-- The first rows at an entry. -/
theorem h0_at (b : FVec Ideal S256x128 .bf16) (j k : Fin 128) : h0 b (ix2 j k) = b (ix2 ⟨j.1, by omega⟩ k) := by
  refine congrArg b (funext fun a => Fin.ext ?_)
  match a with
  | ⟨0, _⟩ => simp [Rect.unit, LoadRect.idx, ix2]
  | ⟨1, _⟩ => simp [Rect.unit, LoadRect.idx, ix2]

/-- The last rows at an entry. -/
theorem h1_at (b : FVec Ideal S256x128 .bf16) (j k : Fin 128) : h1 b (ix2 j k) = b (ix2 ⟨128 + j.1, by omega⟩ k) := by
  refine congrArg b (funext fun a => Fin.ext ?_)
  match a with
  | ⟨0, _⟩ => simp [Rect.unit, LoadRect.idx, ix2]
  | ⟨1, _⟩ => simp [Rect.unit, LoadRect.idx, ix2]

variable (b0 : FVec Ideal S512x2048 .bf16) (b1 b2 : FVec Ideal S512x1024 .bf16) (b3 b4 b5 b6 : FVec Ideal S256x128 .bf16) (b7 : FVec Ideal S512x2048 .bf16)
  (b8 b9 : FVec Ideal S512x1024 .f32) (b10 : FVec Ideal S1x1024 .f32) (b11 : FVec Ideal S6400x1024 .bf16)

/-- The cotangent of the projection, its pieces laid side by side. -/
theorem cot (i : Fin 512) (f : Fin 6400) : k0_pay7 (F := Ideal) b0 b1 b2 (h0 b3) (h0 b4) (h1 b3) (h1 b4) (h0 b5) (h0 b6) (h1 b5) (h1 b6) b7 (ix2 i f) = (blkRow b0 b1 b2 b3 b4 b5 b6 b7 b8 b9 b10 b11 i).d f := by
  pointwise [k0_pay7]
  have q (p p' : FVec Ideal S256x128 .bf16) : (fun k : Fin 128 => nest (fun j => h0 p (ix2 j k)) (fun j => h0 p' (ix2 j k)) (fun j => h1 p (ix2 j k)) (fun j => h1 p' (ix2 j k)) i) = fun k => bhalf (fun j => p (ix2 j k)) (fun j => p' (ix2 j k)) i :=
    funext fun k => nest_eq (fun j => h0_at p j k) (fun j => h0_at p' j k) (fun j => h1_at p j k) (fun j => h1_at p' j k) i
  refine (six_nested (fun k => b0 (ix2 i k)) (fun k => b1 (ix2 i k)) (fun k => b2 (ix2 i k))
    (fun k => nest (fun j => h0 b3 (ix2 j k)) (fun j => h0 b4 (ix2 j k)) (fun j => h1 b3 (ix2 j k)) (fun j => h1 b4 (ix2 j k)) i)
    (fun k => nest (fun j => h0 b5 (ix2 j k)) (fun j => h0 b6 (ix2 j k)) (fun j => h1 b5 (ix2 j k)) (fun j => h1 b6 (ix2 j k)) i) (fun k => b7 (ix2 i k)) f).trans ?_
  rw [q b3 b4, q b5 b6]; rfl

/-- The cotangent of the scaled, normalised row. -/
theorem dh (i : Fin 512) (k : Fin 1024) : k0_pay8 (F := Ideal) b0 b1 b2 (h0 b3) (h0 b4) (h1 b3) (h1 b4) (h0 b5) (h0 b6) (h1 b5) (h1 b6) b7 b11 (ix2 i k) = (blkRow b0 b1 b2 b3 b4 b5 b6 b7 b8 b9 b10 b11 i).dh k := by
  pointwise [k0_pay8]
  simp only [cot b0 b1 b2 b3 b4 b5 b6 b7 b8 b9 b10 b11]; rfl

/-- The bias's gradient: what the block held, and the block's rows' cotangents. -/
theorem dbias (a : FVec Ideal S1x6400 .f32) (f : Fin 6400) : k0_pay9 (F := Ideal) b0 b1 b2 (h0 b3) (h0 b4) (h1 b3) (h1 b4) (h0 b5) (h0 b6) (h1 b5) (h1 b6) b7 a (ix2 0 f) = a (ix2 0 f) + ∑ i, (blkRow b0 b1 b2 b3 b4 b5 b6 b7 b8 b9 b10 b11 i).d f := by
  pointwise [k0_pay9]
  simp only [cot b0 b1 b2 b3 b4 b5 b6 b7 b8 b9 b10 b11]

/-- The reciprocal root mean square. -/
theorem rt (i : Fin 512) : k0_pay1 (F := Ideal) b8 (ix2 i 0) = rrt (fun k => b8 (ix2 i k)) := by
  pointwise [k0_pay1, rrt, rve, rmean]

/-- The normalised row. -/
theorem nrm (i : Fin 512) (k : Fin 1024) : k0_pay2 (F := Ideal) b8 (ix2 i k) = rn (fun k => b8 (ix2 i k)) k := by
  pointwise [k0_pay2, rt, rn]

/-- The gain's gradient: what the block held, and the block's rows' parts. -/
theorem dgain (a : FVec Ideal S1x1024 .f32) (k : Fin 1024) : k0_pay3 (F := Ideal) (k0_pay8 b0 b1 b2 (h0 b3) (h0 b4) (h1 b3) (h1 b4) (h0 b5) (h0 b6) (h1 b5) (h1 b6) b7 b11) b8 a (ix2 0 k)
    = a (ix2 0 k) + ∑ i, (blkRow b0 b1 b2 b3 b4 b5 b6 b7 b8 b9 b10 b11 i).dgain k := by
  pointwise [k0_pay3, nrm]
  simp only [dh b0 b1 b2 b3 b4 b5 b6 b7 b8 b9 b10 b11]; rfl

/-- The row's gradient. -/
theorem dout (i : Fin 512) (k : Fin 1024) : k0_pay4 (F := Ideal) (k0_pay8 b0 b1 b2 (h0 b3) (h0 b4) (h1 b3) (h1 b4) (h0 b5) (h0 b6) (h1 b5) (h1 b6) b7 b11) b8 b10 b9 (ix2 i k) = (blkRow b0 b1 b2 b3 b4 b5 b6 b7 b8 b9 b10 b11 i).dout k := by
  pointwise [k0_pay4, nrm, rt]
  simp only [dh b0 b1 b2 b3 b4 b5 b6 b7 b8 b9 b10 b11]; rfl

end Cert.ProjBwd.Ker
-- ==== Proof.ProjBwdRows.lean ====
/- ProjBwdRows: what the launch of the projection's backward pass leaves in its three arrays, in ProjSpec's words. -/
module

public import proofs.«01_k».proof.Proof.ProjBwdTiles
public import proofs.«01_k».proof.Proof.Gen.Kernel4Ideal.Frame
public import Idealize.ShloMosaic.Lib.Pipeline.ValueKit
public import Idealize.ShloMosaic.Lib.Pipeline.ReadBack

@[expose] public section

set_option maxRecDepth 16384

noncomputable section

namespace Cert.ProjBwd.Ker

open Cert.Kernel4Ideal Cert.Kernel4Ideal.Gen Cert.Scalars Cert.Proj
open Idealize.ShloMosaic Idealize.ShloMosaic.TcCoe Idealize.SL.Sem
open Idealize.ShloMosaic.Pipeline (Dat)
open scoped BigOperators

/-- Which block each window shows at step `t`: the `t`-th row block, or always the first one. -/
theorem idx_val : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![0, 0] ∧ win0_11.index t = ![0, 0] ∧ win0_12.index t = ![t.val, 0] ∧ win0_13.index t = ![0, 0] ∧ win0_14.index t = ![0, 0] :=
  (by decide +kernel : ∀ t : Fin grid0.N, _)

/-- The last grid point. -/
def tLast : Fin grid0.N := ⟨15, by rw [N_0]; decide⟩

variable (m : (ℓ : Loc nD τ sig) → Buf (Elt Ideal) ℓ) (c : Dev nD)

/-- The operands of row `r` of the whole arrays. -/
def row (r : Fin 8192) : PRow where
  d := six (fun k => (V m c main_arg0 : FVec Ideal S8192x2048 .bf16) (ix2 r k)) (fun k => (V m c main_arg1 : FVec Ideal S8192x1024 .bf16) (ix2 r k)) (fun k => (V m c main_arg2 : FVec Ideal S8192x1024 .bf16) (ix2 r k))
    (fun k => half (fun j => (V m c main_arg3 : FVec Ideal S4096x128 .bf16) (ix2 j k)) (fun j => (V m c main_arg4 : FVec Ideal S4096x128 .bf16) (ix2 j k)) r)
    (fun k => half (fun j => (V m c main_arg5 : FVec Ideal S4096x128 .bf16) (ix2 j k)) (fun j => (V m c main_arg6 : FVec Ideal S4096x128 .bf16) (ix2 j k)) r) (fun k => (V m c main_arg7 : FVec Ideal S8192x2048 .bf16) (ix2 r k))
  dx k := (V m c main_arg9 : FVec Ideal S8192x1024 .f32) (ix2 r k)
  x k := (V m c main_arg8 : FVec Ideal S8192x1024 .f32) (ix2 r k)
  g k := (V m c main_arg10 : FVec Ideal S1x1024 .f32) (ix2 0 k)
  w j k := (V m c main_arg11 : FVec Ideal S6400x1024 .bf16) (ix2 j k)

/-- The operands of a row of the block at a grid point. -/
def brow (t : Fin cfg0.N) (i : Fin 512) : PRow := blkRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) i

/-- The row of the whole arrays that a row of a block holds. -/
def arow (t : Fin cfg0.N) (i : Fin 512) : Fin 8192 := ⟨512 * t.val + i.val, by have := t.isLt; have : cfg0.N = 16 := N_0; omega⟩

/-- The row of the arrays of even or odd blocks that a row of one of their blocks holds. -/
def hrow (t : Fin cfg0.N) (j : Fin 256) : Fin 4096 := ⟨256 * t.val + j.val, by have := t.isLt; have : cfg0.N = 16 := N_0; omega⟩

/-- The interleaved halves of a block are the block of the interleaved halves. -/
theorem bhalf_eq {α : Type} (e o : Fin 4096 → α) (t : Fin cfg0.N) (i : Fin 512) :
    bhalf (fun j => e (hrow t j)) (fun j => o (hrow t j)) i = half e o (arow t i) := by
  have h1 : (512 * t.val + i.val) / 128 % 2 = i.val / 128 % 2 := by omega
  have h2 : hrow t ⟨i.val / 256 * 128 + i.val % 128, by omega⟩ = ⟨(arow t i).val / 256 * 128 + (arow t i).val % 128, by omega⟩ :=
    Fin.ext (by show 256 * t.val + (i.val / 256 * 128 + i.val % 128) = (512 * t.val + i.val) / 256 * 128 + (512 * t.val + i.val) % 128; omega)
  unfold bhalf half
  rw [← h2, show (arow t i).val / 128 % 2 = i.val / 128 % 2 from h1]

/-- What operand 0 holds in the block that step `t` reads. -/
theorem blk0 (t : Fin cfg0.N) (i : Fin 512) (k : Fin 2048) :
    (iblk m c 0 t : FVec Ideal S512x2048 .bf16) (ix2 i k) = (V m c main_arg0 : FVec Ideal S8192x2048 .bf16) (ix2 (arow t i) k) := by
  blk_ext! [iblk, arow, idx_val t]

/-- What operand 1 holds in the block that step `t` reads. -/
theorem blk1 (t : Fin cfg0.N) (i : Fin 512) (k : Fin 1024) :
    (iblk m c 1 t : FVec Ideal S512x1024 .bf16) (ix2 i k) = (V m c main_arg1 : FVec Ideal S8192x1024 .bf16) (ix2 (arow t i) k) := by
  blk_ext! [iblk, arow, idx_val t]

/-- What operand 2 holds in the block that step `t` reads. -/
theorem blk2 (t : Fin cfg0.N) (i : Fin 512) (k : Fin 1024) :
    (iblk m c 2 t : FVec Ideal S512x1024 .bf16) (ix2 i k) = (V m c main_arg2 : FVec Ideal S8192x1024 .bf16) (ix2 (arow t i) k) := by
  blk_ext! [iblk, arow, idx_val t]

/-- What operand 3 holds in the block that step `t` reads. -/
theorem blk3 (t : Fin cfg0.N) (j : Fin 256) (k : Fin 128) :
    (iblk m c 3 t : FVec Ideal S256x128 .bf16) (ix2 j k) = (V m c main_arg3 : FVec Ideal S4096x128 .bf16) (ix2 (hrow t j) k) := by
  blk_ext! [iblk, hrow, idx_val t]

/-- What operand 4 holds in the block that step `t` reads. -/
theorem blk4 (t : Fin cfg0.N) (j : Fin 256) (k : Fin 128) :
    (iblk m c 4 t : FVec Ideal S256x128 .bf16) (ix2 j k) = (V m c main_arg4 : FVec Ideal S4096x128 .bf16) (ix2 (hrow t j) k) := by
  blk_ext! [iblk, hrow, idx_val t]

/-- What operand 5 holds in the block that step `t` reads. -/
theorem blk5 (t : Fin cfg0.N) (j : Fin 256) (k : Fin 128) :
    (iblk m c 5 t : FVec Ideal S256x128 .bf16) (ix2 j k) = (V m c main_arg5 : FVec Ideal S4096x128 .bf16) (ix2 (hrow t j) k) := by
  blk_ext! [iblk, hrow, idx_val t]

/-- What operand 6 holds in the block that step `t` reads. -/
theorem blk6 (t : Fin cfg0.N) (j : Fin 256) (k : Fin 128) :
    (iblk m c 6 t : FVec Ideal S256x128 .bf16) (ix2 j k) = (V m c main_arg6 : FVec Ideal S4096x128 .bf16) (ix2 (hrow t j) k) := by
  blk_ext! [iblk, hrow, idx_val t]

/-- What operand 7 holds in the block that step `t` reads. -/
theorem blk7 (t : Fin cfg0.N) (i : Fin 512) (k : Fin 2048) :
    (iblk m c 7 t : FVec Ideal S512x2048 .bf16) (ix2 i k) = (V m c main_arg7 : FVec Ideal S8192x2048 .bf16) (ix2 (arow t i) k) := by
  blk_ext! [iblk, arow, idx_val t]

/-- What operand 8 holds in the block that step `t` reads. -/
theorem blk8 (t : Fin cfg0.N) (i : Fin 512) (k : Fin 1024) :
    (iblk m c 8 t : FVec Ideal S512x1024 .f32) (ix2 i k) = (V m c main_arg8 : FVec Ideal S8192x1024 .f32) (ix2 (arow t i) k) := by
  blk_ext! [iblk, arow, idx_val t]

/-- What operand 9 holds in the block that step `t` reads. -/
theorem blk9 (t : Fin cfg0.N) (i : Fin 512) (k : Fin 1024) :
    (iblk m c 9 t : FVec Ideal S512x1024 .f32) (ix2 i k) = (V m c main_arg9 : FVec Ideal S8192x1024 .f32) (ix2 (arow t i) k) := by
  blk_ext! [iblk, arow, idx_val t]

/-- What operand 10 holds in the block that step `t` reads. -/
theorem blk10 (t : Fin cfg0.N) (k : Fin 1024) :
    (iblk m c 10 t : FVec Ideal S1x1024 .f32) (ix2 0 k) = (V m c main_arg10 : FVec Ideal S1x1024 .f32) (ix2 0 k) := by
  blk_ext! [iblk, idx_val t]

/-- What operand 11 holds in the block that step `t` reads. -/
theorem blk11 (t : Fin cfg0.N) (j : Fin 6400) (k : Fin 1024) :
    (iblk m c 11 t : FVec Ideal S6400x1024 .bf16) (ix2 j k) = (V m c main_arg11 : FVec Ideal S6400x1024 .bf16) (ix2 j k) := by
  blk_ext! [iblk, idx_val t]

/-- A block's row is the arrays' row it holds. -/
theorem brow_eq (t : Fin cfg0.N) (i : Fin 512) : brow m c t i = row m c (arow t i) := by
  unfold brow blkRow row
  simp only [blk0, blk1, blk2, blk3, blk4, blk5, blk6, blk7, blk8, blk9, blk10, blk11]
  have h1 : ∀ k : Fin 128, bhalf (fun j => (V m c main_arg3 : FVec Ideal S4096x128 .bf16) (ix2 (hrow t j) k)) (fun j => (V m c main_arg4 : FVec Ideal S4096x128 .bf16) (ix2 (hrow t j) k)) i
      = half (fun j => (V m c main_arg3 : FVec Ideal S4096x128 .bf16) (ix2 j k)) (fun j => (V m c main_arg4 : FVec Ideal S4096x128 .bf16) (ix2 j k)) (arow t i) :=
    fun k => bhalf_eq (fun j => (V m c main_arg3 : FVec Ideal S4096x128 .bf16) (ix2 j k)) (fun j => (V m c main_arg4 : FVec Ideal S4096x128 .bf16) (ix2 j k)) t i
  have h2 : ∀ k : Fin 128, bhalf (fun j => (V m c main_arg5 : FVec Ideal S4096x128 .bf16) (ix2 (hrow t j) k)) (fun j => (V m c main_arg6 : FVec Ideal S4096x128 .bf16) (ix2 (hrow t j) k)) i
      = half (fun j => (V m c main_arg5 : FVec Ideal S4096x128 .bf16) (ix2 j k)) (fun j => (V m c main_arg6 : FVec Ideal S4096x128 .bf16) (ix2 j k)) (arow t i) :=
    fun k => bhalf_eq (fun j => (V m c main_arg5 : FVec Ideal S4096x128 .bf16) (ix2 j k)) (fun j => (V m c main_arg6 : FVec Ideal S4096x128 .bf16) (ix2 j k)) t i
  simp only [h1, h2]

/-- What a row of a block has at a column is what the arrays' row has at the index the block's entry lands on. -/
theorem at_emb {n : ℕ} (f : PRow → Fin n → EReal) (t : Fin cfg0.N) (i : Fin 512) (k : Fin n) (r : Fin 8192) (k' : Fin n) (h0 : r.val = 512 * t.val + i.val)
    (h1 : k'.val = k.val) : f (brow m c t i) k = f (row m c r) k' := by
  have e0 : r = arow t i := Fin.ext h0
  have e1 : k' = k := Fin.ext h1
  rw [brow_eq, e0, e1]

/-- Window 12's array: the rows' gradients. -/
theorem final_12 : (dats m 0 c).arrAt 12 cfg0.N = fun y : S8192x1024.Idx => (row m c (y 0)).dout (y 1) := by
  refine (dats m 0 c).arrAt_eq_of_covers 12 _ (by decide +kernel) fun t hf y => ?_
  blk_simp [idx_val t]
  rw [after0_12]
  by_cases h : t.val % 16 = 0
  · rw [outsAt0_A m c t h]; dsimp only
    frame_out
    obtain ⟨i, k, rfl⟩ : ∃ i k, y = ix2 (n0 := 512) (n1 := 1024) i k := ⟨y 0, y 1, eq_ix2 y⟩
    refine (dout (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) i k).trans (at_emb m c PRow.dout t i k _ _ ?_ ?_) <;> (blk_simp [idx_val t]; try omega)
  · rw [outsAt0_B m c t h]; dsimp only
    frame_out
    obtain ⟨i, k, rfl⟩ : ∃ i k, y = ix2 (n0 := 512) (n1 := 1024) i k := ⟨y 0, y 1, eq_ix2 y⟩
    refine (dout (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) i k).trans (at_emb m c PRow.dout t i k _ _ ?_ ?_) <;> (blk_simp [idx_val t]; try omega)

/-- The fill of window 13 is zero. -/
theorem fill13 (x : S1x1024.Idx) : k0_pay5 (F := Ideal) x = 0 := by
  idx_vars x
  pointwise [k0_pay5]

/-- Window 13 after a point that begins the sum. -/
theorem dgain_first (t : Fin cfg0.N) (h : t.val % 16 = 0) (y : S1x1024.Idx) :
    ((outsAt0 m c t.val t.isLt).2.1 : S1x1024.Idx → EReal) y = 0 + ∑ i, (brow m c t i).dgain (y 1) := by
  rw [outsAt0_A m c t h]; dsimp only
  frame_out
  obtain ⟨j, k, rfl⟩ : ∃ j k, y = ix2 (n0 := 1) (n1 := 1024) j k := ⟨y 0, y 1, eq_ix2 y⟩
  obtain rfl : j = 0 := Subsingleton.elim _ _
  exact (dgain (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) k0_pay5 k).trans (congrArg (· + _) (fill13 _))

/-- Window 13 after any other point. -/
theorem dgain_next (t : Fin cfg0.N) (h : ¬t.val % 16 = 0) (y : S1x1024.Idx) :
    ((outsAt0 m c t.val t.isLt).2.1 : S1x1024.Idx → EReal) y
      = ((outsAt0 m c (t.val - 1) (by omega)).2.1 : S1x1024.Idx → EReal) y + ∑ i, (brow m c t i).dgain (y 1) := by
  rw [outsAt0_B m c t h]; dsimp only
  frame_out
  obtain ⟨j, k, rfl⟩ : ∃ j k, y = ix2 (n0 := 1) (n1 := 1024) j k := ⟨y 0, y 1, eq_ix2 y⟩
  obtain rfl : j = 0 := Subsingleton.elim _ _
  exact dgain (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ k

/-- Window 13's array: the gain's gradient, the rows' parts summed. -/
theorem final_13 : (dats m 0 c).arrAt 13 cfg0.N = fun y : S1x1024.Idx => ∑ r, (row m c r).dgain (y 1) := by
  refine (dats m 0 c).arrAt_eq_of_after_last 13 tLast (by decide +kernel) _ fun j => ?_
  blk_simp [idx_val tLast]
  rw [after0_13]
  rw [Pipeline.eq_sum_fin_of_reset_step_apply_last (fun n h => ((outsAt0 m c n h).2.1 : S1x1024.Idx → EReal)) 16 (fun _ => 0)
    (fun t y => ∑ i, (brow m c t i).dgain (y 1)) (dgain_first m c) (dgain_next m c) (le_of_eq N_0) tLast rfl j, zero_add]
  refine Fin.sum_mul_add_congr (S := cfg0.N) (n := 512) (f := fun r : Fin 8192 => (row m c r).dgain (j 1)) (fun t i hl => ?_) (show 8192 = grid0.N * 512 by rw [N_0])
  exact at_emb m c PRow.dgain t i (j 1) _ _ (by show t.val * 512 + i.val = _; omega) rfl

/-- The fill of window 14 is zero. -/
theorem fill14 (x : S1x6400.Idx) : k0_pay6 (F := Ideal) x = 0 := by
  idx_vars x
  pointwise [k0_pay6]

/-- Window 14 after a point that begins the sum. -/
theorem dbias_first (t : Fin cfg0.N) (h : t.val % 16 = 0) (y : S1x6400.Idx) :
    ((outsAt0 m c t.val t.isLt).2.2 : S1x6400.Idx → EReal) y = 0 + ∑ i, (brow m c t i).d (y 1) := by
  rw [outsAt0_A m c t h]; dsimp only
  frame_out
  obtain ⟨j, k, rfl⟩ : ∃ j k, y = ix2 (n0 := 1) (n1 := 6400) j k := ⟨y 0, y 1, eq_ix2 y⟩
  obtain rfl : j = 0 := Subsingleton.elim _ _
  exact (dbias (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) k0_pay6 k).trans (congrArg (· + _) (fill14 _))

/-- Window 14 after any other point. -/
theorem dbias_next (t : Fin cfg0.N) (h : ¬t.val % 16 = 0) (y : S1x6400.Idx) :
    ((outsAt0 m c t.val t.isLt).2.2 : S1x6400.Idx → EReal) y
      = ((outsAt0 m c (t.val - 1) (by omega)).2.2 : S1x6400.Idx → EReal) y + ∑ i, (brow m c t i).d (y 1) := by
  rw [outsAt0_B m c t h]; dsimp only
  frame_out
  obtain ⟨j, k, rfl⟩ : ∃ j k, y = ix2 (n0 := 1) (n1 := 6400) j k := ⟨y 0, y 1, eq_ix2 y⟩
  obtain rfl : j = 0 := Subsingleton.elim _ _
  exact dbias (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ k

/-- Window 14's array: the bias's gradient, the rows' parts summed. -/
theorem final_14 : (dats m 0 c).arrAt 14 cfg0.N = fun y : S1x6400.Idx => ∑ r, (row m c r).d (y 1) := by
  refine (dats m 0 c).arrAt_eq_of_after_last 14 tLast (by decide +kernel) _ fun j => ?_
  blk_simp [idx_val tLast]
  rw [after0_14]
  rw [Pipeline.eq_sum_fin_of_reset_step_apply_last (fun n h => ((outsAt0 m c n h).2.2 : S1x6400.Idx → EReal)) 16 (fun _ => 0)
    (fun t y => ∑ i, (brow m c t i).d (y 1)) (dbias_first m c) (dbias_next m c) (le_of_eq N_0) tLast rfl j, zero_add]
  refine Fin.sum_mul_add_congr (S := cfg0.N) (n := 512) (f := fun r : Fin 8192 => (row m c r).d (j 1)) (fun t i hl => ?_) (show 8192 = grid0.N * 512 by rw [N_0])
  exact at_emb m c PRow.d t i (j 1) _ _ (by show t.val * 512 + i.val = _; omega) rfl

end Cert.ProjBwd.Ker
-- ==== Proof.ProjBwdReference.lean ====
/- ProjBwdReference: what the reference's operations compute at a row, in ProjSpec's words. -/
module

public import proofs.«01_k».proof.Proof.ProjSpec
public import proofs.«01_k».proof.Proof.Gen.Reference4Ideal.Read

@[expose] public section

set_option maxRecDepth 16384

noncomputable section

namespace Cert.ProjBwd.Ref

open Cert.Reference4Ideal Cert.Reference4Ideal.Gen Cert.Reference4Ideal.Read Cert.Scalars Cert.Proj
open Idealize.ShloMosaic Idealize.ShloMosaic.TcCoe Idealize.SL.Sem
open scoped BigOperators

variable (x0 : FVec Ideal S8192x2048 .bf16) (x1 x2 : FVec Ideal S8192x1024 .bf16) (x3 x4 x5 x6 : FVec Ideal S4096x128 .bf16) (x7 : FVec Ideal S8192x2048 .bf16)
  (x8 x9 : FVec Ideal S8192x1024 .f32) (x10 : FVec Ideal S1x1024 .f32) (x11 : FVec Ideal S6400x1024 .bf16)

/-- The operands of row `r`. -/
def row (r : Fin 8192) : PRow where
  d := six (fun k => x0 (ix2 r k)) (fun k => x1 (ix2 r k)) (fun k => x2 (ix2 r k)) (fun k => half (fun j => x3 (ix2 j k)) (fun j => x4 (ix2 j k)) r)
    (fun k => half (fun j => x5 (ix2 j k)) (fun j => x6 (ix2 j k)) r) (fun k => x7 (ix2 r k))
  dx k := x9 (ix2 r k)
  x k := x8 (ix2 r k)
  g k := x10 (ix2 0 k)
  w j k := x11 (ix2 j k)

/-- The even and the odd blocks of rows of the key's gradient. -/
theorem both (r : Fin 8192) (k : Fin 128) : val_main_v5 (F := Ideal) x3 x4 (ix2 r k) = half (fun j => x3 (ix2 j k)) (fun j => x4 (ix2 j k)) r := by
  pointwise [val_main_v5, val_main_v4, val_main_v3, val_main_v2, val_main_v1, val_main_v0]
  unfold half
  split_ifs <;> first | rfl | (exfalso; omega)

/-- The even and the odd blocks of rows of the value's gradient. -/
theorem both' (r : Fin 8192) (k : Fin 128) : val_main_v11 (F := Ideal) x5 x6 (ix2 r k) = half (fun j => x5 (ix2 j k)) (fun j => x6 (ix2 j k)) r :=
  both x5 x6 r k

/-- The cotangent of the projection, its pieces laid side by side. -/
theorem cot (r : Fin 8192) (f : Fin 6400) : val_main_v13 (F := Ideal) x0 x1 x2 x3 x4 x5 x6 x7 (ix2 r f) = (row x0 x1 x2 x3 x4 x5 x6 x7 x8 x9 x10 x11 r).d f := by
  pointwise [val_main_v13, val_main_v12]
  refine (six_nested (fun k => x0 (ix2 r k)) (fun k => x1 (ix2 r k)) (fun k => x2 (ix2 r k)) (fun k => val_main_v5 (F := Ideal) x3 x4 (ix2 r k))
    (fun k => val_main_v11 (F := Ideal) x5 x6 (ix2 r k)) (fun k => x7 (ix2 r k)) f).trans ?_
  simp only [both, both']; rfl

/-- The mean square plus the small constant. -/
theorem ve (r : Fin 8192) : val_main_v24 (F := Ideal) x8 (ix2 r 0) = rve (fun k => x8 (ix2 r k)) := by
  pointwise [val_main_v24, val_main_v22, val_main_v20, val_main_v19, val_main_v18, val_main_cst_0, val_main_v21, val_main_cst_1, val_main_v23, val_main_cst_2, rve, rmean]

/-- The reciprocal root mean square. -/
theorem rt (r : Fin 8192) : val_main_v25 (F := Ideal) x8 (ix2 r 0) = rrt (fun k => x8 (ix2 r k)) := by
  pointwise [val_main_v25, rrt, ve]

/-- The normalised row. -/
theorem nrm (r : Fin 8192) (k : Fin 1024) : val_main_v30 (F := Ideal) x8 (ix2 r k) = rn (fun k => x8 (ix2 r k)) k := by
  pointwise [val_main_v30, val_main_v29, rt, rn]

/-- The cotangent of the scaled, normalised row. -/
theorem dh (r : Fin 8192) (k : Fin 1024) : val_main_v43 (F := Ideal) x0 x1 x2 x3 x4 x5 x6 x7 x11 (ix2 r k) = (row x0 x1 x2 x3 x4 x5 x6 x7 x8 x9 x10 x11 r).dh k := by
  pointwise [val_main_v43, val_main_v16, val_main_v15]
  simp only [cot x0 x1 x2 x3 x4 x5 x6 x7 x8 x9 x10 x11]; rfl

/-- The bias's gradient: the sum of the rows' cotangents. -/
theorem dbias (f : Fin 6400) : val_main_v42 (F := Ideal) x0 x1 x2 x3 x4 x5 x6 x7 (ix2 0 f) = ∑ r, (row x0 x1 x2 x3 x4 x5 x6 x7 x8 x9 x10 x11 r).d f := by
  pointwise [val_main_v42, val_main_v41, val_main_v40, val_main_v39, val_main_cst_4, val_main_cst_5]
  rw [Fin.sum_univ_one]
  simp only [cot x0 x1 x2 x3 x4 x5 x6 x7 x8 x9 x10 x11]

/-- The gain's gradient: the sum of the rows' parts. -/
theorem dgain (k : Fin 1024) : val_main_v64 (F := Ideal) x0 x1 x2 x3 x4 x5 x6 x7 x8 x11 (ix2 0 k) = ∑ r, (row x0 x1 x2 x3 x4 x5 x6 x7 x8 x9 x10 x11 r).dgain k := by
  pointwise [val_main_v64, val_main_v49, val_main_v46, val_main_v45, val_main_cst_6, val_main_cst_7, val_main_v44]
  rw [Fin.sum_univ_one]
  exact Finset.sum_congr rfl fun r _ => by rw [nrm, dh x0 x1 x2 x3 x4 x5 x6 x7 x8 x9 x10 x11, mul_comm]; rfl

/-- The row's gradient. -/
theorem dout (r : Fin 8192) (k : Fin 1024) : val_main_v65 (F := Ideal) x0 x1 x2 x3 x4 x5 x6 x7 x8 x9 x10 x11 (ix2 r k) = (row x0 x1 x2 x3 x4 x5 x6 x7 x8 x9 x10 x11 r).dout k := by
  have hd : ∀ j, val_main_v48 (F := Ideal) x0 x1 x2 x3 x4 x5 x6 x7 x10 x11 (ix2 r j) = (row x0 x1 x2 x3 x4 x5 x6 x7 x8 x9 x10 x11 r).dh j * (row x0 x1 x2 x3 x4 x5 x6 x7 x8 x9 x10 x11 r).g j := fun j => by
    pointwise [val_main_v48, val_main_v47, val_main_v31, val_main_v17]
    rw [dh x0 x1 x2 x3 x4 x5 x6 x7 x8 x9 x10 x11]; rfl
  have hv : val_main_v63 (F := Ideal) x0 x1 x2 x3 x4 x5 x6 x7 x8 x10 x11 (ix2 r k) = rnormVjp (row x0 x1 x2 x3 x4 x5 x6 x7 x8 x9 x10 x11 r).x (fun j => (row x0 x1 x2 x3 x4 x5 x6 x7 x8 x9 x10 x11 r).dh j * (row x0 x1 x2 x3 x4 x5 x6 x7 x8 x9 x10 x11 r).g j) k := by
    pointwise [val_main_v63, val_main_v62, val_main_v61, val_main_v60, val_main_v59, val_main_v58, val_main_cst_10, val_main_v57, val_main_v56, val_main_cst_9, val_main_v55,
      val_main_v54, val_main_v53, val_main_v52, val_main_v51, val_main_cst_8, val_main_v50, val_main_v28, val_main_v27, val_main_cst_3, val_main_v26, rt, ve, hd]
    rw [Fin.sum_univ_one, rt, ve]; rfl
  pointwise [val_main_v65]
  rw [hv, rnormVjp_eq]; rfl

end Cert.ProjBwd.Ref
-- ==== Proof.ProjBwdClaim.lean ====
/- ProjBwdClaim: the arrays of the projection's backward launch are the reference's. -/
module

public import proofs.«01_k».proof.Proof.ProjBwdRows
public import proofs.«01_k».proof.Proof.ProjBwdReference

@[expose] public section

set_option maxRecDepth 16384

noncomputable section

namespace Cert.ProjBwd

open Cert.Kernel4Ideal Cert.Kernel4Ideal.Gen Cert.Scalars
open Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- Window 12 ends holding the reference's result: the rows' gradients. -/
theorem out_12 : (dats m 0 c).arrAt 12 cfg0.N
    = Cert.Reference4Ideal.Read.val_main_v65 (F := Ideal) (V m c main_arg0) (V m c main_arg1) (V m c main_arg2) (V m c main_arg3) (V m c main_arg4) (V m c main_arg5) (V m c main_arg6) (V m c main_arg7) (V m c main_arg8) (V m c main_arg9) (V m c main_arg10) (V m c main_arg11) := by
  rw [Ker.final_12]
  funext y
  obtain ⟨r, k, rfl⟩ : ∃ r k, y = ix2 (n0 := 8192) (n1 := 1024) r k := ⟨y 0, y 1, eq_ix2 y⟩
  exact (Ref.dout (V m c main_arg0) (V m c main_arg1) (V m c main_arg2) (V m c main_arg3) (V m c main_arg4) (V m c main_arg5) (V m c main_arg6) (V m c main_arg7) (V m c main_arg8) (V m c main_arg9) (V m c main_arg10) (V m c main_arg11) r k).symm

/-- Window 13 ends holding the reference's result: the gain's gradient. -/
theorem out_13 : (dats m 0 c).arrAt 13 cfg0.N
    = Cert.Reference4Ideal.Read.val_main_v64 (F := Ideal) (V m c main_arg0) (V m c main_arg1) (V m c main_arg2) (V m c main_arg3) (V m c main_arg4) (V m c main_arg5) (V m c main_arg6) (V m c main_arg7) (V m c main_arg8) (V m c main_arg11) := by
  rw [Ker.final_13]
  funext y
  obtain ⟨r, k, rfl⟩ : ∃ r k, y = ix2 (n0 := 1) (n1 := 1024) r k := ⟨y 0, y 1, eq_ix2 y⟩
  obtain rfl : r = 0 := Subsingleton.elim _ _
  exact (Ref.dgain (V m c main_arg0) (V m c main_arg1) (V m c main_arg2) (V m c main_arg3) (V m c main_arg4) (V m c main_arg5) (V m c main_arg6) (V m c main_arg7) (V m c main_arg8) (V m c main_arg9) (V m c main_arg10) (V m c main_arg11) k).symm

/-- Window 14 ends holding the reference's result: the bias's gradient. -/
theorem out_14 : (dats m 0 c).arrAt 14 cfg0.N
    = Cert.Reference4Ideal.Read.val_main_v42 (F := Ideal) (V m c main_arg0) (V m c main_arg1) (V m c main_arg2) (V m c main_arg3) (V m c main_arg4) (V m c main_arg5) (V m c main_arg6) (V m c main_arg7) := by
  rw [Ker.final_14]
  funext y
  obtain ⟨r, k, rfl⟩ : ∃ r k, y = ix2 (n0 := 1) (n1 := 6400) r k := ⟨y 0, y 1, eq_ix2 y⟩
  obtain rfl : r = 0 := Subsingleton.elim _ _
  exact (Ref.dbias (V m c main_arg0) (V m c main_arg1) (V m c main_arg2) (V m c main_arg3) (V m c main_arg4) (V m c main_arg5) (V m c main_arg6) (V m c main_arg7) (V m c main_arg8) (V m c main_arg9) (V m c main_arg10) (V m c main_arg11) k).symm

/-- Over arguments that agree, the reference's result is window 12's array. -/
theorem of_agree_12 (x0 : FVec Ideal S8192x2048 .bf16) (x1 : FVec Ideal S8192x1024 .bf16) (x2 : FVec Ideal S8192x1024 .bf16) (x3 : FVec Ideal S4096x128 .bf16) (x4 : FVec Ideal S4096x128 .bf16) (x5 : FVec Ideal S4096x128 .bf16) (x6 : FVec Ideal S4096x128 .bf16) (x7 : FVec Ideal S8192x2048 .bf16) (x8 : FVec Ideal S8192x1024 .f32) (x9 : FVec Ideal S8192x1024 .f32) (x10 : FVec Ideal S1x1024 .f32) (x11 : FVec Ideal S6400x1024 .bf16)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) (e4 : x4 = m ((c.tc : Thread nD τ).loc main_arg4)) (e5 : x5 = m ((c.tc : Thread nD τ).loc main_arg5)) (e6 : x6 = m ((c.tc : Thread nD τ).loc main_arg6)) (e7 : x7 = m ((c.tc : Thread nD τ).loc main_arg7)) (e8 : x8 = m ((c.tc : Thread nD τ).loc main_arg8)) (e9 : x9 = m ((c.tc : Thread nD τ).loc main_arg9)) (e10 : x10 = m ((c.tc : Thread nD τ).loc main_arg10)) (e11 : x11 = m ((c.tc : Thread nD τ).loc main_arg11)) :
    Cert.Reference4Ideal.Read.val_main_v65 (F := Ideal) x0 x1 x2 x3 x4 x5 x6 x7 x8 x9 x10 x11 = (dats m 0 c).arrAt 12 cfg0.N := by
  subst e0 e1 e2 e3 e4 e5 e6 e7 e8 e9 e10 e11
  exact (out_12 m c).symm

/-- Over arguments that agree, the reference's result is window 13's array. -/
theorem of_agree_13 (x0 : FVec Ideal S8192x2048 .bf16) (x1 : FVec Ideal S8192x1024 .bf16) (x2 : FVec Ideal S8192x1024 .bf16) (x3 : FVec Ideal S4096x128 .bf16) (x4 : FVec Ideal S4096x128 .bf16) (x5 : FVec Ideal S4096x128 .bf16) (x6 : FVec Ideal S4096x128 .bf16) (x7 : FVec Ideal S8192x2048 .bf16) (x8 : FVec Ideal S8192x1024 .f32) (x11 : FVec Ideal S6400x1024 .bf16)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) (e4 : x4 = m ((c.tc : Thread nD τ).loc main_arg4)) (e5 : x5 = m ((c.tc : Thread nD τ).loc main_arg5)) (e6 : x6 = m ((c.tc : Thread nD τ).loc main_arg6)) (e7 : x7 = m ((c.tc : Thread nD τ).loc main_arg7)) (e8 : x8 = m ((c.tc : Thread nD τ).loc main_arg8)) (e11 : x11 = m ((c.tc : Thread nD τ).loc main_arg11)) :
    Cert.Reference4Ideal.Read.val_main_v64 (F := Ideal) x0 x1 x2 x3 x4 x5 x6 x7 x8 x11 = (dats m 0 c).arrAt 13 cfg0.N := by
  subst e0 e1 e2 e3 e4 e5 e6 e7 e8 e11
  exact (out_13 m c).symm

/-- Over arguments that agree, the reference's result is window 14's array. -/
theorem of_agree_14 (x0 : FVec Ideal S8192x2048 .bf16) (x1 : FVec Ideal S8192x1024 .bf16) (x2 : FVec Ideal S8192x1024 .bf16) (x3 : FVec Ideal S4096x128 .bf16) (x4 : FVec Ideal S4096x128 .bf16) (x5 : FVec Ideal S4096x128 .bf16) (x6 : FVec Ideal S4096x128 .bf16) (x7 : FVec Ideal S8192x2048 .bf16)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) (e4 : x4 = m ((c.tc : Thread nD τ).loc main_arg4)) (e5 : x5 = m ((c.tc : Thread nD τ).loc main_arg5)) (e6 : x6 = m ((c.tc : Thread nD τ).loc main_arg6)) (e7 : x7 = m ((c.tc : Thread nD τ).loc main_arg7)) :
    Cert.Reference4Ideal.Read.val_main_v42 (F := Ideal) x0 x1 x2 x3 x4 x5 x6 x7 = (dats m 0 c).arrAt 14 cfg0.N := by
  subst e0 e1 e2 e3 e4 e5 e6 e7
  exact (out_14 m c).symm

end Cert.ProjBwd
-- ==== Proof.MergeFwdSpec.lean ====
/- MergeFwdSpec: what the merge's forward launch computes of one row. -/
module

public import proofs.«01_k».proof.Proof.MergeSpec

@[expose] public section

set_option maxRecDepth 16384

noncomputable section

namespace Cert.MergeFwd

open Idealize.ShloMosaic Cert.Scalars Cert.Merge
open scoped BigOperators

/-- One row's operands: the residual input `x`, the retention output `ry` and its gate `rg`, the attention output `ay`, the two
    merge gates, and what every row shares: the norm's gain `g` and the weights. -/
structure FRow where
  /-- the residual input -/
  x : Fin 1024 → EReal
  /-- the retention output -/
  ry : Fin 1024 → EReal
  /-- the retention output's gate -/
  rg : Fin 1024 → EReal
  /-- the attention output -/
  ay : Fin 1024 → EReal
  /-- the retention branch's gate -/
  ga : Fin 1024 → EReal
  /-- the attention branch's gate -/
  gb : Fin 1024 → EReal
  /-- the norm's gain -/
  g : Fin 1024 → EReal
  /-- the retention branch's projection -/
  wr : Fin 1024 → Fin 1024 → EReal
  /-- the attention branch's projection -/
  wa : Fin 1024 → Fin 1024 → EReal
  /-- the merged projection -/
  wo : Fin 1024 → Fin 1024 → EReal

namespace FRow

variable (q : FRow)

/-- The normalised retention output: every head's lanes are normalised together. -/
def yn (k : Fin 1024) : EReal := gyn (fun l => q.ry (hd k l)) (ln k)
/-- The gated, normalised retention output. -/
def u (k : Fin 1024) : EReal := q.rg k * sg (q.rg k) * (q.yn k * q.g k)
/-- The retention branch's projected output. -/
def ba (k : Fin 1024) : EReal := ∑ j, q.u j * q.wr j k
/-- The attention branch's projected output. -/
def bb (k : Fin 1024) : EReal := ∑ j, q.ay j * q.wa j k
/-- The merged sum of the two gated branches. -/
def merged (k : Fin 1024) : EReal := sg (q.ga k) * q.ba k + sg (q.gb k) * q.bb k
/-- The residual stream after the merged projection. -/
def out (k : Fin 1024) : EReal := q.x k + ∑ j, q.merged j * q.wo j k

end FRow

end Cert.MergeFwd
-- ==== Proof.MergeFwdTiles.lean ====
/- MergeFwdTiles: what the merge's forward body computes of a block, row by row. -/
module

public import proofs.«01_k».proof.Proof.MergeFwdSpec
public import proofs.«01_k».proof.Proof.Gen.Kernel5Ideal.Skeleton

@[expose] public section

set_option maxRecDepth 16384

noncomputable section

namespace Cert.MergeFwd.Ker

open Cert.Kernel5Ideal Cert.Kernel5Ideal.Gen Cert.Scalars Cert.Merge
open Idealize.ShloMosaic Idealize.ShloMosaic.TcCoe Idealize.SL.Sem
open scoped BigOperators

/-- The operands of row `r` of a block. -/
def blkRow (b0 : FVec Ideal S512x1024 .f32) (b1 b2 b3 b4 b5 : FVec Ideal S512x1024 .bf16) (b6 : FVec Ideal S1x1024 .f32)
    (b7 b8 b9 : FVec Ideal S1024x1024 .bf16) (r : Fin 512) : FRow where
  x k := b0 (ix2 r k)
  ry k := b1 (ix2 r k)
  rg k := b2 (ix2 r k)
  ay k := b3 (ix2 r k)
  ga k := b4 (ix2 r k)
  gb k := b5 (ix2 r k)
  g k := b6 (ix2 0 k)
  wr j k := b7 (ix2 j k)
  wa j k := b8 (ix2 j k)
  wo j k := b9 (ix2 j k)

/-! ### One head's tile -/

section
variable (y x : FVec Ideal S512x256 .bf16) (g : FVec Ideal S1x256 .f32)

/-- The gated, normalised retention output of one head: retention output `y`, its gate `x`, gain `g`. -/
def uT : FVec Ideal S512x256 .bf16 := k0_pay4 y x g

/-- The second head's stored tile. -/
theorem u1 : k0_pay5 (F := Ideal) y x g = uT y x g := rfl

/-- The third head's stored tile. -/
theorem u2 : k0_pay9 (F := Ideal) (k0_pay6 y) (k0_pay7 y) (k0_pay8 (F := Ideal)) x g = uT y x g := rfl

/-- The fourth head's stored tile. -/
theorem u3 : k0_pay13 (F := Ideal) (k0_pay10 y) (k0_pay11 y) (k0_pay12 (F := Ideal)) x g = uT y x g := rfl

/-- A head's tile at a lane. -/
theorem uT_apply (i : Fin 512) (l : Fin 256) : uT y x g (ix2 i l)
    = x (ix2 i l) * sg (x (ix2 i l)) * (gyn (fun l => y (ix2 i l)) l * g (ix2 0 l)) := by
  pointwise [uT, k0_pay4, half_tanh, gyn, grstd, gve, gcen, gmean]

end

variable (b0 : FVec Ideal S512x1024 .f32) (b1 b2 b3 b4 b5 : FVec Ideal S512x1024 .bf16) (b6 : FVec Ideal S1x1024 .f32)
  (b7 b8 b9 : FVec Ideal S1024x1024 .bf16)

/-- The gated, normalised retention output of a block's rows. -/
def uB : FVec Ideal S512x1024 .bf16 := fun y => (blkRow b0 b1 b2 b3 b4 b5 b6 b7 b8 b9 (y 0)).u (y 1)

/-- The attention branch's gated, projected output. -/
theorem gb (i : Fin 512) (k : Fin 1024) :
    k0_pay14 (F := Ideal) (k0_pay3 b3 b8) b5 (ix2 i k) = sg (b5 (ix2 i k)) * (blkRow b0 b1 b2 b3 b4 b5 b6 b7 b8 b9 i).bb k := by
  pointwise [k0_pay14, k0_pay3, half_tanh, FRow.bb, blkRow]

/-- The merged sum. -/
theorem merged (i : Fin 512) (k : Fin 1024) :
    k0_pay1 (F := Ideal) (k0_pay14 (k0_pay3 b3 b8) b5) (k0_pay15 b4) (Ideal.ofBits .f32 0x3F000000#32) (uB b0 b1 b2 b3 b4 b5 b6 b7 b8 b9) b7 (ix2 i k)
      = (blkRow b0 b1 b2 b3 b4 b5 b6 b7 b8 b9 i).merged k := by
  pointwise [k0_pay1, k0_pay15, half_tanh]
  rw [gb b0 b1 b2 b3 b4 b5 b6 b7 b8 b9]; rfl

/-- The residual stream after the merged projection. -/
theorem out (i : Fin 512) (k : Fin 1024) :
    k0_pay2 (F := Ideal) (k0_pay14 (k0_pay3 b3 b8) b5) (k0_pay15 b4) (Ideal.ofBits .f32 0x3F000000#32) (uB b0 b1 b2 b3 b4 b5 b6 b7 b8 b9) b7 b0 b9 (ix2 i k)
      = (blkRow b0 b1 b2 b3 b4 b5 b6 b7 b8 b9 i).out k := by
  pointwise [k0_pay2]
  exact congrArg (fun s => b0 (ix2 i k) + s) (Finset.sum_congr rfl fun j _ => by rw [merged b0 b1 b2 b3 b4 b5 b6 b7 b8 b9]; rfl)

end Cert.MergeFwd.Ker
-- ==== Proof.MergeFwdRows.lean ====
/- MergeFwdRows: the arrays that the merge's forward launch leaves, row by row. -/
module

public import proofs.«01_k».proof.Proof.MergeFwdTiles
public import proofs.«01_k».proof.Proof.Gen.Kernel5Ideal.Frame
public import Idealize.ShloMosaic.Lib.Pipeline.ValueKit
public import Idealize.ShloMosaic.Lib.Pipeline.ReadBack

@[expose] public section

set_option maxRecDepth 16384

noncomputable section

namespace Cert.MergeFwd.Ker

open Cert.Kernel5Ideal Cert.Kernel5Ideal.Gen Cert.Scalars Cert.Merge
open Idealize.ShloMosaic Idealize.ShloMosaic.TcCoe Idealize.SL.Sem
open Idealize.ShloMosaic.Pipeline (Dat)
open scoped BigOperators

/-! ### A head's tile within its row -/

section
variable (q : FRow) (o : ℕ) (ho : o % 256 = 0) (hb : o + 256 ≤ 1024)
variable (y x : FVec Ideal S512x256 .bf16) (g : FVec Ideal S1x256 .f32)
include ho

/-- A head's lanes, from any of its columns. -/
theorem hd_at (l l' : Fin 256) : hd ⟨o + l.val, by omega⟩ l' = ⟨o + l'.val, by omega⟩ := Fin.ext (by simp only [hd]; omega)

/-- A column's lane. -/
theorem ln_at (l : Fin 256) : ln ⟨o + l.val, by omega⟩ = l := Fin.ext (by simp only [ln]; omega)

/-- The row's normalised output over one head. -/
theorem yn_at (l : Fin 256) : q.yn ⟨o + l.val, by omega⟩ = gyn (fun l => q.ry ⟨o + l.val, by omega⟩) l := by
  simp only [FRow.yn, hd_at o ho hb, ln_at o ho hb]

/-- A head's tile of the gated, normalised retention output. -/
theorem u_at (i : Fin 512) (hY : ∀ l : Fin 256, y (ix2 i l) = q.ry ⟨o + l.val, by omega⟩)
    (hX : ∀ l : Fin 256, x (ix2 i l) = q.rg ⟨o + l.val, by omega⟩) (hG : ∀ l : Fin 256, g (ix2 0 l) = q.g ⟨o + l.val, by omega⟩) (l : Fin 256) :
    uT y x g (ix2 i l) = q.u ⟨o + l.val, by omega⟩ := by
  rw [uT_apply, FRow.u, yn_at q o ho hb]; simp only [hY, hX, hG]
end

/-- A tile of a block, read at a lane. -/
theorem ld_at {e : EltTy} (b : S512x1024.Idx → Elt Ideal e) (o : ℕ) (hb : o + 256 ≤ 1024) (inb) (i : Fin 512) (l : Fin 256) :
    (View.ld (Val := Elt Ideal) (S := S512x1024) (e' := e) b (Rect.unit ![0, o] ![512, 256] inb) : S512x256.Idx → Elt Ideal e) (ix2 i l) = b (ix2 i ⟨o + l.val, by omega⟩) := by
  refine congrArg b (funext fun a => Fin.ext ?_)
  match a with
  | ⟨0, _⟩ => simp [Rect.unit, LoadRect.idx, ix2]
  | ⟨1, _⟩ => simp [Rect.unit, LoadRect.idx, ix2]

/-- A tile of a row vector, read at a lane. -/
theorem ld_row_at {e : EltTy} (b : S1x1024.Idx → Elt Ideal e) (o : ℕ) (hb : o + 256 ≤ 1024) (inb) (l : Fin 256) :
    (View.ld (Val := Elt Ideal) (S := S1x1024) (e' := e) b (Rect.unit ![0, o] ![1, 256] inb) : S1x256.Idx → Elt Ideal e) (ix2 0 l) = b (ix2 0 ⟨o + l.val, by omega⟩) := by
  refine congrArg b (funext fun a => Fin.ext ?_)
  match a with
  | ⟨0, _⟩ => simp [Rect.unit, LoadRect.idx, ix2]
  | ⟨1, _⟩ => simp [Rect.unit, LoadRect.idx, ix2]

/-- Which block each window shows at step `t`: the `t`-th row block, or always the first one. -/
theorem idx_val : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![0, 0] ∧ win0_7.index t = ![0, 0] ∧ win0_8.index t = ![0, 0] ∧ win0_9.index t = ![0, 0] ∧ win0_10.index t = ![t.val, 0] ∧ win0_11.index t = ![t.val, 0] ∧ win0_12.index t = ![t.val, 0] :=
  (by decide +kernel : ∀ t : Fin grid0.N, _)

variable (m : (ℓ : Loc nD τ sig) → Buf (Elt Ideal) ℓ) (c : Dev nD)

/-- The operands of row `r` of the whole arrays. -/
def row (r : Fin 8192) : FRow where
  x k := (V m c main_arg0 : FVec Ideal S8192x1024 .f32) (ix2 r k)
  ry k := (V m c main_arg1 : FVec Ideal S8192x1024 .bf16) (ix2 r k)
  rg k := (V m c main_arg2 : FVec Ideal S8192x1024 .bf16) (ix2 r k)
  ay k := (V m c main_arg3 : FVec Ideal S8192x1024 .bf16) (ix2 r k)
  ga k := (V m c main_arg4 : FVec Ideal S8192x1024 .bf16) (ix2 r k)
  gb k := (V m c main_arg5 : FVec Ideal S8192x1024 .bf16) (ix2 r k)
  g k := (V m c main_arg6 : FVec Ideal S1x1024 .f32) (ix2 0 k)
  wr j k := (V m c main_arg7 : FVec Ideal S1024x1024 .bf16) (ix2 j k)
  wa j k := (V m c main_arg8 : FVec Ideal S1024x1024 .bf16) (ix2 j k)
  wo j k := (V m c main_arg9 : FVec Ideal S1024x1024 .bf16) (ix2 j k)

/-- The operands of a row of the block at a grid point. -/
def brow (t : Fin cfg0.N) (i : Fin 512) : FRow :=
  blkRow (iblk m c 0 t) (iblk m c 1 t) (iblk m c 2 t) (iblk m c 3 t) (iblk m c 4 t) (iblk m c 5 t) (iblk m c 6 t) (iblk m c 7 t) (iblk m c 8 t) (iblk m c 9 t) i

/-- The row of the whole arrays that a row of a block holds. -/
def arow (t : Fin cfg0.N) (i : Fin 512) : Fin 8192 := ⟨512 * t.val + i.val, by have := t.isLt; have : cfg0.N = 16 := N_0; omega⟩

/-- What operand 0 holds in the block that step `t` reads. -/
theorem blk0 (t : Fin cfg0.N) (i : Fin 512) (k : Fin 1024) :
    (iblk m c 0 t : FVec Ideal S512x1024 .f32) (ix2 i k) = (V m c main_arg0 : FVec Ideal S8192x1024 .f32) (ix2 (arow t i) k) := by
  blk_ext! [iblk, arow, idx_val t]

/-- What operand 1 holds in the block that step `t` reads. -/
theorem blk1 (t : Fin cfg0.N) (i : Fin 512) (k : Fin 1024) :
    (iblk m c 1 t : FVec Ideal S512x1024 .bf16) (ix2 i k) = (V m c main_arg1 : FVec Ideal S8192x1024 .bf16) (ix2 (arow t i) k) := by
  blk_ext! [iblk, arow, idx_val t]

/-- What operand 2 holds in the block that step `t` reads. -/
theorem blk2 (t : Fin cfg0.N) (i : Fin 512) (k : Fin 1024) :
    (iblk m c 2 t : FVec Ideal S512x1024 .bf16) (ix2 i k) = (V m c main_arg2 : FVec Ideal S8192x1024 .bf16) (ix2 (arow t i) k) := by
  blk_ext! [iblk, arow, idx_val t]

/-- What operand 3 holds in the block that step `t` reads. -/
theorem blk3 (t : Fin cfg0.N) (i : Fin 512) (k : Fin 1024) :
    (iblk m c 3 t : FVec Ideal S512x1024 .bf16) (ix2 i k) = (V m c main_arg3 : FVec Ideal S8192x1024 .bf16) (ix2 (arow t i) k) := by
  blk_ext! [iblk, arow, idx_val t]

/-- What operand 4 holds in the block that step `t` reads. -/
theorem blk4 (t : Fin cfg0.N) (i : Fin 512) (k : Fin 1024) :
    (iblk m c 4 t : FVec Ideal S512x1024 .bf16) (ix2 i k) = (V m c main_arg4 : FVec Ideal S8192x1024 .bf16) (ix2 (arow t i) k) := by
  blk_ext! [iblk, arow, idx_val t]

/-- What operand 5 holds in the block that step `t` reads. -/
theorem blk5 (t : Fin cfg0.N) (i : Fin 512) (k : Fin 1024) :
    (iblk m c 5 t : FVec Ideal S512x1024 .bf16) (ix2 i k) = (V m c main_arg5 : FVec Ideal S8192x1024 .bf16) (ix2 (arow t i) k) := by
  blk_ext! [iblk, arow, idx_val t]

/-- What operand 6 holds in the block that step `t` reads. -/
theorem blk6 (t : Fin cfg0.N) (k : Fin 1024) : (iblk m c 6 t : FVec Ideal S1x1024 .f32) (ix2 0 k) = (V m c main_arg6 : FVec Ideal S1x1024 .f32) (ix2 0 k) := by
  blk_ext! [iblk, idx_val t]

/-- What operand 7 holds in the block that step `t` reads. -/
theorem blk7 (t : Fin cfg0.N) (j k : Fin 1024) :
    (iblk m c 7 t : FVec Ideal S1024x1024 .bf16) (ix2 j k) = (V m c main_arg7 : FVec Ideal S1024x1024 .bf16) (ix2 j k) := by
  blk_ext! [iblk, idx_val t]

/-- What operand 8 holds in the block that step `t` reads. -/
theorem blk8 (t : Fin cfg0.N) (j k : Fin 1024) :
    (iblk m c 8 t : FVec Ideal S1024x1024 .bf16) (ix2 j k) = (V m c main_arg8 : FVec Ideal S1024x1024 .bf16) (ix2 j k) := by
  blk_ext! [iblk, idx_val t]

/-- What operand 9 holds in the block that step `t` reads. -/
theorem blk9 (t : Fin cfg0.N) (j k : Fin 1024) :
    (iblk m c 9 t : FVec Ideal S1024x1024 .bf16) (ix2 j k) = (V m c main_arg9 : FVec Ideal S1024x1024 .bf16) (ix2 j k) := by
  blk_ext! [iblk, idx_val t]

/-- A block's row is the arrays' row it holds. -/
theorem brow_eq (t : Fin cfg0.N) (i : Fin 512) : brow m c t i = row m c (arow t i) := by
  unfold brow blkRow row
  simp only [blk0, blk1, blk2, blk3, blk4, blk5, blk6, blk7, blk8, blk9]

/-- What a row of a block has at a column is what the arrays' row has at the index the block's entry lands on. -/
theorem at_emb {n : ℕ} (f : FRow → Fin n → EReal) (t : Fin cfg0.N) (i : Fin 512) (k : Fin n) (r : Fin 8192) (k' : Fin n) (h0 : r.val = 512 * t.val + i.val)
    (h1 : k'.val = k.val) : f (brow m c t i) k = f (row m c r) k' := by
  have e0 : r = arow t i := Fin.ext h0
  have e1 : k' = k := Fin.ext h1
  rw [brow_eq, e0, e1]

section
variable (o : ℕ) (ho : o % 256 = 0) (hb : o + 256 ≤ 1024) (inb inb') (t : Fin cfg0.N) (x : S512x256.Idx)
include ho hb

/-- A stored piece of the gated, normalised retention output, within its block. -/
theorem u_piece (k : Fin 1024) (i : Fin 512) (h0 : i.val = (x 0).val) (h1 : k.val = o + (x 1).val) :
    uT (View.ld (Val := Elt Ideal) (S := S512x1024) (e' := .bf16) (iblk m c 1 t) (Rect.unit ![0, o] ![512, 256] inb))
    (View.ld (Val := Elt Ideal) (S := S512x1024) (e' := .bf16) (iblk m c 2 t) (Rect.unit ![0, o] ![512, 256] inb))
    (View.ld (Val := Elt Ideal) (S := S1x1024) (e' := .f32) (iblk m c 6 t) (Rect.unit ![0, o] ![1, 256] inb')) x = (brow m c t i).u k := by
  obtain ⟨j, l, rfl⟩ : ∃ j l, x = ix2 (n0 := 512) (n1 := 256) j l := ⟨x 0, x 1, eq_ix2 x⟩
  obtain rfl : i = j := Fin.ext h0
  have e1 : k = ⟨o + l.val, by omega⟩ := Fin.ext h1
  rw [e1]
  exact u_at (brow m c t i) o ho hb _ _ _ i (fun l => ld_at _ o hb inb _ _) (fun l => ld_at _ o hb inb _ _) (fun l => ld_row_at _ o hb inb' _) l
end

/-- A block read back whole holds what its stores left. -/
theorem readback {κ sp} (v : View sig κ sp S512x1024 .bf16) (L : List (View.Piece (Elt Ideal) S512x1024 .bf16)) (inb) :
    v.readCov L (Rect.unit ![0, 0] ![512, 1024] inb).toLoadRect = View.canon L := by
  rw [View.readCov_eq_canon']
  refine funext fun j => congrArg (View.canon L) (funext fun a => Fin.ext ?_)
  match a with
  | ⟨0, _⟩ => simp [Rect.unit, LoadRect.idx]
  | ⟨1, _⟩ => simp [Rect.unit, LoadRect.idx]

/-- The gated, normalised retention output that the body leaves in its window. -/
theorem u_block (t : Fin cfg0.N) : (outsAt0 m c t).1 = uB (iblk m c 0 t) (iblk m c 1 t) (iblk m c 2 t) (iblk m c 3 t) (iblk m c 4 t) (iblk m c 5 t) (iblk m c 6 t) (iblk m c 7 t) (iblk m c 8 t) (iblk m c 9 t) := by
  funext y
  unfold outsAt0; dsimp only
  frame_out
  rw [u1, u2, u3]
  canon_tiles x h
  · exact u_piece m c 768 rfl (by norm_num) _ _ t x _ _ (by omega) (by omega)
  · exact u_piece m c 512 rfl (by norm_num) _ _ t x _ _ (by omega) (by omega)
  · exact u_piece m c 256 rfl (by norm_num) _ _ t x _ _ (by omega) (by omega)
  · exact u_piece m c 0 rfl (by norm_num) _ _ t x _ _ (by omega) (by omega)

/-- Window 10's array: the gated, normalised retention output. -/
theorem final_10 : (dats m 0 c).arrAt 10 cfg0.N = fun y : S8192x1024.Idx => (row m c (y 0)).u (y 1) := by
  refine (dats m 0 c).arrAt_eq_of_covers 10 _ (by decide +kernel) fun t hf y => ?_
  blk_simp [idx_val t]
  rw [after0_10, u_block]
  obtain ⟨i, k, rfl⟩ : ∃ i k, y = ix2 (n0 := 512) (n1 := 1024) i k := ⟨y 0, y 1, eq_ix2 y⟩
  refine (at_emb m c FRow.u t i k _ _ ?_ ?_) <;> (blk_simp [idx_val t]; try omega)

/-- The merged sum that the body leaves in its window, read over the gated output it has just stored. -/
theorem merged_block (t : Fin cfg0.N) : (outsAt0 m c t).2.1
    = k0_pay1 (F := Ideal) (k0_pay14 (k0_pay3 (iblk m c 3 t) (iblk m c 8 t)) (iblk m c 5 t)) (k0_pay15 (iblk m c 4 t)) (Scalar.ofBits .f32 0x3F000000#32)
        (uB (iblk m c 0 t) (iblk m c 1 t) (iblk m c 2 t) (iblk m c 3 t) (iblk m c 4 t) (iblk m c 5 t) (iblk m c 6 t) (iblk m c 7 t) (iblk m c 8 t) (iblk m c 9 t)) (iblk m c 7 t) := by
  unfold outsAt0; dsimp only
  frame_out
  rw [readback, u1, u2, u3]
  refine congrArg (fun U : FVec Ideal S512x1024 .bf16 => k0_pay1 (F := Ideal) (k0_pay14 (k0_pay3 (iblk m c 3 t) (iblk m c 8 t)) (iblk m c 5 t)) (k0_pay15 (iblk m c 4 t)) (Scalar.ofBits .f32 0x3F000000#32) U (iblk m c 7 t)) ?_
  funext y
  canon_tiles x h
  · exact u_piece m c 768 rfl (by norm_num) _ _ t x _ _ (by omega) (by omega)
  · exact u_piece m c 512 rfl (by norm_num) _ _ t x _ _ (by omega) (by omega)
  · exact u_piece m c 256 rfl (by norm_num) _ _ t x _ _ (by omega) (by omega)
  · exact u_piece m c 0 rfl (by norm_num) _ _ t x _ _ (by omega) (by omega)

/-- The residual stream that the body leaves in its window, read over the gated output it has just stored. -/
theorem out_block (t : Fin cfg0.N) : (outsAt0 m c t).2.2
    = k0_pay2 (F := Ideal) (k0_pay14 (k0_pay3 (iblk m c 3 t) (iblk m c 8 t)) (iblk m c 5 t)) (k0_pay15 (iblk m c 4 t)) (Scalar.ofBits .f32 0x3F000000#32)
        (uB (iblk m c 0 t) (iblk m c 1 t) (iblk m c 2 t) (iblk m c 3 t) (iblk m c 4 t) (iblk m c 5 t) (iblk m c 6 t) (iblk m c 7 t) (iblk m c 8 t) (iblk m c 9 t)) (iblk m c 7 t) (iblk m c 0 t) (iblk m c 9 t) := by
  unfold outsAt0; dsimp only
  frame_out
  rw [readback, u1, u2, u3]
  refine congrArg (fun U : FVec Ideal S512x1024 .bf16 => k0_pay2 (F := Ideal) (k0_pay14 (k0_pay3 (iblk m c 3 t) (iblk m c 8 t)) (iblk m c 5 t)) (k0_pay15 (iblk m c 4 t)) (Scalar.ofBits .f32 0x3F000000#32) U (iblk m c 7 t) (iblk m c 0 t) (iblk m c 9 t)) ?_
  funext y
  canon_tiles x h
  · exact u_piece m c 768 rfl (by norm_num) _ _ t x _ _ (by omega) (by omega)
  · exact u_piece m c 512 rfl (by norm_num) _ _ t x _ _ (by omega) (by omega)
  · exact u_piece m c 256 rfl (by norm_num) _ _ t x _ _ (by omega) (by omega)
  · exact u_piece m c 0 rfl (by norm_num) _ _ t x _ _ (by omega) (by omega)

/-- Window 11's array: the merged sum. -/
theorem final_11 : (dats m 0 c).arrAt 11 cfg0.N = fun y : S8192x1024.Idx => (row m c (y 0)).merged (y 1) := by
  refine (dats m 0 c).arrAt_eq_of_covers 11 _ (by decide +kernel) fun t hf y => ?_
  blk_simp [idx_val t]
  rw [after0_11, merged_block]
  obtain ⟨i, k, rfl⟩ : ∃ i k, y = ix2 (n0 := 512) (n1 := 1024) i k := ⟨y 0, y 1, eq_ix2 y⟩
  refine (merged (iblk m c 0 t) (iblk m c 1 t) (iblk m c 2 t) (iblk m c 3 t) (iblk m c 4 t) (iblk m c 5 t) (iblk m c 6 t) (iblk m c 7 t) (iblk m c 8 t) (iblk m c 9 t) i k).trans (at_emb m c FRow.merged t i k _ _ ?_ ?_) <;> (blk_simp [idx_val t]; try omega)

/-- Window 12's array: the residual stream after the merged projection. -/
theorem final_12 : (dats m 0 c).arrAt 12 cfg0.N = fun y : S8192x1024.Idx => (row m c (y 0)).out (y 1) := by
  refine (dats m 0 c).arrAt_eq_of_covers 12 _ (by decide +kernel) fun t hf y => ?_
  blk_simp [idx_val t]
  rw [after0_12, out_block]
  obtain ⟨i, k, rfl⟩ : ∃ i k, y = ix2 (n0 := 512) (n1 := 1024) i k := ⟨y 0, y 1, eq_ix2 y⟩
  refine (out (iblk m c 0 t) (iblk m c 1 t) (iblk m c 2 t) (iblk m c 3 t) (iblk m c 4 t) (iblk m c 5 t) (iblk m c 6 t) (iblk m c 7 t) (iblk m c 8 t) (iblk m c 9 t) i k).trans (at_emb m c FRow.out t i k _ _ ?_ ?_) <;> (blk_simp [idx_val t]; try omega)

end Cert.MergeFwd.Ker
-- ==== Proof.MergeFwdReference.lean ====
/- MergeFwdReference: what the merge's forward reference computes, row by row. -/
module

public import proofs.«01_k».proof.Proof.MergeFwdSpec
public import proofs.«01_k».proof.Proof.Gen.Reference5Ideal.Read

@[expose] public section

set_option maxRecDepth 16384

noncomputable section

namespace Cert.MergeFwd.Ref

open Cert.Reference5Ideal Cert.Reference5Ideal.Read Cert.Scalars Cert.Merge
open Idealize.ShloMosaic Idealize.ShloMosaic.TcCoe Idealize.SL.Sem
open scoped BigOperators

variable (x0 : FVec Ideal S8192x1024 .f32) (x1 x2 x3 x4 x5 : FVec Ideal S8192x1024 .bf16) (x6 : FVec Ideal S1x1024 .f32)
  (x7 x8 x9 : FVec Ideal S1024x1024 .bf16)

/-- The operands of row `r`. -/
def row (r : Fin 8192) : FRow where
  x k := x0 (ix2 r k)
  ry k := x1 (ix2 r k)
  rg k := x2 (ix2 r k)
  ay k := x3 (ix2 r k)
  ga k := x4 (ix2 r k)
  gb k := x5 (ix2 r k)
  g k := x6 (ix2 0 k)
  wr j k := x7 (ix2 j k)
  wa j k := x8 (ix2 j k)
  wo j k := x9 (ix2 j k)

/-- The logistic function of the retention branch's gate. -/
theorem sga (r : Fin 8192) (k : Fin 1024) : val_main_v37 (F := Ideal) x4 (ix2 r k) = sg (x4 (ix2 r k)) := by
  pointwise [val_main_v37, val_main_v36, val_main_cst_5, val_main_v35, val_main_v34, val_main_cst_4, val_main_v33, val_main_v32, val_main_v31, sg]

/-- The logistic function of the attention branch's gate. -/
theorem sgb (r : Fin 8192) (k : Fin 1024) : val_main_v45 (F := Ideal) x5 (ix2 r k) = sg (x5 (ix2 r k)) := by
  pointwise [val_main_v45, val_main_v44, val_main_cst_7, val_main_v43, val_main_v42, val_main_cst_6, val_main_v41, val_main_v40, val_main_v39, sg]

/-- The retention output's gate times its logistic function. -/
theorem silu (r : Fin 8192) (k : Fin 1024) : val_main_v24 (F := Ideal) x2 (ix2 r k) = x2 (ix2 r k) * sg (x2 (ix2 r k)) := by
  pointwise [val_main_v24, val_main_call0_v5, val_main_call0_v4, val_main_call0_cst_0, val_main_call0_v3, val_main_call0_v2, val_main_call0_cst, val_main_call0_v1, val_main_call0_v0, val_main_v1, sg]

/-- The lanes of head `h` of row `r` of the retention output. -/
def yh (r : Fin 8192) (h : Fin 4) (l : Fin 256) : EReal := x1 (ix2 r ⟨h.val * 256 + l.val, by omega⟩)

/-- The centred retention output. -/
theorem cen (r : Fin 8192) (h : Fin 4) (l : Fin 256) : val_main_v9 (F := Ideal) x1 (ix3 r h l) = gcen (yh x1 r h) l := by
  pointwise [val_main_v9, val_main_v2, val_main_v0, val_main_v8, val_main_v7, val_main_v5, val_main_v4, val_main_cst, val_main_v6, val_main_cst_0, gcen, gmean, yh]

/-- The variance plus the small constant. -/
theorem ve (r : Fin 8192) (h : Fin 4) : val_main_v16 (F := Ideal) x1 (ix3 r h 0) = gve (yh x1 r h) := by
  pointwise [val_main_v16, val_main_v14, val_main_v12, val_main_v11, val_main_v10, val_main_cst_1, val_main_v13, val_main_cst_2, val_main_v15, val_main_cst_3, gve, gmean, cen]

/-- The reciprocal deviation. -/
theorem rstd (r : Fin 8192) (h : Fin 4) : val_main_v17 (F := Ideal) x1 (ix3 r h 0) = grstd (yh x1 r h) := by
  pointwise [val_main_v17, grstd, ve]

/-- The normalised retention output. -/
theorem yn (r : Fin 8192) (h : Fin 4) (l : Fin 256) : val_main_v19 (F := Ideal) x1 (ix3 r h l) = gyn (yh x1 r h) l := by
  pointwise [val_main_v19, val_main_v18, gyn, cen, rstd]

/-- The normalised retention output at a column. -/
theorem yn2 (r : Fin 8192) (k : Fin 1024) : val_main_v20 (F := Ideal) x1 (ix2 r k) = (row x0 x1 x2 x3 x4 x5 x6 x7 x8 x9 r).yn k := by
  pointwise [val_main_v20]
  exact yn x1 r ⟨k.val / 256, by omega⟩ (ln k)

/-- The gain at a column. -/
theorem gain (r : Fin 8192) (k : Fin 1024) : val_main_v22 (F := Ideal) x6 (ix2 r k) = x6 (ix2 0 k) := by
  pointwise [val_main_v22, val_main_v21, val_main_v3]

/-- The gated, normalised retention output. -/
theorem u (r : Fin 8192) (k : Fin 1024) : val_main_v25 (F := Ideal) x1 x2 x6 (ix2 r k) = (row x0 x1 x2 x3 x4 x5 x6 x7 x8 x9 r).u k := by
  pointwise [val_main_v25, val_main_v23, silu, gain]
  rw [yn2 x0 x1 x2 x3 x4 x5 x6 x7 x8 x9]; rfl

/-- The gated, normalised retention output as it is returned. -/
theorem u_out (r : Fin 8192) (k : Fin 1024) : val_main_v48 (F := Ideal) x1 x2 x6 (ix2 r k) = (row x0 x1 x2 x3 x4 x5 x6 x7 x8 x9 r).u k := by
  pointwise [val_main_v48]
  exact u x0 x1 x2 x3 x4 x5 x6 x7 x8 x9 r k

/-- The retention branch's projected output. -/
theorem ba (r : Fin 8192) (k : Fin 1024) : val_main_v27 (F := Ideal) x1 x2 x6 x7 (ix2 r k) = (row x0 x1 x2 x3 x4 x5 x6 x7 x8 x9 r).ba k := by
  pointwise [val_main_v27, val_main_v26]
  exact Finset.sum_congr rfl fun j _ => by rw [u x0 x1 x2 x3 x4 x5 x6 x7 x8 x9]; rfl

/-- The attention branch's projected output. -/
theorem bb (r : Fin 8192) (k : Fin 1024) : val_main_v30 (F := Ideal) x3 x8 (ix2 r k) = (row x0 x1 x2 x3 x4 x5 x6 x7 x8 x9 r).bb k := by
  pointwise [val_main_v30, val_main_v28, val_main_v29, FRow.bb, row]

/-- The merged sum. -/
theorem merged (r : Fin 8192) (k : Fin 1024) : val_main_v47 (F := Ideal) x1 x2 x3 x4 x5 x6 x7 x8 (ix2 r k) = (row x0 x1 x2 x3 x4 x5 x6 x7 x8 x9 r).merged k := by
  pointwise [val_main_v47, val_main_v46, val_main_v38, sga, sgb]
  rw [ba x0 x1 x2 x3 x4 x5 x6 x7 x8 x9, bb x0 x1 x2 x3 x4 x5 x6 x7 x8 x9]; rfl

/-- The merged sum as it is returned. -/
theorem merged_out (r : Fin 8192) (k : Fin 1024) : val_main_v49 (F := Ideal) x1 x2 x3 x4 x5 x6 x7 x8 (ix2 r k) = (row x0 x1 x2 x3 x4 x5 x6 x7 x8 x9 r).merged k := by
  pointwise [val_main_v49]
  exact merged x0 x1 x2 x3 x4 x5 x6 x7 x8 x9 r k

/-- The residual stream after the merged projection. -/
theorem out (r : Fin 8192) (k : Fin 1024) : val_main_v52 (F := Ideal) x0 x1 x2 x3 x4 x5 x6 x7 x8 x9 (ix2 r k) = (row x0 x1 x2 x3 x4 x5 x6 x7 x8 x9 r).out k := by
  pointwise [val_main_v52, val_main_v51, val_main_v50, FRow.out]
  exact congrArg (fun s => x0 (ix2 r k) + s) (Finset.sum_congr rfl fun j _ => by rw [merged x0 x1 x2 x3 x4 x5 x6 x7 x8 x9]; rfl)

end Cert.MergeFwd.Ref
-- ==== Proof.MergeFwdClaim.lean ====
/- MergeFwdClaim: the arrays of the merge's forward launch are the reference's. -/
module

public import proofs.«01_k».proof.Proof.MergeFwdRows
public import proofs.«01_k».proof.Proof.MergeFwdReference

@[expose] public section

set_option maxRecDepth 16384

noncomputable section

namespace Cert.MergeFwd

open Cert.Kernel5Ideal Cert.Kernel5Ideal.Gen Cert.Scalars
open Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- Window 10 ends holding the reference's result: the gated, normalised retention output. -/
theorem out_10 : (dats m 0 c).arrAt 10 cfg0.N
    = Cert.Reference5Ideal.Read.val_main_v48 (F := Ideal) (V m c main_arg1) (V m c main_arg2) (V m c main_arg6) := by
  rw [Ker.final_10]
  funext y
  obtain ⟨r, k, rfl⟩ : ∃ r k, y = ix2 (n0 := 8192) (n1 := 1024) r k := ⟨y 0, y 1, eq_ix2 y⟩
  exact (Ref.u_out (V m c main_arg0) (V m c main_arg1) (V m c main_arg2) (V m c main_arg3) (V m c main_arg4) (V m c main_arg5) (V m c main_arg6) (V m c main_arg7) (V m c main_arg8) (V m c main_arg9) r k).symm

/-- Window 11 ends holding the reference's result: the merged sum. -/
theorem out_11 : (dats m 0 c).arrAt 11 cfg0.N
    = Cert.Reference5Ideal.Read.val_main_v49 (F := Ideal) (V m c main_arg1) (V m c main_arg2) (V m c main_arg3) (V m c main_arg4) (V m c main_arg5) (V m c main_arg6) (V m c main_arg7) (V m c main_arg8) := by
  rw [Ker.final_11]
  funext y
  obtain ⟨r, k, rfl⟩ : ∃ r k, y = ix2 (n0 := 8192) (n1 := 1024) r k := ⟨y 0, y 1, eq_ix2 y⟩
  exact (Ref.merged_out (V m c main_arg0) (V m c main_arg1) (V m c main_arg2) (V m c main_arg3) (V m c main_arg4) (V m c main_arg5) (V m c main_arg6) (V m c main_arg7) (V m c main_arg8) (V m c main_arg9) r k).symm

/-- Window 12 ends holding the reference's result: the residual stream. -/
theorem out_12 : (dats m 0 c).arrAt 12 cfg0.N
    = Cert.Reference5Ideal.Read.val_main_v52 (F := Ideal) (V m c main_arg0) (V m c main_arg1) (V m c main_arg2) (V m c main_arg3) (V m c main_arg4) (V m c main_arg5) (V m c main_arg6) (V m c main_arg7) (V m c main_arg8) (V m c main_arg9) := by
  rw [Ker.final_12]
  funext y
  obtain ⟨r, k, rfl⟩ : ∃ r k, y = ix2 (n0 := 8192) (n1 := 1024) r k := ⟨y 0, y 1, eq_ix2 y⟩
  exact (Ref.out (V m c main_arg0) (V m c main_arg1) (V m c main_arg2) (V m c main_arg3) (V m c main_arg4) (V m c main_arg5) (V m c main_arg6) (V m c main_arg7) (V m c main_arg8) (V m c main_arg9) r k).symm

/-- Over arguments that agree, the reference's result is window 10's array. -/
theorem of_agree_10 (x1 : FVec Ideal S8192x1024 .bf16) (x2 : FVec Ideal S8192x1024 .bf16) (x6 : FVec Ideal S1x1024 .f32)
    (e1 : x1 = m ((c.tc : Thread nD τ).loc main_arg1)) (e2 : x2 = m ((c.tc : Thread nD τ).loc main_arg2)) (e6 : x6 = m ((c.tc : Thread nD τ).loc main_arg6)) :
    Cert.Reference5Ideal.Read.val_main_v48 (F := Ideal) x1 x2 x6 = (dats m 0 c).arrAt 10 cfg0.N := by
  subst e1 e2 e6
  exact (out_10 m c).symm

/-- Over arguments that agree, the reference's result is window 11's array. -/
theorem of_agree_11 (x1 : FVec Ideal S8192x1024 .bf16) (x2 : FVec Ideal S8192x1024 .bf16) (x3 : FVec Ideal S8192x1024 .bf16) (x4 : FVec Ideal S8192x1024 .bf16) (x5 : FVec Ideal S8192x1024 .bf16) (x6 : FVec Ideal S1x1024 .f32) (x7 : FVec Ideal S1024x1024 .bf16) (x8 : FVec Ideal S1024x1024 .bf16)
    (e1 : x1 = m ((c.tc : Thread nD τ).loc main_arg1)) (e2 : x2 = m ((c.tc : Thread nD τ).loc main_arg2)) (e3 : x3 = m ((c.tc : Thread nD τ).loc main_arg3)) (e4 : x4 = m ((c.tc : Thread nD τ).loc main_arg4)) (e5 : x5 = m ((c.tc : Thread nD τ).loc main_arg5)) (e6 : x6 = m ((c.tc : Thread nD τ).loc main_arg6)) (e7 : x7 = m ((c.tc : Thread nD τ).loc main_arg7)) (e8 : x8 = m ((c.tc : Thread nD τ).loc main_arg8)) :
    Cert.Reference5Ideal.Read.val_main_v49 (F := Ideal) x1 x2 x3 x4 x5 x6 x7 x8 = (dats m 0 c).arrAt 11 cfg0.N := by
  subst e1 e2 e3 e4 e5 e6 e7 e8
  exact (out_11 m c).symm

/-- Over arguments that agree, the reference's result is window 12's array. -/
theorem of_agree_12 (x0 : FVec Ideal S8192x1024 .f32) (x1 : FVec Ideal S8192x1024 .bf16) (x2 : FVec Ideal S8192x1024 .bf16) (x3 : FVec Ideal S8192x1024 .bf16) (x4 : FVec Ideal S8192x1024 .bf16) (x5 : FVec Ideal S8192x1024 .bf16) (x6 : FVec Ideal S1x1024 .f32) (x7 : FVec Ideal S1024x1024 .bf16) (x8 : FVec Ideal S1024x1024 .bf16) (x9 : FVec Ideal S1024x1024 .bf16)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) (e4 : x4 = m ((c.tc : Thread nD τ).loc main_arg4)) (e5 : x5 = m ((c.tc : Thread nD τ).loc main_arg5)) (e6 : x6 = m ((c.tc : Thread nD τ).loc main_arg6)) (e7 : x7 = m ((c.tc : Thread nD τ).loc main_arg7)) (e8 : x8 = m ((c.tc : Thread nD τ).loc main_arg8)) (e9 : x9 = m ((c.tc : Thread nD τ).loc main_arg9)) :
    Cert.Reference5Ideal.Read.val_main_v52 (F := Ideal) x0 x1 x2 x3 x4 x5 x6 x7 x8 x9 = (dats m 0 c).arrAt 12 cfg0.N := by
  subst e0 e1 e2 e3 e4 e5 e6 e7 e8 e9
  exact (out_12 m c).symm

end Cert.MergeFwd
-- ==== Proof.ProjFwdSpec.lean ====
/- ProjFwdSpec: what the input projection computes of a row: the scaled, normalised row, its projection and the rotary turns. -/
module

public import proofs.«01_k».proof.Proof.RmsNorm

@[expose] public section

noncomputable section

namespace Cert.Proj

open Idealize.ShloMosaic Cert.Scalars
open scoped BigOperators

/-- The operands of one row: the row, the gain, the weights and the bias, and the row's cosines and signed sines for turns of
    pairs 64 lanes apart (`cr`, `sr`) and of pairs 32 lanes apart (`ca`, `sa`). -/
structure FRow where
  x : Fin 1024 → EReal
  g : Fin 1024 → EReal
  w : Fin 6400 → Fin 1024 → EReal
  b : Fin 6400 → EReal
  cr : Fin 128 → EReal
  sr : Fin 128 → EReal
  ca : Fin 128 → EReal
  sa : Fin 128 → EReal

/-- The lane 64 away in a head of 128. -/
def far (c : ℕ) : ℕ := if c % 128 < 64 then c + 64 else c - 64

/-- The lane 32 away in a head of 64. -/
def near (c : ℕ) : ℕ := if c % 64 < 32 then c + 32 else c - 32

/-- The far lane stays in the heads. -/
theorem far_lt {c n : ℕ} (hn : n % 128 = 0) (h : c < n) : far c < n := by unfold far; split_ifs <;> omega

/-- The near lane stays in the heads. -/
theorem near_lt {c n : ℕ} (hn : n % 64 = 0) (h : c < n) : near c < n := by unfold near; split_ifs <;> omega

/-- A head's far lane, seen from the head. -/
theorem far_add (a l : ℕ) : far (128 * a + l) = 128 * a + far l := by unfold far; split_ifs <;> omega

/-- A head's near lane, seen from two heads. -/
theorem near_add (a l : ℕ) : near (128 * a + l) = 128 * a + near l := by unfold near; split_ifs <;> omega

/-- A lane of a row of heads. -/
def lane (c : ℕ) : Fin 128 := ⟨c % 128, Nat.mod_lt _ (by decide)⟩

variable (q : FRow)

/-- The scaled, normalised row. -/
def FRow.h (k : Fin 1024) : EReal := rn q.x k * q.g k

/-- The projection. -/
def FRow.pj (n : Fin 6400) : EReal := (∑ k, q.h k * q.w n k) + q.b n

/-- The columns of the projection from `o` on. -/
def FRow.col (o n : ℕ) (ho : o + n ≤ 6400) (c : Fin n) : EReal := q.pj ⟨o + c.1, by omega⟩

/-- The columns from `o` on, turned in pairs 64 lanes apart. -/
def FRow.ret (o : ℕ) (ho : o + 512 ≤ 6400) (c : Fin 512) : EReal :=
  q.col o 512 ho c * q.cr (lane c.1) + q.col o 512 ho ⟨far c.1, far_lt (by decide) c.2⟩ * q.sr (lane c.1)

/-- The turned columns, scaled. -/
def FRow.retS (o : ℕ) (ho : o + 512 ≤ 6400) (c : Fin 512) : EReal := q.ret o ho c * Ideal.ofBits .f32 0x3DB504F3#32

/-- The columns from `o` on, turned in pairs 32 lanes apart. -/
def FRow.att (o n : ℕ) (ho : o + n ≤ 6400) (hn : n % 64 = 0) (c : Fin n) : EReal :=
  q.col o n ho c * q.ca (lane c.1) + q.col o n ho ⟨near c.1, near_lt hn c.2⟩ * q.sa (lane c.1)

/-! ### Turns written half by half -/

section
variable (cc ss : Fin 64 → EReal) (hc : ∀ l, q.cr l = cc ⟨l.1 % 64, Nat.mod_lt _ (by decide)⟩)
    (hs : ∀ l, q.sr l = if l.1 < 64 then -ss ⟨l.1 % 64, Nat.mod_lt _ (by decide)⟩ else ss ⟨l.1 % 64, Nat.mod_lt _ (by decide)⟩)
    (o : ℕ) (ho : o + 512 ≤ 6400) (c : Fin 512) (a b : Fin 6400) (l : Fin 64)
include hc hs

/-- The first half of a head: the pair's difference. -/
theorem FRow.ret_first (h : c.1 % 128 < 64) (ha : a.1 = o + c.1) (hb : b.1 = o + c.1 + 64) (hl : l.1 = c.1 % 128) :
    q.pj a * cc l - q.pj b * ss l = q.ret o ho c := by
  have e1 : q.pj a = q.pj ⟨o + c.1, by omega⟩ := congrArg q.pj (Fin.ext ha)
  have e2 : q.pj b = q.pj ⟨o + far c.1, by have := far_lt (n := 512) (by decide) c.2; omega⟩ := congrArg q.pj (Fin.ext (by show b.1 = o + far c.1; unfold far; rw [if_pos h]; omega))
  have e3 : (⟨(lane c.1).1 % 64, Nat.mod_lt _ (by decide)⟩ : Fin 64) = l := Fin.ext (by show c.1 % 128 % 64 = l.1; omega)
  unfold FRow.ret FRow.col
  rw [hc, hs, if_pos (show (lane c.1).1 < 64 from h), e3, e1, e2, mul_neg, sub_eq_add_neg]

/-- The second half of a head: the pair's sum. -/
theorem FRow.ret_last (h : ¬c.1 % 128 < 64) (ha : a.1 = o + c.1) (hb : b.1 + 64 = o + c.1) (hl : l.1 + 64 = c.1 % 128) :
    q.pj a * cc l + q.pj b * ss l = q.ret o ho c := by
  have e1 : q.pj a = q.pj ⟨o + c.1, by omega⟩ := congrArg q.pj (Fin.ext ha)
  have e2 : q.pj b = q.pj ⟨o + far c.1, by have := far_lt (n := 512) (by decide) c.2; omega⟩ := congrArg q.pj (Fin.ext (by show b.1 = o + far c.1; unfold far; rw [if_neg h]; omega))
  have e3 : (⟨(lane c.1).1 % 64, Nat.mod_lt _ (by decide)⟩ : Fin 64) = l := Fin.ext (by show c.1 % 128 % 64 = l.1; omega)
  unfold FRow.ret FRow.col
  rw [hc, hs, if_neg (show ¬(lane c.1).1 < 64 from h), e3, e1, e2]

end

section
variable (cc ss : Fin 32 → EReal) (hc : ∀ l, q.ca l = cc ⟨l.1 % 32, Nat.mod_lt _ (by decide)⟩)
    (hs : ∀ l, q.sa l = if l.1 % 64 < 32 then -ss ⟨l.1 % 32, Nat.mod_lt _ (by decide)⟩ else ss ⟨l.1 % 32, Nat.mod_lt _ (by decide)⟩)
    (o n : ℕ) (ho : o + n ≤ 6400) (hn : n % 64 = 0) (c : Fin n) (a b : Fin 6400) (l : Fin 32)
include hc hs

/-- The first half of a head: the pair's difference. -/
theorem FRow.att_first (h : c.1 % 64 < 32) (ha : a.1 = o + c.1) (hb : b.1 = o + c.1 + 32) (hl : l.1 = c.1 % 64) :
    q.pj a * cc l - q.pj b * ss l = q.att o n ho hn c := by
  have e1 : q.pj a = q.pj ⟨o + c.1, by omega⟩ := congrArg q.pj (Fin.ext ha)
  have e2 : q.pj b = q.pj ⟨o + near c.1, by have := near_lt hn c.2; omega⟩ := congrArg q.pj (Fin.ext (by show b.1 = o + near c.1; unfold near; rw [if_pos h]; omega))
  have e3 : (⟨(lane c.1).1 % 32, Nat.mod_lt _ (by decide)⟩ : Fin 32) = l := Fin.ext (by show c.1 % 128 % 32 = l.1; omega)
  unfold FRow.att FRow.col
  rw [hc, hs, if_pos (show (lane c.1).1 % 64 < 32 by show c.1 % 128 % 64 < 32; omega), e3, e1, e2, mul_neg, sub_eq_add_neg]

/-- The second half of a head: the pair's sum. -/
theorem FRow.att_last (h : ¬c.1 % 64 < 32) (ha : a.1 = o + c.1) (hb : b.1 + 32 = o + c.1) (hl : l.1 + 32 = c.1 % 64) :
    q.pj a * cc l + q.pj b * ss l = q.att o n ho hn c := by
  have e1 : q.pj a = q.pj ⟨o + c.1, by omega⟩ := congrArg q.pj (Fin.ext ha)
  have e2 : q.pj b = q.pj ⟨o + near c.1, by have := near_lt hn c.2; omega⟩ := congrArg q.pj (Fin.ext (by show b.1 = o + near c.1; unfold near; rw [if_neg h]; omega))
  have e3 : (⟨(lane c.1).1 % 32, Nat.mod_lt _ (by decide)⟩ : Fin 32) = l := Fin.ext (by show c.1 % 128 % 32 = l.1; omega)
  unfold FRow.att FRow.col
  rw [hc, hs, if_neg (show ¬(lane c.1).1 % 64 < 32 by show ¬c.1 % 128 % 64 < 32; omega), e3, e1, e2]

end

end Cert.Proj
-- ==== Proof.ProjFwdTiles.lean ====
/- ProjFwdTiles: what the projection's forward body computes of a block, row by row. -/
module

public import proofs.«01_k».proof.Proof.ProjFwdSpec
public import proofs.«01_k».proof.Proof.Gen.Kernel6Ideal.Skeleton
public import Idealize.ShloMosaic.Lib.KernelVsHost

@[expose] public section

set_option maxRecDepth 16384

noncomputable section

namespace Cert.ProjFwd.Ker

open Cert.Kernel6Ideal Cert.Kernel6Ideal.Gen Cert.Scalars Cert.Proj
open Idealize.ShloMosaic Idealize.ShloMosaic.TcCoe Idealize.SL.Sem
open scoped BigOperators

/-- The operands of row `r` of a block. -/
def blkRow (b0 : FVec Ideal S512x1024 .f32) (b1 : FVec Ideal S1x1024 .f32) (b2 : FVec Ideal S6400x1024 .bf16) (b3 : FVec Ideal S1x6400 .f32)
    (b4 b5 b6 b7 : FVec Ideal S512x128 .f32) (r : Fin 512) : FRow where
  x k := b0 (ix2 r k)
  g k := b1 (ix2 0 k)
  w n k := b2 (ix2 n k)
  b n := b3 (ix2 0 n)
  cr l := b4 (ix2 r l)
  sr l := b5 (ix2 r l)
  ca l := b6 (ix2 r l)
  sa l := b7 (ix2 r l)

/-- A block rotated along its lanes by `s`, at a lane: the operand's lane `s` places back, around the end. -/
theorem rot_at (p : FVec Ideal S512x128 .f32) (sb : BitVec 32) (i : Fin 512) (l m : Fin 128) (h : m.1 = (l.1 + 128 - sb.toNat % 128) % 128) :
    dynamicRotate 1 sb none p rotates_S512x128_d1 (ix2 i l) = p (ix2 i m) :=
  dynamicRotate_apply 1 sb p _ _ _ (by
    intro b
    match b with
    | ⟨0, _⟩ => simp [ix2]
    | ⟨1, _⟩ => simpa [ix2] using h)

/-! ### One head's tile -/

section
variable (p : FVec Ideal S512x128 .f32) (cs sn : FVec Ideal S512x128 .f32)

/-- A tile turned in pairs 64 lanes apart. -/
def retT : FVec Ideal S512x128 .f32 := addf (mulf p cs) (mulf (dynamicRotate 1 64#32 none p rotates_S512x128_d1) sn)

/-- A turned tile, scaled. -/
def retST : FVec Ideal S512x128 .bf16 :=
  truncf .bf16 (mulf (retT p cs sn) (broadcast S512x128 (Scalar.ofBits .f32 0x3DB504F3#32))) bitsLt_bf16_f32

/-- A tile turned in pairs 32 lanes apart. -/
def attT : FVec Ideal S512x128 .bf16 := k0_pay27 cs sn p

/-- A turned tile at a lane. -/
theorem retT_apply (i : Fin 512) (l : Fin 128) :
    retT p cs sn (ix2 i l) = p (ix2 i l) * cs (ix2 i l) + p (ix2 i ⟨far l.1, far_lt (by decide) l.2⟩) * sn (ix2 i l) := by
  refine congrArg (fun z => p (ix2 i l) * cs (ix2 i l) + z * sn (ix2 i l)) (rot_at p 64#32 i l _ ?_)
  show far l.1 = (l.1 + 128 - 64) % 128
  unfold far; split_ifs <;> omega

/-- A turned, scaled tile at a lane. -/
theorem retST_apply (i : Fin 512) (l : Fin 128) :
    retST p cs sn (ix2 i l) = (p (ix2 i l) * cs (ix2 i l) + p (ix2 i ⟨far l.1, far_lt (by decide) l.2⟩) * sn (ix2 i l)) * Ideal.ofBits .f32 0x3DB504F3#32 :=
  congrArg (· * Ideal.ofBits .f32 0x3DB504F3#32) (retT_apply p cs sn i l)

/-- Which lanes are the first half of their head. -/
def msk : IVec S512x128 1 :=
  have v143 : IVec S512x128 32 := iota .tc S512x128 32 [1] iota_S512x128_d1_w32
  let v144 : BitVec 1 := Scalar.cmpi .eq 64#32 0#32
  let v145 : BitVec 32 := Scalar.select v144 1#32 64#32
  have v146 : IVec S512x128 32 := broadcast S512x128 v145
  have v147 : IVec S512x128 32 := remsi v143 v146
  have v148 : IVec S512x128 32 := broadcast S512x128 0#32
  have v149 : IVec S512x128 1 := cmpi .ne v147 v148
  have v151 : IVec S512x128 1 := cmpi .slt v147 v148
  let v152 : BitVec 1 := Scalar.cmpi .slt v145 0#32
  have v153 : IVec S512x128 1 := broadcast S512x128 v152
  have v154 : IVec S512x128 1 := broadcastTo S512x128 v153 broadcasts_S512x128_S512x128
  have v155 : IVec S512x128 1 := xori v151 v154
  have v156 : IVec S512x128 1 := andi v155 v149
  have v158 : IVec S512x128 32 := addi v147 v146
  have v159 : IVec S512x128 32 := select v156 v158 v147
  cmpi .slt v159 (broadcast S512x128 32#32)

/-- The mask at a lane of the first row. -/
theorem msk_row : ∀ l : Fin 128, msk (ix2 (n0 := 512) (n1 := 128) 0 l) = if l.1 % 64 < 32 then 1#1 else 0#1 := by decide +kernel

/-- The mask at a lane. -/
theorem msk_apply (i : Fin 512) (l : Fin 128) : msk (ix2 i l) = if l.1 % 64 < 32 then 1#1 else 0#1 := (show msk (ix2 i l) = msk (ix2 0 l) from rfl).trans (msk_row l)

/-- A tile turned in pairs 32 lanes apart, at a lane. -/
theorem attT_apply (i : Fin 512) (l : Fin 128) :
    attT p cs sn (ix2 i l) = p (ix2 i l) * cs (ix2 i l) + p (ix2 i ⟨near l.1, near_lt (by decide) l.2⟩) * sn (ix2 i l) := by
  have e : attT p cs sn (ix2 i l) = p (ix2 i l) * cs (ix2 i l) + (if msk (ix2 i l) = 1#1 then dynamicRotate 1 96#32 none p rotates_S512x128_d1 (ix2 i l)
      else dynamicRotate 1 32#32 none p rotates_S512x128_d1 (ix2 i l)) * sn (ix2 i l) := rfl
  rw [e, msk_apply]
  refine congrArg (fun z => p (ix2 i l) * cs (ix2 i l) + z * sn (ix2 i l)) ?_
  by_cases h : l.1 % 64 < 32
  · rw [if_pos h, if_pos rfl]
    refine rot_at p 96#32 i l _ ?_
    show near l.1 = (l.1 + 128 - 96) % 128
    unfold near; rw [if_pos h]; omega
  · rw [if_neg h, if_neg (by decide)]
    refine rot_at p 32#32 i l _ ?_
    show near l.1 = (l.1 + 128 - 32) % 128
    unfold near; rw [if_neg h]; omega

end

/-- The columns of a wider block that begin at `o`, at a lane. -/
theorem cut_at {n : ℕ} (o : ℕ) (p : FVec Ideal ⟨2, ![512, n]⟩ .f32) (h : (⟨2, ![512, n]⟩ : Shape).Slices ![0, o] S512x128) (i : Fin 512) (l : Fin 128) (m : Fin n)
    (e : m.1 = o + l.1) : extractStridedSlice S512x128 ![0, o] p h (ix2 i l) = p (ix2 i m) := by
  refine congrArg p (funext fun a => Fin.ext ?_)
  match a with
  | ⟨0, _⟩ => simp [ix2]
  | ⟨1, _⟩ => simp [ix2, e]

/-! ### The pieces of the projection -/

/-- Rows of the weights from `o` on, at an entry. -/
theorem wld_at {o n : ℕ} (b2 : FVec Ideal S6400x1024 .bf16) (h : ∀ a, (![o, 0] : Fin 2 → ℕ) a + (![n, 1024] : Fin 2 → ℕ) a ≤ S6400x1024.size a) (ho : o + n ≤ 6400)
    (c : Fin n) (k : Fin 1024) : (View.ld (Val := Elt Ideal) (S := S6400x1024) (e' := .bf16) b2 (Rect.unit ![o, 0] ![n, 1024] h) : FVec Ideal ⟨2, ![n, 1024]⟩ .bf16) (ix2 c k)
      = b2 (ix2 ⟨o + c.1, by omega⟩ k) := by
  refine congrArg b2 (funext fun a => Fin.ext ?_)
  match a with
  | ⟨0, _⟩ => simp [Rect.unit, LoadRect.idx, ix2]
  | ⟨1, _⟩ => simp [Rect.unit, LoadRect.idx, ix2]

/-- Entries of the bias from `o` on, at an entry. -/
theorem bld_at {o n : ℕ} (b3 : FVec Ideal S1x6400 .f32) (h : ∀ a, (![0, o] : Fin 2 → ℕ) a + (![1, n] : Fin 2 → ℕ) a ≤ S1x6400.size a) (ho : o + n ≤ 6400)
    (c : Fin n) : (View.ld (Val := Elt Ideal) (S := S1x6400) (e' := .f32) b3 (Rect.unit ![0, o] ![1, n] h) : FVec Ideal ⟨2, ![1, n]⟩ .f32) (ix2 0 c)
      = b3 (ix2 0 ⟨o + c.1, by omega⟩) := by
  refine congrArg b3 (funext fun a => Fin.ext ?_)
  match a with
  | ⟨0, _⟩ => simp [Rect.unit, LoadRect.idx, ix2]
  | ⟨1, _⟩ => simp [Rect.unit, LoadRect.idx, ix2]

variable (b0 : FVec Ideal S512x1024 .f32) (b1 : FVec Ideal S1x1024 .f32) (b2 : FVec Ideal S6400x1024 .bf16) (b3 : FVec Ideal S1x6400 .f32)
    (b4 b5 b6 b7 : FVec Ideal S512x128 .f32)

/-- The scaled, normalised row. -/
theorem h_at (i : Fin 512) (k : Fin 1024) : k0_pay2 (F := Ideal) b0 b1 (ix2 i k) = (blkRow b0 b1 b2 b3 b4 b5 b6 b7 i).h k := by
  pointwise [k0_pay2, FRow.h, blkRow, rn, rrt, rve, rmean]

/-- A piece of the projection, 512 columns wide. -/
theorem p512 {o : ℕ} (hw : ∀ a, (![o, 0] : Fin 2 → ℕ) a + (![512, 1024] : Fin 2 → ℕ) a ≤ S6400x1024.size a)
    (hb : ∀ a, (![0, o] : Fin 2 → ℕ) a + (![1, 512] : Fin 2 → ℕ) a ≤ S1x6400.size a) (ho : o + 512 ≤ 6400) (i : Fin 512) (c : Fin 512) :
    k0_pay5 (F := Ideal) b0 b1 (View.ld (Val := Elt Ideal) (S := S6400x1024) (e' := .bf16) b2 (Rect.unit ![o, 0] ![512, 1024] hw))
      (View.ld (Val := Elt Ideal) (S := S1x6400) (e' := .f32) b3 (Rect.unit ![0, o] ![1, 512] hb)) (ix2 i c)
      = (blkRow b0 b1 b2 b3 b4 b5 b6 b7 i).col o 512 ho c := by
  refine Eq.trans (b := (∑ k, k0_pay2 (F := Ideal) b0 b1 (ix2 i k) * (View.ld (Val := Elt Ideal) (S := S6400x1024) (e' := .bf16) b2 (Rect.unit ![o, 0] ![512, 1024] hw) : FVec Ideal S512x1024 .bf16) (ix2 c k))
    + (View.ld (Val := Elt Ideal) (S := S1x6400) (e' := .f32) b3 (Rect.unit ![0, o] ![1, 512] hb) : FVec Ideal S1x512 .f32) (ix2 0 c)) ?_ ?_
  · pointwise [k0_pay5]
  · rw [bld_at b3 hb ho c]
    exact congrArg (· + _) (Finset.sum_congr rfl fun k _ => by rw [wld_at b2 hw ho c k, h_at b0 b1 b2 b3 b4 b5 b6 b7]; rfl)

/-- A piece of the projection, 1024 columns wide. -/
theorem p1024 {o : ℕ} (hw : ∀ a, (![o, 0] : Fin 2 → ℕ) a + (![1024, 1024] : Fin 2 → ℕ) a ≤ S6400x1024.size a)
    (hb : ∀ a, (![0, o] : Fin 2 → ℕ) a + (![1, 1024] : Fin 2 → ℕ) a ≤ S1x6400.size a) (ho : o + 1024 ≤ 6400) (i : Fin 512) (c : Fin 1024) :
    k0_pay24 (F := Ideal) (k0_pay2 b0 b1) (View.ld (Val := Elt Ideal) (S := S6400x1024) (e' := .bf16) b2 (Rect.unit ![o, 0] ![1024, 1024] hw))
      (View.ld (Val := Elt Ideal) (S := S1x6400) (e' := .f32) b3 (Rect.unit ![0, o] ![1, 1024] hb)) (ix2 i c)
      = (blkRow b0 b1 b2 b3 b4 b5 b6 b7 i).col o 1024 ho c := by
  refine Eq.trans (b := (∑ k, k0_pay2 (F := Ideal) b0 b1 (ix2 i k) * (View.ld (Val := Elt Ideal) (S := S6400x1024) (e' := .bf16) b2 (Rect.unit ![o, 0] ![1024, 1024] hw) : FVec Ideal S1024x1024 .bf16) (ix2 c k))
    + (View.ld (Val := Elt Ideal) (S := S1x6400) (e' := .f32) b3 (Rect.unit ![0, o] ![1, 1024] hb) : FVec Ideal S1x1024 .f32) (ix2 0 c)) ?_ ?_
  · pointwise [k0_pay24]
  · rw [bld_at b3 hb ho c]
    exact congrArg (· + _) (Finset.sum_congr rfl fun k _ => by rw [wld_at b2 hw ho c k, h_at b0 b1 b2 b3 b4 b5 b6 b7]; rfl)

/-- A piece of the projection, 256 columns wide. -/
theorem p256 {o : ℕ} (hw : ∀ a, (![o, 0] : Fin 2 → ℕ) a + (![256, 1024] : Fin 2 → ℕ) a ≤ S6400x1024.size a)
    (hb : ∀ a, (![0, o] : Fin 2 → ℕ) a + (![1, 256] : Fin 2 → ℕ) a ≤ S1x6400.size a) (ho : o + 256 ≤ 6400) (i : Fin 512) (c : Fin 256) :
    k0_pay46 (F := Ideal) (k0_pay2 b0 b1) (View.ld (Val := Elt Ideal) (S := S6400x1024) (e' := .bf16) b2 (Rect.unit ![o, 0] ![256, 1024] hw))
      (View.ld (Val := Elt Ideal) (S := S1x6400) (e' := .f32) b3 (Rect.unit ![0, o] ![1, 256] hb)) (ix2 i c)
      = (blkRow b0 b1 b2 b3 b4 b5 b6 b7 i).col o 256 ho c := by
  refine Eq.trans (b := (∑ k, k0_pay2 (F := Ideal) b0 b1 (ix2 i k) * (View.ld (Val := Elt Ideal) (S := S6400x1024) (e' := .bf16) b2 (Rect.unit ![o, 0] ![256, 1024] hw) : FVec Ideal S256x1024 .bf16) (ix2 c k))
    + (View.ld (Val := Elt Ideal) (S := S1x6400) (e' := .f32) b3 (Rect.unit ![0, o] ![1, 256] hb) : FVec Ideal S1x256 .f32) (ix2 0 c)) ?_ ?_
  · pointwise [k0_pay46]
  · rw [bld_at b3 hb ho c]
    exact congrArg (· + _) (Finset.sum_congr rfl fun k _ => by rw [wld_at b2 hw ho c k, h_at b0 b1 b2 b3 b4 b5 b6 b7]; rfl)

/-! ### Each head's stored tile -/

/-- A reshaping to the same shape changes nothing. -/
theorem cast3 (v : FVec Ideal S512x128 .f32) : k0_pay3 (F := Ideal) v = v := by
  funext y; idx_vars y; pointwise [k0_pay3]

/-- A reshaping to the same shape changes nothing. -/
theorem cast4 (v : FVec Ideal S512x128 .f32) : k0_pay4 (F := Ideal) v = v := cast3 v

/-- A reshaping to the same shape changes nothing. -/
theorem cast22 (v : FVec Ideal S512x128 .f32) : k0_pay22 (F := Ideal) v = v := cast3 v

/-- A reshaping to the same shape changes nothing. -/
theorem cast23 (v : FVec Ideal S512x128 .f32) : k0_pay23 (F := Ideal) v = v := cast3 v

section
variable (q : FRow) (i : Fin 512) (cs sn p : FVec Ideal S512x128 .f32)

/-- A head of the columns from `o` on, turned in pairs 64 lanes apart. -/
theorem ret_of {o : ℕ} (ho : o + 512 ≤ 6400) (a : ℕ) (ha : 128 * a + 128 ≤ 512) (hp : ∀ l : Fin 128, p (ix2 i l) = q.col o 512 ho ⟨128 * a + l.1, by omega⟩)
    (hc : ∀ l, cs (ix2 i l) = q.cr l) (hs : ∀ l, sn (ix2 i l) = q.sr l) (l : Fin 128) : retT p cs sn (ix2 i l) = q.ret o ho ⟨128 * a + l.1, by omega⟩ := by
  have e : lane (128 * a + l.1) = l := Fin.ext (by show (128 * a + l.1) % 128 = l.1; omega)
  have f : (⟨128 * a + far l.1, by have := far_lt (n := 128) (by decide) l.2; omega⟩ : Fin 512) = ⟨far (128 * a + l.1), far_lt (by decide) (by omega)⟩ :=
    Fin.ext (far_add a l.1).symm
  rw [retT_apply, hp, hp, hc, hs, f]
  show _ = q.col o 512 ho ⟨128 * a + l.1, _⟩ * q.cr (lane (128 * a + l.1)) + q.col o 512 ho ⟨far (128 * a + l.1), _⟩ * q.sr (lane (128 * a + l.1))
  rw [e]

/-- A head of the columns from `o` on, turned in pairs 64 lanes apart and scaled. -/
theorem retS_of {o : ℕ} (ho : o + 512 ≤ 6400) (a : ℕ) (ha : 128 * a + 128 ≤ 512) (hp : ∀ l : Fin 128, p (ix2 i l) = q.col o 512 ho ⟨128 * a + l.1, by omega⟩)
    (hc : ∀ l, cs (ix2 i l) = q.cr l) (hs : ∀ l, sn (ix2 i l) = q.sr l) (l : Fin 128) : retST p cs sn (ix2 i l) = q.retS o ho ⟨128 * a + l.1, by omega⟩ :=
  congrArg (· * Ideal.ofBits .f32 0x3DB504F3#32) (ret_of q i cs sn p ho a ha hp hc hs l)

/-- Two heads of the columns from `o` on, turned in pairs 32 lanes apart. -/
theorem att_of {o n : ℕ} (ho : o + n ≤ 6400) (hn : n % 64 = 0) (a : ℕ) (ha : 128 * a + 128 ≤ n)
    (hp : ∀ l : Fin 128, p (ix2 i l) = q.col o n ho ⟨128 * a + l.1, by omega⟩)
    (hc : ∀ l, cs (ix2 i l) = q.ca l) (hs : ∀ l, sn (ix2 i l) = q.sa l) (l : Fin 128) : attT p cs sn (ix2 i l) = q.att o n ho hn ⟨128 * a + l.1, by omega⟩ := by
  have e : lane (128 * a + l.1) = l := Fin.ext (by show (128 * a + l.1) % 128 = l.1; omega)
  have f : (⟨128 * a + near l.1, by have := near_lt (n := 128) (by decide) l.2; omega⟩ : Fin n) = ⟨near (128 * a + l.1), near_lt hn (by omega)⟩ :=
    Fin.ext (near_add a l.1).symm
  rw [attT_apply, hp, hp, hc, hs, f]
  show _ = q.col o n ho ⟨128 * a + l.1, _⟩ * q.ca (lane (128 * a + l.1)) + q.col o n ho ⟨near (128 * a + l.1), _⟩ * q.sa (lane (128 * a + l.1))
  rw [e]

end

section
variable (cs sn : FVec Ideal S512x128 .f32) (pq : FVec Ideal S512x512 .f32) (pa : FVec Ideal S512x1024 .f32)
    (v20 : FVec Ideal S512x1024 .bf16) (v22 : FVec Ideal S1x512 .f32) (hh : FVec Ideal S512x1024 .bf16) (w : FVec Ideal S1024x1024 .bf16) (b : FVec Ideal S1x1024 .f32)

/-- The first query head's stored tile. -/
theorem rq0 : k0_pay10 (F := Ideal) (k0_pay8 b0 b1 cs v20 v22) (k0_pay9 b0 b1 sn v20 v22)
    = retST (extractStridedSlice S512x128 ![0, 0] (k0_pay5 b0 b1 v20 v22) slices_S512x512_o0_0_S512x128) cs sn := by
  rw [show k0_pay10 (F := Ideal) (k0_pay8 b0 b1 cs v20 v22) (k0_pay9 b0 b1 sn v20 v22) = retST (extractStridedSlice S512x128 ![0, 0] (k0_pay5 b0 b1 v20 v22) slices_S512x512_o0_0_S512x128) (k0_pay3 cs) (k0_pay4 sn) from rfl, cast3, cast4]

/-- The second query head's stored tile. -/
theorem rq1 : k0_pay12 (F := Ideal) cs sn pq = retST (extractStridedSlice S512x128 ![0, 128] pq slices_S512x512_o0_128_S512x128) cs sn := rfl

/-- The third query head's stored tile. -/
theorem rq2 : k0_pay14 (F := Ideal) cs sn pq = retST (extractStridedSlice S512x128 ![0, 256] pq slices_S512x512_o0_256_S512x128) cs sn := rfl

/-- The fourth query head's stored tile. -/
theorem rq3 : k0_pay18 (F := Ideal) cs sn pq = retST (extractStridedSlice S512x128 ![0, 384] pq slices_S512x512_o0_384_S512x128) cs sn := rfl

/-- The first key head's stored tile. -/
theorem rk0 : k0_pay11 (F := Ideal) cs sn pq = retT (extractStridedSlice S512x128 ![0, 0] pq slices_S512x512_o0_0_S512x128) cs sn := rfl

/-- The second key head's stored tile. -/
theorem rk1 : k0_pay13 (F := Ideal) cs sn pq = retT (extractStridedSlice S512x128 ![0, 128] pq slices_S512x512_o0_128_S512x128) cs sn := rfl

/-- The third key head's stored tile. -/
theorem rk2 : k0_pay17 (F := Ideal) sn (k0_pay15 pq) (k0_pay16 cs pq) 64#32 = retT (extractStridedSlice S512x128 ![0, 256] pq slices_S512x512_o0_256_S512x128) cs sn := rfl

/-- The fourth key head's stored tile. -/
theorem rk3 : k0_pay19 (F := Ideal) cs sn pq = retT (extractStridedSlice S512x128 ![0, 384] pq slices_S512x512_o0_384_S512x128) cs sn := rfl

/-- The first two attention query heads' stored tile. -/
theorem aq0 : k0_pay25 (F := Ideal) hh cs sn w b = attT (extractStridedSlice S512x128 ![0, 0] (k0_pay24 hh w b) slices_S512x1024_o0_0_S512x128) cs sn := by
  rw [show k0_pay25 (F := Ideal) hh cs sn w b = attT (extractStridedSlice S512x128 ![0, 0] (k0_pay24 hh w b) slices_S512x1024_o0_0_S512x128) (k0_pay22 cs) (k0_pay23 sn) from rfl, cast22, cast23]

/-- The next two attention query heads' stored tile. -/
theorem aq1 : k0_pay27 (F := Ideal) cs sn (k0_pay26 hh w b) = attT (extractStridedSlice S512x128 ![0, 128] (k0_pay24 hh w b) slices_S512x1024_o0_128_S512x128) cs sn := rfl

/-- The next two attention query heads' stored tile. -/
theorem aq2 : k0_pay33 (F := Ideal) sn (k0_pay28 pa) (k0_pay29 cs pa) 64#32 k0_pay30 k0_pay31 k0_pay32
    = attT (extractStridedSlice S512x128 ![0, 256] pa slices_S512x1024_o0_256_S512x128) cs sn := rfl

/-- The next two attention query heads' stored tile. -/
theorem aq3 : k0_pay34 (F := Ideal) cs sn pa = attT (extractStridedSlice S512x128 ![0, 384] pa slices_S512x1024_o0_384_S512x128) cs sn := rfl

/-- The next two attention query heads' stored tile. -/
theorem aq4 : k0_pay36 (F := Ideal) cs sn (k0_pay35 pa) = attT (extractStridedSlice S512x128 ![0, 512] pa slices_S512x1024_o0_512_S512x128) cs sn := rfl

/-- The next two attention query heads' stored tile. -/
theorem aq5 : k0_pay42 (F := Ideal) sn (k0_pay37 pa) (k0_pay38 cs pa) 64#32 k0_pay39 k0_pay40 k0_pay41
    = attT (extractStridedSlice S512x128 ![0, 640] pa slices_S512x1024_o0_640_S512x128) cs sn := rfl

/-- The next two attention query heads' stored tile. -/
theorem aq6 : k0_pay43 (F := Ideal) cs sn pa = attT (extractStridedSlice S512x128 ![0, 768] pa slices_S512x1024_o0_768_S512x128) cs sn := rfl

/-- The last two attention query heads' stored tile. -/
theorem aq7 : k0_pay45 (F := Ideal) cs sn (k0_pay44 pa) = attT (extractStridedSlice S512x128 ![0, 896] pa slices_S512x1024_o0_896_S512x128) cs sn := rfl

variable (wk : FVec Ideal S256x1024 .bf16) (bk : FVec Ideal S1x256 .f32)

/-- The attention key heads' stored tile. -/
theorem ak0 : k0_pay50 (F := Ideal) sn (k0_pay47 hh wk bk) (k0_pay48 hh cs wk bk) 64#32 k0_pay49 0#32
    = attT (extractStridedSlice S512x128 ![0, 0] (k0_pay46 hh wk bk) slices_S512x256_o0_0_S512x128) cs sn := rfl

end
end Cert.ProjFwd.Ker
-- ==== Proof.ProjFwdRows.lean ====
/- ProjFwdRows: the arrays that the projection's forward launch leaves, row by row. -/
module

public import proofs.«01_k».proof.Proof.ProjFwdTiles
public import proofs.«01_k».proof.Proof.Gen.Kernel6Ideal.Frame
public import Idealize.ShloMosaic.Lib.Pipeline.ValueKit
public import Idealize.ShloMosaic.Lib.Pipeline.ReadBack

@[expose] public section

set_option maxRecDepth 16384

noncomputable section

namespace Cert.ProjFwd.Ker

open Cert.Kernel6Ideal Cert.Kernel6Ideal.Gen Cert.Scalars Cert.Proj
open Idealize.ShloMosaic Idealize.ShloMosaic.TcCoe Idealize.SL.Sem
open Idealize.ShloMosaic.Pipeline (Dat)
open scoped BigOperators

/-- Which block each window shows at step `t`: the `t`-th row block, or always the first one. -/
theorem idx_val : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] :=
  (by decide +kernel : ∀ t : Fin grid0.N, _)

variable (m : (ℓ : Loc nD τ sig) → Buf (Elt Ideal) ℓ) (c : Dev nD)

/-- The operands of row `r` of the whole arrays. -/
def row (r : Fin 8192) : FRow where
  x k := (V m c main_arg0 : FVec Ideal S8192x1024 .f32) (ix2 r k)
  g k := (V m c main_arg1 : FVec Ideal S1x1024 .f32) (ix2 0 k)
  w n k := (V m c main_arg2 : FVec Ideal S6400x1024 .bf16) (ix2 n k)
  b n := (V m c main_arg3 : FVec Ideal S1x6400 .f32) (ix2 0 n)
  cr l := (V m c main_v33 : FVec Ideal S8192x128 .f32) (ix2 r l)
  sr l := (V m c main_v35 : FVec Ideal S8192x128 .f32) (ix2 r l)
  ca l := (V m c main_v36 : FVec Ideal S8192x128 .f32) (ix2 r l)
  sa l := (V m c main_v39 : FVec Ideal S8192x128 .f32) (ix2 r l)

/-- The operands of a row of the block at a grid point. -/
def brow (t : Fin cfg0.N) (i : Fin 512) : FRow := blkRow (iblk m c 0 t) (iblk m c 1 t) (iblk m c 2 t) (iblk m c 3 t) (iblk m c 4 t) (iblk m c 5 t) (iblk m c 6 t) (iblk m c 7 t) i

/-- The row of the whole arrays that a row of a block holds. -/
def arow (t : Fin cfg0.N) (i : Fin 512) : Fin 8192 := ⟨512 * t.val + i.val, by have := t.isLt; have : cfg0.N = 16 := N_0; omega⟩

/-- What operand 0 holds in the block that step `t` reads. -/
theorem blk0 (t : Fin cfg0.N) (i : Fin 512) (k : Fin 1024) :
    (iblk m c 0 t : FVec Ideal S512x1024 .f32) (ix2 i k) = (V m c main_arg0 : FVec Ideal S8192x1024 .f32) (ix2 (arow t i) k) := by
  blk_ext! [iblk, arow, idx_val t]

/-- What operand 1 holds in the block that step `t` reads. -/
theorem blk1 (t : Fin cfg0.N) (k : Fin 1024) : (iblk m c 1 t : FVec Ideal S1x1024 .f32) (ix2 0 k) = (V m c main_arg1 : FVec Ideal S1x1024 .f32) (ix2 0 k) := by
  blk_ext! [iblk, idx_val t]

/-- What operand 2 holds in the block that step `t` reads. -/
theorem blk2 (t : Fin cfg0.N) (n : Fin 6400) (k : Fin 1024) :
    (iblk m c 2 t : FVec Ideal S6400x1024 .bf16) (ix2 n k) = (V m c main_arg2 : FVec Ideal S6400x1024 .bf16) (ix2 n k) := by
  blk_ext! [iblk, idx_val t]

/-- What operand 3 holds in the block that step `t` reads. -/
theorem blk3 (t : Fin cfg0.N) (n : Fin 6400) : (iblk m c 3 t : FVec Ideal S1x6400 .f32) (ix2 0 n) = (V m c main_arg3 : FVec Ideal S1x6400 .f32) (ix2 0 n) := by
  blk_ext! [iblk, idx_val t]

/-- What operand 4 holds in the block that step `t` reads. -/
theorem blk4 (t : Fin cfg0.N) (i : Fin 512) (l : Fin 128) :
    (iblk m c 4 t : FVec Ideal S512x128 .f32) (ix2 i l) = (V m c main_v33 : FVec Ideal S8192x128 .f32) (ix2 (arow t i) l) := by
  blk_ext! [iblk, arow, idx_val t]

/-- What operand 5 holds in the block that step `t` reads. -/
theorem blk5 (t : Fin cfg0.N) (i : Fin 512) (l : Fin 128) :
    (iblk m c 5 t : FVec Ideal S512x128 .f32) (ix2 i l) = (V m c main_v35 : FVec Ideal S8192x128 .f32) (ix2 (arow t i) l) := by
  blk_ext! [iblk, arow, idx_val t]

/-- What operand 6 holds in the block that step `t` reads. -/
theorem blk6 (t : Fin cfg0.N) (i : Fin 512) (l : Fin 128) :
    (iblk m c 6 t : FVec Ideal S512x128 .f32) (ix2 i l) = (V m c main_v36 : FVec Ideal S8192x128 .f32) (ix2 (arow t i) l) := by
  blk_ext! [iblk, arow, idx_val t]

/-- What operand 7 holds in the block that step `t` reads. -/
theorem blk7 (t : Fin cfg0.N) (i : Fin 512) (l : Fin 128) :
    (iblk m c 7 t : FVec Ideal S512x128 .f32) (ix2 i l) = (V m c main_v39 : FVec Ideal S8192x128 .f32) (ix2 (arow t i) l) := by
  blk_ext! [iblk, arow, idx_val t]

/-- A block's row is the arrays' row it holds. -/
theorem brow_eq (t : Fin cfg0.N) (i : Fin 512) : brow m c t i = row m c (arow t i) := by
  unfold brow blkRow row
  simp only [blk0, blk1, blk2, blk3, blk4, blk5, blk6, blk7]

/-- What a row of a block has at a column is what the arrays' row has at the index the block's entry lands on. -/
theorem at_emb {n : ℕ} (f : FRow → Fin n → EReal) (t : Fin cfg0.N) (i : Fin 512) (k : Fin n) (r : Fin 8192) (k' : Fin n) (h0 : r.val = 512 * t.val + i.val)
    (h1 : k'.val = k.val) : f (brow m c t i) k = f (row m c r) k' := by
  have e0 : r = arow t i := Fin.ext h0
  have e1 : k' = k := Fin.ext h1
  rw [brow_eq, e0, e1]

section
variable (o a : ℕ) (ho : o = 128 * a) (t : Fin cfg0.N) (x : S512x128.Idx)
include ho

/-- A stored head of the turned, scaled retention query, within its block. -/
theorem rq_piece (ha : 128 * a + 128 ≤ 512) (hsl : S512x512.Slices ![0, o] S512x128) (hw hb) (k : Fin 512) (i : Fin 512) (h0 : i.val = (x 0).val) (h1 : k.val = o + (x 1).val) :
    retST (extractStridedSlice S512x128 ![0, o] (k0_pay5 (F := Ideal) (iblk m c 0 t) (iblk m c 1 t) (View.ld (Val := Elt Ideal) (S := S6400x1024) (e' := .bf16) (iblk m c 2 t) (Rect.unit ![0, 0] ![512, 1024] hw)) (View.ld (Val := Elt Ideal) (S := S1x6400) (e' := .f32) (iblk m c 3 t) (Rect.unit ![0, 0] ![1, 512] hb))) hsl) (iblk m c 4 t) (iblk m c 5 t) x
      = (brow m c t i).retS 0 (by decide) k := by
  subst ho
  obtain ⟨j, l, rfl⟩ : ∃ j l, x = ix2 (n0 := 512) (n1 := 128) j l := ⟨x 0, x 1, eq_ix2 x⟩
  obtain rfl : i = j := Fin.ext h0
  have e1 : k = ⟨128 * a + l.val, by omega⟩ := Fin.ext h1
  rw [e1]
  exact retS_of (brow m c t i) i _ _ _ (by decide) a ha (fun l => (cut_at (128 * a) _ hsl i l ⟨128 * a + l.val, by omega⟩ rfl).trans (p512 (iblk m c 0 t) (iblk m c 1 t) (iblk m c 2 t) (iblk m c 3 t) (iblk m c 4 t) (iblk m c 5 t) (iblk m c 6 t) (iblk m c 7 t) hw hb (by decide) i _))
    (fun _ => rfl) (fun _ => rfl) l

/-- A stored head of the turned retention key, within its block. -/
theorem rk_piece (ha : 128 * a + 128 ≤ 512) (hsl : S512x512.Slices ![0, o] S512x128) (hw hb) (k : Fin 512) (i : Fin 512) (h0 : i.val = (x 0).val) (h1 : k.val = o + (x 1).val) :
    retT (extractStridedSlice S512x128 ![0, o] (k0_pay5 (F := Ideal) (iblk m c 0 t) (iblk m c 1 t) (View.ld (Val := Elt Ideal) (S := S6400x1024) (e' := .bf16) (iblk m c 2 t) (Rect.unit ![512, 0] ![512, 1024] hw)) (View.ld (Val := Elt Ideal) (S := S1x6400) (e' := .f32) (iblk m c 3 t) (Rect.unit ![0, 512] ![1, 512] hb))) hsl) (iblk m c 4 t) (iblk m c 5 t) x
      = (brow m c t i).ret 512 (by decide) k := by
  subst ho
  obtain ⟨j, l, rfl⟩ : ∃ j l, x = ix2 (n0 := 512) (n1 := 128) j l := ⟨x 0, x 1, eq_ix2 x⟩
  obtain rfl : i = j := Fin.ext h0
  have e1 : k = ⟨128 * a + l.val, by omega⟩ := Fin.ext h1
  rw [e1]
  exact ret_of (brow m c t i) i _ _ _ (by decide) a ha (fun l => (cut_at (128 * a) _ hsl i l ⟨128 * a + l.val, by omega⟩ rfl).trans (p512 (iblk m c 0 t) (iblk m c 1 t) (iblk m c 2 t) (iblk m c 3 t) (iblk m c 4 t) (iblk m c 5 t) (iblk m c 6 t) (iblk m c 7 t) hw hb (by decide) i _))
    (fun _ => rfl) (fun _ => rfl) l

/-- Two stored heads of the turned attention query, within their block. -/
theorem aq_piece (ha : 128 * a + 128 ≤ 1024) (hsl : S512x1024.Slices ![0, o] S512x128) (hw hb) (k : Fin 1024) (i : Fin 512) (h0 : i.val = (x 0).val) (h1 : k.val = o + (x 1).val) :
    attT (extractStridedSlice S512x128 ![0, o] (k0_pay24 (F := Ideal) (k0_pay2 (iblk m c 0 t) (iblk m c 1 t)) (View.ld (Val := Elt Ideal) (S := S6400x1024) (e' := .bf16) (iblk m c 2 t) (Rect.unit ![3072, 0] ![1024, 1024] hw)) (View.ld (Val := Elt Ideal) (S := S1x6400) (e' := .f32) (iblk m c 3 t) (Rect.unit ![0, 3072] ![1, 1024] hb))) hsl) (iblk m c 6 t) (iblk m c 7 t) x
      = (brow m c t i).att 3072 1024 (by decide) (by decide) k := by
  subst ho
  obtain ⟨j, l, rfl⟩ : ∃ j l, x = ix2 (n0 := 512) (n1 := 128) j l := ⟨x 0, x 1, eq_ix2 x⟩
  obtain rfl : i = j := Fin.ext h0
  have e1 : k = ⟨128 * a + l.val, by omega⟩ := Fin.ext h1
  rw [e1]
  exact att_of (brow m c t i) i _ _ _ (by decide) (by decide) a ha (fun l => (cut_at (128 * a) _ hsl i l ⟨128 * a + l.val, by omega⟩ rfl).trans (p1024 (iblk m c 0 t) (iblk m c 1 t) (iblk m c 2 t) (iblk m c 3 t) (iblk m c 4 t) (iblk m c 5 t) (iblk m c 6 t) (iblk m c 7 t) hw hb (by decide) i _))
    (fun _ => rfl) (fun _ => rfl) l

/-- The stored tile of the turned attention key, within its block. -/
theorem ak_piece (ha : 128 * a + 128 ≤ 128) (hsl : S512x256.Slices ![0, o] S512x128) (hw hb) (k : Fin 128) (i : Fin 512) (h0 : i.val = (x 0).val) (h1 : k.val = o + (x 1).val) :
    attT (extractStridedSlice S512x128 ![0, o] (k0_pay46 (F := Ideal) (k0_pay2 (iblk m c 0 t) (iblk m c 1 t)) (View.ld (Val := Elt Ideal) (S := S6400x1024) (e' := .bf16) (iblk m c 2 t) (Rect.unit ![4096, 0] ![256, 1024] hw)) (View.ld (Val := Elt Ideal) (S := S1x6400) (e' := .f32) (iblk m c 3 t) (Rect.unit ![0, 4096] ![1, 256] hb))) hsl) (iblk m c 6 t) (iblk m c 7 t) x
      = (brow m c t i).att 4096 128 (by decide) (by decide) k := by
  subst ho
  obtain ⟨j, l, rfl⟩ : ∃ j l, x = ix2 (n0 := 512) (n1 := 128) j l := ⟨x 0, x 1, eq_ix2 x⟩
  obtain rfl : i = j := Fin.ext h0
  have e1 : k = ⟨128 * a + l.val, by omega⟩ := Fin.ext h1
  rw [e1]
  exact att_of (brow m c t i) i _ _ _ (by decide) (by decide) a ha (fun l => (cut_at (128 * a) _ hsl i l ⟨128 * a + l.val, by omega⟩ rfl).trans (p256 (iblk m c 0 t) (iblk m c 1 t) (iblk m c 2 t) (iblk m c 3 t) (iblk m c 4 t) (iblk m c 5 t) (iblk m c 6 t) (iblk m c 7 t) hw hb (by decide) i _))
    (fun _ => rfl) (fun _ => rfl) l

end

/-- The scaled, normalised rows of a block. -/
theorem h_block (t : Fin cfg0.N) (i : Fin 512) (k : Fin 1024) : ((outsAt0 m c t).1 : FVec Ideal S512x1024 .bf16) (ix2 i k) = (brow m c t i).h k := by
  unfold outsAt0; dsimp only
  frame_out
  exact h_at (iblk m c 0 t) (iblk m c 1 t) (iblk m c 2 t) (iblk m c 3 t) (iblk m c 4 t) (iblk m c 5 t) (iblk m c 6 t) (iblk m c 7 t) i k

/-- The turned, scaled retention query of a block's rows. -/
theorem rq_block (t : Fin cfg0.N) (y : S512x512.Idx) : ((outsAt0 m c t).2.1 : FVec Ideal S512x512 .bf16) y = (brow m c t (y 0)).retS 0 (by decide) (y 1) := by
  unfold outsAt0; dsimp only
  frame_out
  rw [rq0, rq1, rq2, rq3, cast3, cast4]
  canon_tiles x h
  · exact rq_piece m c 384 3 rfl t x (by decide) _ _ _ _ _ (by omega) (by omega)
  · exact rq_piece m c 256 2 rfl t x (by decide) _ _ _ _ _ (by omega) (by omega)
  · exact rq_piece m c 128 1 rfl t x (by decide) _ _ _ _ _ (by omega) (by omega)
  · exact rq_piece m c 0 0 rfl t x (by decide) _ _ _ _ _ (by omega) (by omega)

/-- The turned retention key of a block's rows. -/
theorem rk_block (t : Fin cfg0.N) (y : S512x512.Idx) : ((outsAt0 m c t).2.2.1 : FVec Ideal S512x512 .f32) y = (brow m c t (y 0)).ret 512 (by decide) (y 1) := by
  unfold outsAt0; dsimp only
  frame_out
  rw [rk0, rk1, rk2, rk3, cast3, cast4]
  canon_tiles x h
  · exact rk_piece m c 384 3 rfl t x (by decide) _ _ _ _ _ (by omega) (by omega)
  · exact rk_piece m c 256 2 rfl t x (by decide) _ _ _ _ _ (by omega) (by omega)
  · exact rk_piece m c 128 1 rfl t x (by decide) _ _ _ _ _ (by omega) (by omega)
  · exact rk_piece m c 0 0 rfl t x (by decide) _ _ _ _ _ (by omega) (by omega)

/-- The retention value of a block's rows. -/
theorem rv_block (t : Fin cfg0.N) (i : Fin 512) (k : Fin 1024) : ((outsAt0 m c t).2.2.2.1 : FVec Ideal S512x1024 .bf16) (ix2 i k) = (brow m c t i).col 1024 1024 (by decide) k := by
  unfold outsAt0; dsimp only
  frame_out
  exact p1024 (iblk m c 0 t) (iblk m c 1 t) (iblk m c 2 t) (iblk m c 3 t) (iblk m c 4 t) (iblk m c 5 t) (iblk m c 6 t) (iblk m c 7 t) _ _ (by decide) i k

/-- The retention gate of a block's rows. -/
theorem rg_block (t : Fin cfg0.N) (i : Fin 512) (k : Fin 1024) : ((outsAt0 m c t).2.2.2.2.1 : FVec Ideal S512x1024 .bf16) (ix2 i k) = (brow m c t i).col 2048 1024 (by decide) k := by
  unfold outsAt0; dsimp only
  frame_out
  exact p1024 (iblk m c 0 t) (iblk m c 1 t) (iblk m c 2 t) (iblk m c 3 t) (iblk m c 4 t) (iblk m c 5 t) (iblk m c 6 t) (iblk m c 7 t) _ _ (by decide) i k

/-- The turned attention query of a block's rows. -/
theorem aq_block (t : Fin cfg0.N) (y : S512x1024.Idx) : ((outsAt0 m c t).2.2.2.2.2.1 : FVec Ideal S512x1024 .bf16) y = (brow m c t (y 0)).att 3072 1024 (by decide) (by decide) (y 1) := by
  unfold outsAt0; dsimp only
  frame_out
  rw [aq0, aq1, aq2, aq3, aq4, aq5, aq6, aq7, cast22, cast23]
  canon_tiles x h
  · exact aq_piece m c 896 7 rfl t x (by decide) _ _ _ _ _ (by omega) (by omega)
  · exact aq_piece m c 768 6 rfl t x (by decide) _ _ _ _ _ (by omega) (by omega)
  · exact aq_piece m c 640 5 rfl t x (by decide) _ _ _ _ _ (by omega) (by omega)
  · exact aq_piece m c 512 4 rfl t x (by decide) _ _ _ _ _ (by omega) (by omega)
  · exact aq_piece m c 384 3 rfl t x (by decide) _ _ _ _ _ (by omega) (by omega)
  · exact aq_piece m c 256 2 rfl t x (by decide) _ _ _ _ _ (by omega) (by omega)
  · exact aq_piece m c 128 1 rfl t x (by decide) _ _ _ _ _ (by omega) (by omega)
  · exact aq_piece m c 0 0 rfl t x (by decide) _ _ _ _ _ (by omega) (by omega)

/-- The turned attention key of a block's rows. -/
theorem ak_block (t : Fin cfg0.N) (i : Fin 512) (k : Fin 128) : ((outsAt0 m c t).2.2.2.2.2.2.1 : FVec Ideal S512x128 .bf16) (ix2 i k) = (brow m c t i).att 4096 128 (by decide) (by decide) k := by
  unfold outsAt0; dsimp only
  frame_out
  rw [ak0, cast22, cast23]
  exact ak_piece m c 0 0 rfl t (ix2 i k) (by decide) _ _ _ k i rfl (Nat.zero_add _).symm

/-- The attention value of a block's rows. -/
theorem av_block (t : Fin cfg0.N) (i : Fin 512) (k : Fin 128) : ((outsAt0 m c t).2.2.2.2.2.2.2.1 : FVec Ideal S512x128 .bf16) (ix2 i k) = (brow m c t i).col 4224 128 (by decide) k := by
  unfold outsAt0; dsimp only
  frame_out
  refine (cut_at 128 _ slices_S512x256_o0_128_S512x128 i k ⟨128 + k.val, by omega⟩ rfl).trans ((p256 (iblk m c 0 t) (iblk m c 1 t) (iblk m c 2 t) (iblk m c 3 t) (iblk m c 4 t) (iblk m c 5 t) (iblk m c 6 t) (iblk m c 7 t) _ _ (by decide) i _).trans ?_)
  exact congrArg (brow m c t i).pj (Fin.ext (by show 4096 + (128 + k.val) = 4224 + k.val; omega))

/-- The retention merge gate of a block's rows. -/
theorem ga_block (t : Fin cfg0.N) (i : Fin 512) (k : Fin 1024) : ((outsAt0 m c t).2.2.2.2.2.2.2.2.1 : FVec Ideal S512x1024 .bf16) (ix2 i k) = (brow m c t i).col 4352 1024 (by decide) k := by
  unfold outsAt0; dsimp only
  frame_out
  exact p1024 (iblk m c 0 t) (iblk m c 1 t) (iblk m c 2 t) (iblk m c 3 t) (iblk m c 4 t) (iblk m c 5 t) (iblk m c 6 t) (iblk m c 7 t) _ _ (by decide) i k

/-- The attention merge gate of a block's rows. -/
theorem gb_block (t : Fin cfg0.N) (i : Fin 512) (k : Fin 1024) : ((outsAt0 m c t).2.2.2.2.2.2.2.2.2 : FVec Ideal S512x1024 .bf16) (ix2 i k) = (brow m c t i).col 5376 1024 (by decide) k := by
  unfold outsAt0; dsimp only
  frame_out
  exact p1024 (iblk m c 0 t) (iblk m c 1 t) (iblk m c 2 t) (iblk m c 3 t) (iblk m c 4 t) (iblk m c 5 t) (iblk m c 6 t) (iblk m c 7 t) _ _ (by decide) i k

/-- Window 8's array. -/
theorem final_8 : (dats m 0 c).arrAt 8 cfg0.N = fun y : S8192x1024.Idx => (row m c (y 0)).h (y 1) := by
  refine (dats m 0 c).arrAt_eq_of_covers 8 _ (by decide +kernel) fun t hf y => ?_
  blk_simp [idx_val t]
  rw [after0_8]
  obtain ⟨i, k, rfl⟩ : ∃ i k, y = ix2 (n0 := 512) (n1 := 1024) i k := ⟨y 0, y 1, eq_ix2 y⟩
  refine (h_block m c t i k).trans (at_emb m c (fun q => q.h) t i k _ _ ?_ ?_) <;> (blk_simp [idx_val t]; try omega)

/-- Window 9's array. -/
theorem final_9 : (dats m 0 c).arrAt 9 cfg0.N = fun y : S8192x512.Idx => (row m c (y 0)).retS 0 (by decide) (y 1) := by
  refine (dats m 0 c).arrAt_eq_of_covers 9 _ (by decide +kernel) fun t hf y => ?_
  blk_simp [idx_val t]
  rw [after0_9]
  obtain ⟨i, k, rfl⟩ : ∃ i k, y = ix2 (n0 := 512) (n1 := 512) i k := ⟨y 0, y 1, eq_ix2 y⟩
  refine (rq_block m c t (ix2 i k)).trans (at_emb m c (fun q => q.retS 0 (by decide)) t i k _ _ ?_ ?_) <;> (blk_simp [idx_val t]; try omega)

/-- Window 10's array. -/
theorem final_10 : (dats m 0 c).arrAt 10 cfg0.N = fun y : S8192x512.Idx => (row m c (y 0)).ret 512 (by decide) (y 1) := by
  refine (dats m 0 c).arrAt_eq_of_covers 10 _ (by decide +kernel) fun t hf y => ?_
  blk_simp [idx_val t]
  rw [after0_10]
  obtain ⟨i, k, rfl⟩ : ∃ i k, y = ix2 (n0 := 512) (n1 := 512) i k := ⟨y 0, y 1, eq_ix2 y⟩
  refine (rk_block m c t (ix2 i k)).trans (at_emb m c (fun q => q.ret 512 (by decide)) t i k _ _ ?_ ?_) <;> (blk_simp [idx_val t]; try omega)

/-- Window 11's array. -/
theorem final_11 : (dats m 0 c).arrAt 11 cfg0.N = fun y : S8192x1024.Idx => (row m c (y 0)).col 1024 1024 (by decide) (y 1) := by
  refine (dats m 0 c).arrAt_eq_of_covers 11 _ (by decide +kernel) fun t hf y => ?_
  blk_simp [idx_val t]
  rw [after0_11]
  obtain ⟨i, k, rfl⟩ : ∃ i k, y = ix2 (n0 := 512) (n1 := 1024) i k := ⟨y 0, y 1, eq_ix2 y⟩
  refine (rv_block m c t i k).trans (at_emb m c (fun q => q.col 1024 1024 (by decide)) t i k _ _ ?_ ?_) <;> (blk_simp [idx_val t]; try omega)

/-- Window 12's array. -/
theorem final_12 : (dats m 0 c).arrAt 12 cfg0.N = fun y : S8192x1024.Idx => (row m c (y 0)).col 2048 1024 (by decide) (y 1) := by
  refine (dats m 0 c).arrAt_eq_of_covers 12 _ (by decide +kernel) fun t hf y => ?_
  blk_simp [idx_val t]
  rw [after0_12]
  obtain ⟨i, k, rfl⟩ : ∃ i k, y = ix2 (n0 := 512) (n1 := 1024) i k := ⟨y 0, y 1, eq_ix2 y⟩
  refine (rg_block m c t i k).trans (at_emb m c (fun q => q.col 2048 1024 (by decide)) t i k _ _ ?_ ?_) <;> (blk_simp [idx_val t]; try omega)

/-- Window 13's array. -/
theorem final_13 : (dats m 0 c).arrAt 13 cfg0.N = fun y : S8192x1024.Idx => (row m c (y 0)).att 3072 1024 (by decide) (by decide) (y 1) := by
  refine (dats m 0 c).arrAt_eq_of_covers 13 _ (by decide +kernel) fun t hf y => ?_
  blk_simp [idx_val t]
  rw [after0_13]
  obtain ⟨i, k, rfl⟩ : ∃ i k, y = ix2 (n0 := 512) (n1 := 1024) i k := ⟨y 0, y 1, eq_ix2 y⟩
  refine (aq_block m c t (ix2 i k)).trans (at_emb m c (fun q => q.att 3072 1024 (by decide) (by decide)) t i k _ _ ?_ ?_) <;> (blk_simp [idx_val t]; try omega)

/-- Window 14's array. -/
theorem final_14 : (dats m 0 c).arrAt 14 cfg0.N = fun y : S8192x128.Idx => (row m c (y 0)).att 4096 128 (by decide) (by decide) (y 1) := by
  refine (dats m 0 c).arrAt_eq_of_covers 14 _ (by decide +kernel) fun t hf y => ?_
  blk_simp [idx_val t]
  rw [after0_14]
  obtain ⟨i, k, rfl⟩ : ∃ i k, y = ix2 (n0 := 512) (n1 := 128) i k := ⟨y 0, y 1, eq_ix2 y⟩
  refine (ak_block m c t i k).trans (at_emb m c (fun q => q.att 4096 128 (by decide) (by decide)) t i k _ _ ?_ ?_) <;> (blk_simp [idx_val t]; try omega)

/-- Window 15's array. -/
theorem final_15 : (dats m 0 c).arrAt 15 cfg0.N = fun y : S8192x128.Idx => (row m c (y 0)).col 4224 128 (by decide) (y 1) := by
  refine (dats m 0 c).arrAt_eq_of_covers 15 _ (by decide +kernel) fun t hf y => ?_
  blk_simp [idx_val t]
  rw [after0_15]
  obtain ⟨i, k, rfl⟩ : ∃ i k, y = ix2 (n0 := 512) (n1 := 128) i k := ⟨y 0, y 1, eq_ix2 y⟩
  refine (av_block m c t i k).trans (at_emb m c (fun q => q.col 4224 128 (by decide)) t i k _ _ ?_ ?_) <;> (blk_simp [idx_val t]; try omega)

/-- Window 16's array. -/
theorem final_16 : (dats m 0 c).arrAt 16 cfg0.N = fun y : S8192x1024.Idx => (row m c (y 0)).col 4352 1024 (by decide) (y 1) := by
  refine (dats m 0 c).arrAt_eq_of_covers 16 _ (by decide +kernel) fun t hf y => ?_
  blk_simp [idx_val t]
  rw [after0_16]
  obtain ⟨i, k, rfl⟩ : ∃ i k, y = ix2 (n0 := 512) (n1 := 1024) i k := ⟨y 0, y 1, eq_ix2 y⟩
  refine (ga_block m c t i k).trans (at_emb m c (fun q => q.col 4352 1024 (by decide)) t i k _ _ ?_ ?_) <;> (blk_simp [idx_val t]; try omega)

/-- Window 17's array. -/
theorem final_17 : (dats m 0 c).arrAt 17 cfg0.N = fun y : S8192x1024.Idx => (row m c (y 0)).col 5376 1024 (by decide) (y 1) := by
  refine (dats m 0 c).arrAt_eq_of_covers 17 _ (by decide +kernel) fun t hf y => ?_
  blk_simp [idx_val t]
  rw [after0_17]
  obtain ⟨i, k, rfl⟩ : ∃ i k, y = ix2 (n0 := 512) (n1 := 1024) i k := ⟨y 0, y 1, eq_ix2 y⟩
  refine (gb_block m c t i k).trans (at_emb m c (fun q => q.col 5376 1024 (by decide)) t i k _ _ ?_ ?_) <;> (blk_simp [idx_val t]; try omega)

end Cert.ProjFwd.Ker
-- ==== Proof.ProjFwdReference.lean ====
/- ProjFwdReference: what the forward reference's operations compute at a row, in ProjFwdSpec's words. -/
module

public import proofs.«01_k».proof.Proof.ProjFwdSpec
public import proofs.«01_k».proof.Proof.Gen.Reference6Ideal.Read

@[expose] public section

set_option maxRecDepth 16384

noncomputable section

namespace Cert.ProjFwd.Ref

open Cert.Reference6Ideal Cert.Reference6Ideal.Gen Cert.Reference6Ideal.Read Cert.Scalars Cert.Proj
open Idealize.ShloMosaic Idealize.ShloMosaic.TcCoe Idealize.SL.Sem
open scoped BigOperators

/-- The cosine of a pair of lanes 64 apart. -/
def c64 (r : Fin 8192) (l : Fin 64) : EReal := val_main_v58 (F := Ideal) (ix2 r l)

/-- The sine of a pair of lanes 64 apart. -/
def s64 (r : Fin 8192) (l : Fin 64) : EReal := val_main_v60 (F := Ideal) (ix2 r l)

/-- The cosine of a pair of lanes 32 apart. -/
def c32 (r : Fin 8192) (l : Fin 32) : EReal := val_main_v122 (F := Ideal) (ix2 r l)

/-- The sine of a pair of lanes 32 apart. -/
def s32 (r : Fin 8192) (l : Fin 32) : EReal := val_main_v124 (F := Ideal) (ix2 r l)

variable (x0 : FVec Ideal S8192x1024 .f32) (x1 : FVec Ideal S1x1024 .f32) (x2 : FVec Ideal S6400x1024 .bf16) (x3 : FVec Ideal S1x6400 .f32)

/-- The operands of row `r`. -/
def row (r : Fin 8192) : FRow where
  x k := x0 (ix2 r k)
  g k := x1 (ix2 0 k)
  w n k := x2 (ix2 n k)
  b n := x3 (ix2 0 n)
  cr l := c64 r ⟨l.1 % 64, Nat.mod_lt _ (by decide)⟩
  sr l := if l.1 < 64 then -s64 r ⟨l.1 % 64, Nat.mod_lt _ (by decide)⟩ else s64 r ⟨l.1 % 64, Nat.mod_lt _ (by decide)⟩
  ca l := c32 r ⟨l.1 % 32, Nat.mod_lt _ (by decide)⟩
  sa l := if l.1 % 64 < 32 then -s32 r ⟨l.1 % 32, Nat.mod_lt _ (by decide)⟩ else s32 r ⟨l.1 % 32, Nat.mod_lt _ (by decide)⟩

/-- The scaled, normalised row. -/
theorem h_at (r : Fin 8192) (k : Fin 1024) : val_main_v29 (F := Ideal) x0 x1 (ix2 r k) = (row x0 x1 x2 x3 r).h k := by
  pointwise [val_main_v29, val_main_v28, val_main_v27, val_main_v16, val_main_v26, val_main_v25, val_main_v24, val_main_v23, val_main_v22, val_main_cst_4, val_main_v21, val_main_v20, val_main_cst_3,
    val_main_v19, val_main_v18, val_main_cst_2, val_main_v17, FRow.h, row, rn, rrt, rve, rmean]

/-- The projection. -/
theorem pj_at (r : Fin 8192) (n : Fin 6400) : val_main_v34 (F := Ideal) x0 x1 x2 x3 (ix2 r n) = (row x0 x1 x2 x3 r).pj n := by
  pointwise [val_main_v34, val_main_v30, val_main_v33, val_main_v32, val_main_v31, val_main_v15, val_main_v14]
  simp only [h_at x0 x1 x2 x3]; rfl

/-- The turned retention query, before its scale. -/
theorem rq0_at (r : Fin 8192) (c : Fin 512) : val_main_v75 (F := Ideal) x0 x1 x2 x3 (ix2 r c) = (row x0 x1 x2 x3 r).ret 0 (by decide) c := by
  pointwise [val_main_v75, val_main_v74, val_main_v59, val_main_v61, val_main_v62, val_main_v63, val_main_v64, val_main_v65, val_main_v66, val_main_v67, val_main_v68, val_main_v69, val_main_v70, val_main_v71, val_main_v72, val_main_v73, val_main_v45, val_main_v35]
  simp only [pj_at]
  by_cases h : c.1 % 128 < 64
  · rw [dif_pos h]
    exact FRow.ret_first (row x0 x1 x2 x3 r) (c64 r) (s64 r) (fun _ => rfl) (fun _ => rfl) 0 (by decide) c _ _ ⟨c.1 % 128, h⟩ h (by first | rfl | (dsimp only; omega)) (by first | rfl | (dsimp only; omega)) rfl
  · rw [dif_neg h]
    exact FRow.ret_last (row x0 x1 x2 x3 r) (c64 r) (s64 r) (fun _ => rfl) (fun _ => rfl) 0 (by decide) c _ _ ⟨c.1 % 128 - 64, by omega⟩ h (by first | rfl | (dsimp only; omega)) (by first | rfl | (dsimp only; omega)) (by first | rfl | (dsimp only; omega))

/-- The turned retention key. -/
theorem rk_at (r : Fin 8192) (c : Fin 512) : val_main_v108 (F := Ideal) x0 x1 x2 x3 (ix2 r c) = (row x0 x1 x2 x3 r).ret 512 (by decide) c := by
  pointwise [val_main_v108, val_main_v107, val_main_v92, val_main_v94, val_main_v95, val_main_v96, val_main_v97, val_main_v98, val_main_v99, val_main_v100, val_main_v101, val_main_v102, val_main_v103, val_main_v104, val_main_v105, val_main_v106, val_main_v78, val_main_v36]
  simp only [pj_at]
  by_cases h : c.1 % 128 < 64
  · rw [dif_pos h]
    exact FRow.ret_first (row x0 x1 x2 x3 r) (c64 r) (s64 r) (fun _ => rfl) (fun _ => rfl) 512 (by decide) c _ _ ⟨c.1 % 128, h⟩ h (by first | rfl | (dsimp only; omega)) (by first | rfl | (dsimp only; omega)) rfl
  · rw [dif_neg h]
    exact FRow.ret_last (row x0 x1 x2 x3 r) (c64 r) (s64 r) (fun _ => rfl) (fun _ => rfl) 512 (by decide) c _ _ ⟨c.1 % 128 - 64, by omega⟩ h (by first | rfl | (dsimp only; omega)) (by first | rfl | (dsimp only; omega)) (by first | rfl | (dsimp only; omega))

/-- The turned attention query. -/
theorem aq_at (r : Fin 8192) (c : Fin 1024) : val_main_v139 (F := Ideal) x0 x1 x2 x3 (ix2 r c) = (row x0 x1 x2 x3 r).att 3072 1024 (by decide) (by decide) c := by
  pointwise [val_main_v139, val_main_v138, val_main_v123, val_main_v125, val_main_v126, val_main_v127, val_main_v128, val_main_v129, val_main_v130, val_main_v131, val_main_v132, val_main_v133, val_main_v134, val_main_v135, val_main_v136, val_main_v137, val_main_v109, val_main_v39]
  simp only [pj_at]
  by_cases h : c.1 % 64 < 32
  · rw [dif_pos h]
    exact FRow.att_first (row x0 x1 x2 x3 r) (c32 r) (s32 r) (fun _ => rfl) (fun _ => rfl) 3072 1024 (by decide) (by decide) c _ _ ⟨c.1 % 64, h⟩ h (by first | rfl | (dsimp only; omega)) (by first | rfl | (dsimp only; omega)) rfl
  · rw [dif_neg h]
    exact FRow.att_last (row x0 x1 x2 x3 r) (c32 r) (s32 r) (fun _ => rfl) (fun _ => rfl) 3072 1024 (by decide) (by decide) c _ _ ⟨c.1 % 64 - 32, by omega⟩ h (by first | rfl | (dsimp only; omega)) (by first | rfl | (dsimp only; omega)) (by first | rfl | (dsimp only; omega))

/-- The turned attention key. -/
theorem ak_at (r : Fin 8192) (c : Fin 128) : val_main_v170 (F := Ideal) x0 x1 x2 x3 (ix2 r c) = (row x0 x1 x2 x3 r).att 4096 128 (by decide) (by decide) c := by
  pointwise [val_main_v170, val_main_v169, val_main_v154, val_main_v156, val_main_v157, val_main_v158, val_main_v159, val_main_v160, val_main_v161, val_main_v162, val_main_v163, val_main_v164, val_main_v165, val_main_v166, val_main_v167, val_main_v168, val_main_v140, val_main_v40]
  simp only [pj_at]
  by_cases h : c.1 % 64 < 32
  · rw [dif_pos h]
    exact FRow.att_first (row x0 x1 x2 x3 r) (c32 r) (s32 r) (fun _ => rfl) (fun _ => rfl) 4096 128 (by decide) (by decide) c _ _ ⟨c.1 % 64, h⟩ h (by first | rfl | (dsimp only; omega)) (by first | rfl | (dsimp only; omega)) rfl
  · rw [dif_neg h]
    exact FRow.att_last (row x0 x1 x2 x3 r) (c32 r) (s32 r) (fun _ => rfl) (fun _ => rfl) 4096 128 (by decide) (by decide) c _ _ ⟨c.1 % 64 - 32, by omega⟩ h (by first | rfl | (dsimp only; omega)) (by first | rfl | (dsimp only; omega)) (by first | rfl | (dsimp only; omega))

/-- The turned, scaled retention query. -/
theorem rq_at (r : Fin 8192) (c : Fin 512) : val_main_v77 (F := Ideal) x0 x1 x2 x3 (ix2 r c) = (row x0 x1 x2 x3 r).retS 0 (by decide) c := by
  pointwise [val_main_v77, val_main_v76, val_main_cst_7]
  rw [rq0_at]; rfl

/-- The columns of the projection from 1024 on. -/
theorem col1024_at (r : Fin 8192) (c : Fin 1024) : val_main_v37 (F := Ideal) x0 x1 x2 x3 (ix2 r c) = (row x0 x1 x2 x3 r).col 1024 1024 (by decide) c := by
  pointwise [val_main_v37]
  rw [pj_at]; rfl

/-- The columns of the projection from 2048 on. -/
theorem col2048_at (r : Fin 8192) (c : Fin 1024) : val_main_v38 (F := Ideal) x0 x1 x2 x3 (ix2 r c) = (row x0 x1 x2 x3 r).col 2048 1024 (by decide) c := by
  pointwise [val_main_v38]
  rw [pj_at]; rfl

/-- The columns of the projection from 4224 on. -/
theorem col4224_at (r : Fin 8192) (c : Fin 128) : val_main_v41 (F := Ideal) x0 x1 x2 x3 (ix2 r c) = (row x0 x1 x2 x3 r).col 4224 128 (by decide) c := by
  pointwise [val_main_v41]
  rw [pj_at]; rfl

/-- The columns of the projection from 4352 on. -/
theorem col4352_at (r : Fin 8192) (c : Fin 1024) : val_main_v42 (F := Ideal) x0 x1 x2 x3 (ix2 r c) = (row x0 x1 x2 x3 r).col 4352 1024 (by decide) c := by
  pointwise [val_main_v42]
  rw [pj_at]; rfl

/-- The columns of the projection from 5376 on. -/
theorem col5376_at (r : Fin 8192) (c : Fin 1024) : val_main_v43 (F := Ideal) x0 x1 x2 x3 (ix2 r c) = (row x0 x1 x2 x3 r).col 5376 1024 (by decide) c := by
  pointwise [val_main_v43]
  rw [pj_at]; rfl

end Cert.ProjFwd.Ref
-- ==== Proof.ProjFwdTables.lean ====
/- ProjFwdTables: the rotary tables that the host lines lay out before the launch are the reference's cosines and sines. -/
module

public import proofs.«01_k».proof.Proof.ProjFwdRows
public import proofs.«01_k».proof.Proof.ProjFwdReference
public import Idealize.ShloMosaic.Lib.StableHlo.RunRead

@[expose] public section

set_option maxRecDepth 16384

noncomputable section

namespace Cert.ProjFwd

open Cert.Kernel6Ideal Cert.Kernel6Ideal.Gen Cert.Scalars Cert.Proj
open Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

open Cert.Reference6Ideal.Read in
/-- The launch's 64-lane cosine table is the reference's. -/
theorem cr_at (r : Fin 8192) (l : Fin 128) : (V m c main_v33 : FVec Ideal S8192x128 .f32) (ix2 r l) = Ref.c64 r ⟨l.1 % 64, Nat.mod_lt _ (by decide)⟩ := by
  entry_read
  unfold Ref.c64
  pointwise [val_main_v58, val_main_v57, val_main_v55, val_main_v56, val_main_v53, val_main_v54, val_main_v52, val_main_v51, val_main_v50, val_main_v49, val_main_v48, val_main_v47,
    val_main_v46, val_main_v44, val_main_cst_5, val_main_cst_6]
  by_cases h : l.1 < 64
  · rw [dif_pos h, Nat.mod_eq_of_lt h]
  · rw [dif_neg h, show l.1 % 64 = l.1 - 64 by omega]

open Cert.Reference6Ideal.Read in
/-- The launch's 64-lane sine table is the reference's, with the first half's sign turned. -/
theorem sr_at (r : Fin 8192) (l : Fin 128) : (V m c main_v35 : FVec Ideal S8192x128 .f32) (ix2 r l)
    = if l.1 < 64 then -Ref.s64 r ⟨l.1 % 64, Nat.mod_lt _ (by decide)⟩ else Ref.s64 r ⟨l.1 % 64, Nat.mod_lt _ (by decide)⟩ := by
  entry_read
  unfold Ref.s64
  pointwise [val_main_v60, val_main_v57, val_main_v55, val_main_v56, val_main_v53, val_main_v54, val_main_v52, val_main_v51, val_main_v50, val_main_v49, val_main_v48, val_main_v47,
    val_main_v46, val_main_v44, val_main_cst_5, val_main_cst_6]
  by_cases h : l.1 < 64
  · rw [dif_pos h, if_pos h, Nat.mod_eq_of_lt h]
  · rw [dif_neg h, if_neg h, show l.1 % 64 = l.1 - 64 by omega]

/-- Four 32-lane tables laid side by side: what a lane reads. -/
theorem cat4 (u v w z : FVec Ideal S8192x32 .f32) (h : Shape.Concatenates [S8192x32, S8192x32, S8192x32, S8192x32] S8192x128 1) (r : Fin 8192) (l : Fin 128) :
    concatenate S8192x128 1 [⟨S8192x32, u⟩, ⟨S8192x32, v⟩, ⟨S8192x32, w⟩, ⟨S8192x32, z⟩] h (ix2 r l)
      = if l.1 < 32 then u (ix2 r ⟨l.1 % 32, Nat.mod_lt _ (by decide)⟩) else if l.1 < 64 then v (ix2 r ⟨l.1 % 32, Nat.mod_lt _ (by decide)⟩)
        else if l.1 < 96 then w (ix2 r ⟨l.1 % 32, Nat.mod_lt _ (by decide)⟩) else z (ix2 r ⟨l.1 % 32, Nat.mod_lt _ (by decide)⟩) := by
  pointwise []
  by_cases h1 : l.1 < 32
  · rw [dif_pos h1, if_pos h1]; exact congrArg (fun k => u (ix2 r k)) (Fin.ext (by show l.1 = l.1 % 32; omega))
  rw [dif_neg h1, if_neg h1]
  by_cases h2 : l.1 < 64
  · rw [dif_pos (by omega), if_pos h2]; exact congrArg (fun k => v (ix2 r k)) (Fin.ext (by show l.1 - 32 = l.1 % 32; omega))
  rw [dif_neg (by omega), if_neg h2]
  by_cases h3 : l.1 < 96
  · rw [dif_pos (by omega), if_pos h3]; exact congrArg (fun k => w (ix2 r k)) (Fin.ext (by show l.1 - 32 - 32 = l.1 % 32; omega))
  · rw [dif_neg (by omega), if_neg h3]; exact congrArg (fun k => z (ix2 r k)) (Fin.ext (by show l.1 - 32 - 32 - 32 = l.1 % 32; omega))

open Cert.Reference6Ideal.Read in
/-- The launch's 32-lane sines, before they are laid out. -/
theorem sin32 : (V m c main_v32 : FVec Ideal S8192x32 .f32) = val_main_v124 (F := Ideal) := by
  entry_read
  funext y
  obtain ⟨r, l, rfl⟩ : ∃ r l, y = ix2 (n0 := 8192) (n1 := 32) r l := ⟨y 0, y 1, eq_ix2 y⟩
  pointwise [val_main_v124, val_main_v121, val_main_v119, val_main_v120, val_main_v117, val_main_v118, val_main_v116, val_main_v115, val_main_v114, val_main_v113, val_main_v112, val_main_v111, val_main_v110, val_main_v44, val_main_cst_10, val_main_cst_11]

/-- The first negated sine operand of the last host line. -/
theorem neg37 (hx hy) : ((StableHlo.unary main_v32 main_v37 (@Host.negf Ideal _ S8192x32 .f32) hx hy).result (StableHlo.upto hostOps0 (fun b => m (c, b)) 42) (Proc.devRef .tc main_v37) : FVec Ideal S8192x32 .f32)
    = @Host.negf Ideal _ S8192x32 .f32 (Cert.Reference6Ideal.Read.val_main_v124 (F := Ideal)) := by
  rw [← sin32 m c]
  show _ = @Host.negf Ideal _ S8192x32 .f32 (StableHlo.after hostOps0 (fun b => m (c, b)) (Proc.devRef .tc main_v32))
  after_reads_simp

/-- The second negated sine operand of the last host line. -/
theorem neg38 (hx hy) : ((StableHlo.unary main_v32 main_v38 (@Host.negf Ideal _ S8192x32 .f32) hx hy).result (StableHlo.upto hostOps0 (fun b => m (c, b)) 43) (Proc.devRef .tc main_v38) : FVec Ideal S8192x32 .f32)
    = @Host.negf Ideal _ S8192x32 .f32 (Cert.Reference6Ideal.Read.val_main_v124 (F := Ideal)) := by
  rw [← sin32 m c]
  show _ = @Host.negf Ideal _ S8192x32 .f32 (StableHlo.after hostOps0 (fun b => m (c, b)) (Proc.devRef .tc main_v32))
  after_reads_simp

/-- The sine operand of the last host line. -/
theorem pos32 (hx hy) : ((StableHlo.unary main_v30 main_v32 (@Host.sin Ideal _ S8192x32 .f32) hx hy).result (StableHlo.upto hostOps0 (fun b => m (c, b)) 37) (Proc.devRef .tc main_v32) : FVec Ideal S8192x32 .f32)
    = Cert.Reference6Ideal.Read.val_main_v124 (F := Ideal) := by
  rw [← sin32 m c]
  show _ = StableHlo.after hostOps0 (fun b => m (c, b)) (Proc.devRef .tc main_v32)
  after_reads_simp

/-- Four 32-lane tables, two and two the same, laid side by side: what a lane reads. -/
theorem cat4_eq (n p u v w z : FVec Ideal S8192x32 .f32) (h : Shape.Concatenates [S8192x32, S8192x32, S8192x32, S8192x32] S8192x128 1) (r : Fin 8192) (l : Fin 128)
    (hu : u = n) (hv : v = p) (hw : w = n) (hz : z = p) :
    concatenate S8192x128 1 [⟨S8192x32, u⟩, ⟨S8192x32, v⟩, ⟨S8192x32, w⟩, ⟨S8192x32, z⟩] h (ix2 r l)
      = if l.1 % 64 < 32 then n (ix2 r ⟨l.1 % 32, Nat.mod_lt _ (by decide)⟩) else p (ix2 r ⟨l.1 % 32, Nat.mod_lt _ (by decide)⟩) := by
  subst hu hv hw hz
  refine (cat4 _ _ _ _ _ r l).trans ?_
  by_cases h1 : l.1 < 32
  · rw [if_pos h1, if_pos (by omega)]
  rw [if_neg h1]
  by_cases h2 : l.1 < 64
  · rw [if_pos h2, if_neg (by omega)]
  rw [if_neg h2]
  by_cases h3 : l.1 < 96
  · rw [if_pos h3, if_pos (by omega)]
  · rw [if_neg h3, if_neg (by omega)]

/-- The launch's 32-lane sine table is the reference's, with the first half's sign turned. -/
theorem sa_at (r : Fin 8192) (l : Fin 128) : (V m c main_v39 : FVec Ideal S8192x128 .f32) (ix2 r l) = if l.1 % 64 < 32 then -Ref.s32 r ⟨l.1 % 32, Nat.mod_lt _ (by decide)⟩ else Ref.s32 r ⟨l.1 % 32, Nat.mod_lt _ (by decide)⟩ := by
  show StableHlo.after hostOps0 (fun b => m (c, b)) (Proc.devRef .tc main_v39) (ix2 r l) = _
  after_reads_simp
  exact cat4_eq (@Host.negf Ideal _ S8192x32 .f32 (Cert.Reference6Ideal.Read.val_main_v124 (F := Ideal))) (Cert.Reference6Ideal.Read.val_main_v124 (F := Ideal)) _ _ _ _ _ r l
    (neg37 m c _ _) (pos32 m c _ _) (neg38 m c _ _) (pos32 m c _ _)

open Cert.Reference6Ideal.Read in
/-- The launch's 32-lane cosines, before they are laid out. -/
theorem cos32 : (V m c main_v31 : FVec Ideal S8192x32 .f32) = val_main_v122 (F := Ideal) := by
  entry_read
  funext y
  obtain ⟨r, l, rfl⟩ : ∃ r l, y = ix2 (n0 := 8192) (n1 := 32) r l := ⟨y 0, y 1, eq_ix2 y⟩
  pointwise [val_main_v122, val_main_v121, val_main_v119, val_main_v120, val_main_v117, val_main_v118, val_main_v116, val_main_v115, val_main_v114, val_main_v113, val_main_v112, val_main_v111, val_main_v110, val_main_v44, val_main_cst_10, val_main_cst_11]

/-- The cosine operand of the host line that lays it out. -/
theorem pos31 (hx hy) : ((StableHlo.unary main_v30 main_v31 (@Host.cos Ideal _ S8192x32 .f32) hx hy).result (StableHlo.upto hostOps0 (fun b => m (c, b)) 36) (Proc.devRef .tc main_v31) : FVec Ideal S8192x32 .f32)
    = Cert.Reference6Ideal.Read.val_main_v122 (F := Ideal) := by
  rw [← cos32 m c]
  show _ = StableHlo.after hostOps0 (fun b => m (c, b)) (Proc.devRef .tc main_v31)
  after_reads_simp

/-- The launch's 32-lane cosine table is the reference's. -/
theorem ca_at (r : Fin 8192) (l : Fin 128) : (V m c main_v36 : FVec Ideal S8192x128 .f32) (ix2 r l) = Ref.c32 r ⟨l.1 % 32, Nat.mod_lt _ (by decide)⟩ := by
  show StableHlo.after hostOps0 (fun b => m (c, b)) (Proc.devRef .tc main_v36) (ix2 r l) = _
  after_reads_simp
  exact (cat4_eq (Cert.Reference6Ideal.Read.val_main_v122 (F := Ideal)) (Cert.Reference6Ideal.Read.val_main_v122 (F := Ideal)) _ _ _ _ _ r l
    (pos31 m c _ _) (pos31 m c _ _) (pos31 m c _ _) (pos31 m c _ _)).trans (ite_self _)

end Cert.ProjFwd
-- ==== Proof.ProjFwdClaim.lean ====
/- ProjFwdClaim: the arrays of the projection's forward launch are the reference's. -/
module

public import proofs.«01_k».proof.Proof.ProjFwdTables

@[expose] public section

set_option maxRecDepth 16384

noncomputable section

namespace Cert.ProjFwd

open Cert.Kernel6Ideal Cert.Kernel6Ideal.Gen Cert.Scalars Cert.Proj
open Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- The launch's rows are the reference's. -/
theorem row_eq (r : Fin 8192) : Ker.row m c r = Ref.row (V m c main_arg0) (V m c main_arg1) (V m c main_arg2) (V m c main_arg3) r := by
  unfold Ker.row Ref.row
  rw [show (fun l => (V m c main_v33 : FVec Ideal S8192x128 .f32) (ix2 r l)) = _ from funext (cr_at m c r),
    show (fun l => (V m c main_v35 : FVec Ideal S8192x128 .f32) (ix2 r l)) = _ from funext (sr_at m c r),
    show (fun l => (V m c main_v36 : FVec Ideal S8192x128 .f32) (ix2 r l)) = _ from funext (ca_at m c r),
    show (fun l => (V m c main_v39 : FVec Ideal S8192x128 .f32) (ix2 r l)) = _ from funext (sa_at m c r)]

/-- Window 8 ends holding the reference's result: the scaled, normalised rows. -/
theorem out_8 : (dats m 0 c).arrAt 8 cfg0.N = Cert.Reference6Ideal.Read.val_main_v171 (F := Ideal) (V m c main_arg0) (V m c main_arg1) := by
  rw [Ker.final_8]
  funext y
  obtain ⟨r, k, rfl⟩ : ∃ r k, y = ix2 (n0 := 8192) (n1 := 1024) r k := ⟨y 0, y 1, eq_ix2 y⟩
  show (Ker.row m c r).h k = _
  rw [row_eq m c r]
  exact (Ref.h_at (V m c main_arg0) (V m c main_arg1) (V m c main_arg2) (V m c main_arg3) r k).symm

/-- Window 9 ends holding the reference's result: the turned retention query. -/
theorem out_9 : (dats m 0 c).arrAt 9 cfg0.N = Cert.Reference6Ideal.Read.val_main_v172 (F := Ideal) (V m c main_arg0) (V m c main_arg1) (V m c main_arg2) (V m c main_arg3) := by
  rw [Ker.final_9]
  funext y
  obtain ⟨r, k, rfl⟩ : ∃ r k, y = ix2 (n0 := 8192) (n1 := 512) r k := ⟨y 0, y 1, eq_ix2 y⟩
  show (Ker.row m c r).retS 0 (by decide) k = _
  rw [row_eq m c r]
  exact (Ref.rq_at (V m c main_arg0) (V m c main_arg1) (V m c main_arg2) (V m c main_arg3) r k).symm

/-- Window 10 ends holding the reference's result: the turned retention key. -/
theorem out_10 : (dats m 0 c).arrAt 10 cfg0.N = Cert.Reference6Ideal.Read.val_main_v108 (F := Ideal) (V m c main_arg0) (V m c main_arg1) (V m c main_arg2) (V m c main_arg3) := by
  rw [Ker.final_10]
  funext y
  obtain ⟨r, k, rfl⟩ : ∃ r k, y = ix2 (n0 := 8192) (n1 := 512) r k := ⟨y 0, y 1, eq_ix2 y⟩
  show (Ker.row m c r).ret 512 (by decide) k = _
  rw [row_eq m c r]
  exact (Ref.rk_at (V m c main_arg0) (V m c main_arg1) (V m c main_arg2) (V m c main_arg3) r k).symm

/-- Window 11 ends holding the reference's result: the retention value. -/
theorem out_11 : (dats m 0 c).arrAt 11 cfg0.N = Cert.Reference6Ideal.Read.val_main_v173 (F := Ideal) (V m c main_arg0) (V m c main_arg1) (V m c main_arg2) (V m c main_arg3) := by
  rw [Ker.final_11]
  funext y
  obtain ⟨r, k, rfl⟩ : ∃ r k, y = ix2 (n0 := 8192) (n1 := 1024) r k := ⟨y 0, y 1, eq_ix2 y⟩
  show (Ker.row m c r).col 1024 1024 (by decide) k = _
  rw [row_eq m c r]
  exact (Ref.col1024_at (V m c main_arg0) (V m c main_arg1) (V m c main_arg2) (V m c main_arg3) r k).symm

/-- Window 12 ends holding the reference's result: the retention gate. -/
theorem out_12 : (dats m 0 c).arrAt 12 cfg0.N = Cert.Reference6Ideal.Read.val_main_v174 (F := Ideal) (V m c main_arg0) (V m c main_arg1) (V m c main_arg2) (V m c main_arg3) := by
  rw [Ker.final_12]
  funext y
  obtain ⟨r, k, rfl⟩ : ∃ r k, y = ix2 (n0 := 8192) (n1 := 1024) r k := ⟨y 0, y 1, eq_ix2 y⟩
  show (Ker.row m c r).col 2048 1024 (by decide) k = _
  rw [row_eq m c r]
  exact (Ref.col2048_at (V m c main_arg0) (V m c main_arg1) (V m c main_arg2) (V m c main_arg3) r k).symm

/-- Window 13 ends holding the reference's result: the turned attention query. -/
theorem out_13 : (dats m 0 c).arrAt 13 cfg0.N = Cert.Reference6Ideal.Read.val_main_v175 (F := Ideal) (V m c main_arg0) (V m c main_arg1) (V m c main_arg2) (V m c main_arg3) := by
  rw [Ker.final_13]
  funext y
  obtain ⟨r, k, rfl⟩ : ∃ r k, y = ix2 (n0 := 8192) (n1 := 1024) r k := ⟨y 0, y 1, eq_ix2 y⟩
  show (Ker.row m c r).att 3072 1024 (by decide) (by decide) k = _
  rw [row_eq m c r]
  exact (Ref.aq_at (V m c main_arg0) (V m c main_arg1) (V m c main_arg2) (V m c main_arg3) r k).symm

/-- Window 14 ends holding the reference's result: the turned attention key. -/
theorem out_14 : (dats m 0 c).arrAt 14 cfg0.N = Cert.Reference6Ideal.Read.val_main_v176 (F := Ideal) (V m c main_arg0) (V m c main_arg1) (V m c main_arg2) (V m c main_arg3) := by
  rw [Ker.final_14]
  funext y
  obtain ⟨r, k, rfl⟩ : ∃ r k, y = ix2 (n0 := 8192) (n1 := 128) r k := ⟨y 0, y 1, eq_ix2 y⟩
  show (Ker.row m c r).att 4096 128 (by decide) (by decide) k = _
  rw [row_eq m c r]
  exact (Ref.ak_at (V m c main_arg0) (V m c main_arg1) (V m c main_arg2) (V m c main_arg3) r k).symm

/-- Window 15 ends holding the reference's result: the attention value. -/
theorem out_15 : (dats m 0 c).arrAt 15 cfg0.N = Cert.Reference6Ideal.Read.val_main_v177 (F := Ideal) (V m c main_arg0) (V m c main_arg1) (V m c main_arg2) (V m c main_arg3) := by
  rw [Ker.final_15]
  funext y
  obtain ⟨r, k, rfl⟩ : ∃ r k, y = ix2 (n0 := 8192) (n1 := 128) r k := ⟨y 0, y 1, eq_ix2 y⟩
  show (Ker.row m c r).col 4224 128 (by decide) k = _
  rw [row_eq m c r]
  exact (Ref.col4224_at (V m c main_arg0) (V m c main_arg1) (V m c main_arg2) (V m c main_arg3) r k).symm

/-- Window 16 ends holding the reference's result: the retention merge gate. -/
theorem out_16 : (dats m 0 c).arrAt 16 cfg0.N = Cert.Reference6Ideal.Read.val_main_v178 (F := Ideal) (V m c main_arg0) (V m c main_arg1) (V m c main_arg2) (V m c main_arg3) := by
  rw [Ker.final_16]
  funext y
  obtain ⟨r, k, rfl⟩ : ∃ r k, y = ix2 (n0 := 8192) (n1 := 1024) r k := ⟨y 0, y 1, eq_ix2 y⟩
  show (Ker.row m c r).col 4352 1024 (by decide) k = _
  rw [row_eq m c r]
  exact (Ref.col4352_at (V m c main_arg0) (V m c main_arg1) (V m c main_arg2) (V m c main_arg3) r k).symm

/-- Window 17 ends holding the reference's result: the attention merge gate. -/
theorem out_17 : (dats m 0 c).arrAt 17 cfg0.N = Cert.Reference6Ideal.Read.val_main_v179 (F := Ideal) (V m c main_arg0) (V m c main_arg1) (V m c main_arg2) (V m c main_arg3) := by
  rw [Ker.final_17]
  funext y
  obtain ⟨r, k, rfl⟩ : ∃ r k, y = ix2 (n0 := 8192) (n1 := 1024) r k := ⟨y 0, y 1, eq_ix2 y⟩
  show (Ker.row m c r).col 5376 1024 (by decide) k = _
  rw [row_eq m c r]
  exact (Ref.col5376_at (V m c main_arg0) (V m c main_arg1) (V m c main_arg2) (V m c main_arg3) r k).symm

/-- Over arguments that agree, the reference's result is window 8's array. -/
theorem of_agree_8 (x0 : FVec Ideal S8192x1024 .f32) (x1 : FVec Ideal S1x1024 .f32)
    (e0 : x0 = m ((c.tc : Thread nD τ).loc main_arg0)) (e1 : x1 = m ((c.tc : Thread nD τ).loc main_arg1)) :
    Cert.Reference6Ideal.Read.val_main_v171 (F := Ideal) x0 x1 = (dats m 0 c).arrAt 8 cfg0.N := by
  subst e0 e1
  exact (out_8 m c).symm

/-- Over arguments that agree, the reference's result is window 9's array. -/
theorem of_agree_9 (x0 : FVec Ideal S8192x1024 .f32) (x1 : FVec Ideal S1x1024 .f32) (x2 : FVec Ideal S6400x1024 .bf16) (x3 : FVec Ideal S1x6400 .f32)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) :
    Cert.Reference6Ideal.Read.val_main_v172 (F := Ideal) x0 x1 x2 x3 = (dats m 0 c).arrAt 9 cfg0.N := by
  subst e0 e1 e2 e3
  exact (out_9 m c).symm

/-- Over arguments that agree, the reference's result is window 10's array. -/
theorem of_agree_10 (x0 : FVec Ideal S8192x1024 .f32) (x1 : FVec Ideal S1x1024 .f32) (x2 : FVec Ideal S6400x1024 .bf16) (x3 : FVec Ideal S1x6400 .f32)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) :
    Cert.Reference6Ideal.Read.val_main_v108 (F := Ideal) x0 x1 x2 x3 = (dats m 0 c).arrAt 10 cfg0.N := by
  subst e0 e1 e2 e3
  exact (out_10 m c).symm

/-- Over arguments that agree, the reference's result is window 11's array. -/
theorem of_agree_11 (x0 : FVec Ideal S8192x1024 .f32) (x1 : FVec Ideal S1x1024 .f32) (x2 : FVec Ideal S6400x1024 .bf16) (x3 : FVec Ideal S1x6400 .f32)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) :
    Cert.Reference6Ideal.Read.val_main_v173 (F := Ideal) x0 x1 x2 x3 = (dats m 0 c).arrAt 11 cfg0.N := by
  subst e0 e1 e2 e3
  exact (out_11 m c).symm

/-- Over arguments that agree, the reference's result is window 12's array. -/
theorem of_agree_12 (x0 : FVec Ideal S8192x1024 .f32) (x1 : FVec Ideal S1x1024 .f32) (x2 : FVec Ideal S6400x1024 .bf16) (x3 : FVec Ideal S1x6400 .f32)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) :
    Cert.Reference6Ideal.Read.val_main_v174 (F := Ideal) x0 x1 x2 x3 = (dats m 0 c).arrAt 12 cfg0.N := by
  subst e0 e1 e2 e3
  exact (out_12 m c).symm

/-- Over arguments that agree, the reference's result is window 13's array. -/
theorem of_agree_13 (x0 : FVec Ideal S8192x1024 .f32) (x1 : FVec Ideal S1x1024 .f32) (x2 : FVec Ideal S6400x1024 .bf16) (x3 : FVec Ideal S1x6400 .f32)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) :
    Cert.Reference6Ideal.Read.val_main_v175 (F := Ideal) x0 x1 x2 x3 = (dats m 0 c).arrAt 13 cfg0.N := by
  subst e0 e1 e2 e3
  exact (out_13 m c).symm

/-- Over arguments that agree, the reference's result is window 14's array. -/
theorem of_agree_14 (x0 : FVec Ideal S8192x1024 .f32) (x1 : FVec Ideal S1x1024 .f32) (x2 : FVec Ideal S6400x1024 .bf16) (x3 : FVec Ideal S1x6400 .f32)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) :
    Cert.Reference6Ideal.Read.val_main_v176 (F := Ideal) x0 x1 x2 x3 = (dats m 0 c).arrAt 14 cfg0.N := by
  subst e0 e1 e2 e3
  exact (out_14 m c).symm

/-- Over arguments that agree, the reference's result is window 15's array. -/
theorem of_agree_15 (x0 : FVec Ideal S8192x1024 .f32) (x1 : FVec Ideal S1x1024 .f32) (x2 : FVec Ideal S6400x1024 .bf16) (x3 : FVec Ideal S1x6400 .f32)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) :
    Cert.Reference6Ideal.Read.val_main_v177 (F := Ideal) x0 x1 x2 x3 = (dats m 0 c).arrAt 15 cfg0.N := by
  subst e0 e1 e2 e3
  exact (out_15 m c).symm

/-- Over arguments that agree, the reference's result is window 16's array. -/
theorem of_agree_16 (x0 : FVec Ideal S8192x1024 .f32) (x1 : FVec Ideal S1x1024 .f32) (x2 : FVec Ideal S6400x1024 .bf16) (x3 : FVec Ideal S1x6400 .f32)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) :
    Cert.Reference6Ideal.Read.val_main_v178 (F := Ideal) x0 x1 x2 x3 = (dats m 0 c).arrAt 16 cfg0.N := by
  subst e0 e1 e2 e3
  exact (out_16 m c).symm

/-- Over arguments that agree, the reference's result is window 17's array. -/
theorem of_agree_17 (x0 : FVec Ideal S8192x1024 .f32) (x1 : FVec Ideal S1x1024 .f32) (x2 : FVec Ideal S6400x1024 .bf16) (x3 : FVec Ideal S1x6400 .f32)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) :
    Cert.Reference6Ideal.Read.val_main_v179 (F := Ideal) x0 x1 x2 x3 = (dats m 0 c).arrAt 17 cfg0.N := by
  subst e0 e1 e2 e3
  exact (out_17 m c).symm

end Cert.ProjFwd
-- ==== Proof.lean ====
module

public import proofs.«01_k».proof.Defs
public import proofs.«01_k».proof.Proof.MergeClaim
public import proofs.«01_k».proof.Proof.FfnBwdClaim
public import proofs.«01_k».proof.Proof.FfnFwdClaim
public import proofs.«01_k».proof.Proof.ProjBwdClaim
public import proofs.«01_k».proof.Proof.MergeFwdClaim
public import proofs.«01_k».proof.Proof.ProjFwdClaim
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read

@[expose] public section

noncomputable section

namespace Cert.Proof

open Idealize.ShloMosaic Idealize.SL.Sem

/-- The side conditions the precondition's operations state. -/
theorem facts_finite_merge : Cert.Pre_finite_merge.Facts where
  bcast_S_S8192x1024 := by decide
  bitsLt_bf16_f32 := by decide
  bcast_S_S1x1024 := by decide
  bcast_S_S1024x1024 := by decide

/-- The reference runs to its end, its counters at zero and its arguments as they were. -/
theorem reference_frame : Cert.quiescent_ReferenceIdeal (hReferenceIdeal := Cert.ReferenceIdeal.Gen.facts) := fun m ρ _ =>
  (θ_run Cert.ReferenceIdeal.defs _ _).mono (fun r h => ⟨fun c => (h c).2.2.2.2.2.2.2, sem_eq_zero_of_no_sems (by decide) r.2⟩)
    (Cert.ReferenceIdeal.Value.run (F := Ideal) m ρ)

/-- The kernel's seven results are the reference's. -/
theorem merge_algebraic : Cert.algebraic_KernelIdeal_ReferenceIdeal_pre_finite_merge (hKernelIdeal := Cert.KernelIdeal.Gen.facts)
    (hReferenceIdeal := Cert.ReferenceIdeal.Gen.facts) (hPre_finite_merge := facts_finite_merge) := by
  haveI := facts_finite_merge
  intro m g m' g' hpre hagree
  refine ⟨fun c => (Cert.KernelIdeal.Gen.dats m 0 c).arrAt 11 Cert.KernelIdeal.cfg0.N,
    fun c => (Cert.KernelIdeal.Gen.dats m 0 c).arrAt 12 Cert.KernelIdeal.cfg0.N,
    fun c => (Cert.KernelIdeal.Gen.dats m 0 c).arrAt 13 Cert.KernelIdeal.cfg0.N,
    fun c => (Cert.KernelIdeal.Gen.dats m 0 c).arrAt 14 Cert.KernelIdeal.cfg0.N,
    fun c => (Cert.KernelIdeal.Gen.dats m 0 c).arrAt 15 Cert.KernelIdeal.cfg0.N,
    fun c => (Cert.KernelIdeal.Gen.dats m 0 c).arrAt 16 Cert.KernelIdeal.cfg0.N,
    fun c => (Cert.KernelIdeal.Gen.dats m 0 c).arrAt 17 Cert.KernelIdeal.cfg0.N, (θ_run Cert.KernelIdeal.defs _ _).mono (fun _ h => h) (Cert.KernelIdeal.Value.run_blocks (F := Ideal) m g), ?_⟩
  refine (θ_run Cert.ReferenceIdeal.defs _ _).mono (fun r h c => ?_) (Cert.ReferenceIdeal.Value.run (F := Ideal) m' g')
  obtain ⟨h103, h104, h105, h106, h107, h108, h100, hargs⟩ := h c
  obtain ⟨a0, a1, a2, a3, a4, a5, a6, a7, a8, a9⟩ := hagree c
  exact ⟨(h103.trans (Cert.ReferenceIdeal.Read.val_main_v103_eq m' c)).trans (Cert.Merge.of_agree_11 m c _ _ _ _ _ _ _ _ _ _ a0 a1 a2 a3 a4 a5 a6 a7 a8 a9),
    (h104.trans (Cert.ReferenceIdeal.Read.val_main_v104_eq m' c)).trans (Cert.Merge.of_agree_12 m c hpre _ _ _ _ _ _ _ a0 a1 a4 a5 a6 a7 a9),
    h105.trans ((Cert.ReferenceIdeal.Read.val_main_v105_eq _ _ _).trans (Cert.Merge.of_agree_13 m c _ _ _ a0 a1 a9)),
    h106.trans ((Cert.ReferenceIdeal.Read.val_main_v106_eq _ _ _).trans (Cert.Merge.of_agree_14 m c _ _ _ a0 a2 a9)),
    h107.trans ((Cert.ReferenceIdeal.Read.val_main_v107_eq _ _ _ _).trans (Cert.Merge.of_agree_15 m c _ _ _ _ a0 a2 a8 a9)),
    (h108.trans (Cert.ReferenceIdeal.Read.val_main_v108_eq m' c)).trans (Cert.Merge.of_agree_16 m c hpre _ _ _ _ _ _ _ a0 a1 a4 a5 a6 a7 a9),
    h100.trans ((Cert.ReferenceIdeal.Read.val_main_v100_eq _ _ _ _ _ _).trans (Cert.Merge.of_agree_17 m c _ _ _ _ _ _ a0 a1 a4 a5 a7 a9)), hargs⟩

/-- The side conditions the mixer's precondition states. -/
theorem facts_finite_ffn_bwd : Cert.Pre_finite_ffn_bwd.Facts where
  bcast_S_S8192x1024 := by decide
  bcast_S_S1x1024 := by decide
  bitsLt_bf16_f32 := by decide
  bcast_S_S2816x1024 := by decide

/-- The mixer's reference runs to its end, its counters at zero and its arguments as they were. -/
theorem reference2_frame : Cert.quiescent_Reference2Ideal (hReference2Ideal := Cert.Reference2Ideal.Gen.facts) := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

/-- The mixer's four gradients are the reference's. -/
theorem ffn_bwd_algebraic : Cert.algebraic_Kernel2Ideal_Reference2Ideal_pre_finite_ffn_bwd (hKernel2Ideal := Cert.Kernel2Ideal.Gen.facts)
    (hReference2Ideal := Cert.Reference2Ideal.Gen.facts) (hPre_finite_ffn_bwd := facts_finite_ffn_bwd) := by
  haveI := facts_finite_ffn_bwd
  intro m g m' g' hpre hagree
  refine ⟨fun c => (Cert.Kernel2Ideal.Gen.dats m 0 c).arrAt 8 Cert.Kernel2Ideal.cfg0.N,
    fun c => (Cert.Kernel2Ideal.Gen.dats m 0 c).arrAt 9 Cert.Kernel2Ideal.cfg0.N,
    fun c => (Cert.Kernel2Ideal.Gen.dats m 0 c).arrAt 10 Cert.Kernel2Ideal.cfg0.N,
    fun c => (Cert.Kernel2Ideal.Gen.dats m 0 c).arrAt 11 Cert.Kernel2Ideal.cfg0.N,
    (θ_run Cert.Kernel2Ideal.defs _ _).mono (fun _ h => h) (Cert.Kernel2Ideal.Value.run_blocks (F := Ideal) m g), ?_⟩
  refine (θ_run Cert.Reference2Ideal.defs _ _).mono (fun r h c => ?_) (Cert.Reference2Ideal.Value.run (F := Ideal) m' g')
  obtain ⟨h57, h58, h59, h56, hargs⟩ := h c
  obtain ⟨a0, a1, a2, a3, a4, a5⟩ := hagree c
  exact ⟨(h57.trans (Cert.Reference2Ideal.Read.val_main_v57_eq m' c)).trans (Cert.FfnBwd.of_agree_8 m c hpre _ _ _ _ _ _ a0 a1 a2 a3 a4 a5),
    h58.trans ((Cert.Reference2Ideal.Read.val_main_v58_eq _ _ _ _ _).trans (Cert.FfnBwd.of_agree_9 m c _ _ _ _ _ a0 a1 a2 a3 a5)),
    (h59.trans (Cert.Reference2Ideal.Read.val_main_v59_eq m' c)).trans (Cert.FfnBwd.of_agree_10 m c hpre _ _ _ _ _ _ a0 a1 a2 a3 a4 a5),
    (h56.trans (Cert.Reference2Ideal.Read.val_main_v56_eq m' c)).trans (Cert.FfnBwd.of_agree_11 m c hpre _ _ _ _ _ _ a0 a1 a2 a3 a4 a5), hargs⟩

/-- The mixer's forward reference runs to its end, its counters at zero and its arguments as they were. -/
theorem reference3_frame : Cert.quiescent_Reference3Ideal (hReference3Ideal := Cert.Reference3Ideal.Gen.facts) := fun m ρ _ =>
  (θ_run Cert.Reference3Ideal.defs _ _).mono (fun r h => ⟨fun c => (h c).2.2.2.2.2.2.2, sem_eq_zero_of_no_sems (by decide) r.2⟩)
    (Cert.Reference3Ideal.Value.run (F := Ideal) m ρ)

/-- The mixer's seven forward results are the reference's. -/
theorem ffn_fwd_algebraic : Cert.algebraic_Kernel3Ideal_Reference3Ideal (hKernel3Ideal := Cert.Kernel3Ideal.Gen.facts)
    (hReference3Ideal := Cert.Reference3Ideal.Gen.facts) := by
  intro m g m' g' hpre hagree
  refine ⟨fun c => (Cert.Kernel3Ideal.Gen.dats m 0 c).arrAt 7 Cert.Kernel3Ideal.cfg0.N,
    fun c => (Cert.Kernel3Ideal.Gen.dats m 0 c).arrAt 8 Cert.Kernel3Ideal.cfg0.N,
    fun c => (Cert.Kernel3Ideal.Gen.dats m 0 c).arrAt 9 Cert.Kernel3Ideal.cfg0.N,
    fun c => (Cert.Kernel3Ideal.Gen.dats m 0 c).arrAt 10 Cert.Kernel3Ideal.cfg0.N,
    fun c => (Cert.Kernel3Ideal.Gen.dats m 0 c).arrAt 11 Cert.Kernel3Ideal.cfg0.N,
    fun c => (Cert.Kernel3Ideal.Gen.dats m 0 c).arrAt 12 Cert.Kernel3Ideal.cfg0.N,
    fun c => (Cert.Kernel3Ideal.Gen.dats m 0 c).arrAt 13 Cert.Kernel3Ideal.cfg0.N,
    (θ_run Cert.Kernel3Ideal.defs _ _).mono (fun _ h => h) (Cert.Kernel3Ideal.Value.run_blocks (F := Ideal) m g), ?_⟩
  refine (θ_run Cert.Reference3Ideal.defs _ _).mono (fun r h c => ?_) (Cert.Reference3Ideal.Value.run (F := Ideal) m' g')
  obtain ⟨h18, h19, h94, h95, h76, h96, h77, hargs⟩ := h c
  obtain ⟨a0, a1, a2, a3, a4, a5, a6⟩ := hagree c
  exact ⟨h18.trans ((Cert.Reference3Ideal.Read.val_main_v18_eq _ _ _).trans (Cert.FfnFwd.of_agree_7 m c _ _ _ a0 a2 a4)),
    h19.trans ((Cert.Reference3Ideal.Read.val_main_v19_eq _ _ _).trans (Cert.FfnFwd.of_agree_8 m c _ _ _ a0 a2 a5)),
    h94.trans ((Cert.Reference3Ideal.Read.val_main_v94_eq _ _).trans (Cert.FfnFwd.of_agree_9 m c _ _ a0 a2)),
    h95.trans ((Cert.Reference3Ideal.Read.val_main_v95_eq _ _ _ _).trans (Cert.FfnFwd.of_agree_10 m c _ _ _ _ a0 a2 a4 a5)),
    (h76.trans (Cert.Reference3Ideal.Read.val_main_v76_eq m' c)).trans (Cert.FfnFwd.of_agree_11 m c _ _ _ _ _ _ _ a0 a1 a2 a3 a4 a5 a6),
    (h96.trans (Cert.Reference3Ideal.Read.val_main_v96_eq m' c)).trans (Cert.FfnFwd.of_agree_12 m c _ _ _ _ _ _ _ a0 a1 a2 a3 a4 a5 a6),
    (h77.trans (Cert.Reference3Ideal.Read.val_main_v77_eq m' c)).trans (Cert.FfnFwd.of_agree_13 m c _ _ _ _ _ _ _ a0 a1 a2 a3 a4 a5 a6), hargs⟩

/-- The projection's backward reference runs to its end, its counters at zero and its arguments as they were. -/
theorem reference4_frame : Cert.quiescent_Reference4Ideal (hReference4Ideal := Cert.Reference4Ideal.Gen.facts) := fun m ρ _ =>
  (θ_run Cert.Reference4Ideal.defs _ _).mono (fun r h => ⟨fun c => (h c).2.2.2, sem_eq_zero_of_no_sems (by decide) r.2⟩)
    (Cert.Reference4Ideal.Value.run (F := Ideal) m ρ)

/-- The projection's three gradients are the reference's. -/
theorem proj_bwd_algebraic : Cert.algebraic_Kernel4Ideal_Reference4Ideal (hKernel4Ideal := Cert.Kernel4Ideal.Gen.facts)
    (hReference4Ideal := Cert.Reference4Ideal.Gen.facts) := by
  intro m g m' g' hpre hagree
  refine ⟨fun c => (Cert.Kernel4Ideal.Gen.dats m 0 c).arrAt 12 Cert.Kernel4Ideal.cfg0.N,
    fun c => (Cert.Kernel4Ideal.Gen.dats m 0 c).arrAt 13 Cert.Kernel4Ideal.cfg0.N,
    fun c => (Cert.Kernel4Ideal.Gen.dats m 0 c).arrAt 14 Cert.Kernel4Ideal.cfg0.N,
    (θ_run Cert.Kernel4Ideal.defs _ _).mono (fun _ h => h) (Cert.Kernel4Ideal.Value.run_blocks (F := Ideal) m g), ?_⟩
  refine (θ_run Cert.Reference4Ideal.defs _ _).mono (fun r h c => ?_) (Cert.Reference4Ideal.Value.run (F := Ideal) m' g')
  obtain ⟨h65, h64, h42, hargs⟩ := h c
  obtain ⟨a0, a1, a2, a3, a4, a5, a6, a7, a8, a9, a10, a11⟩ := hagree c
  exact ⟨(h65.trans (Cert.Reference4Ideal.Read.val_main_v65_eq m' c)).trans (Cert.ProjBwd.of_agree_12 m c _ _ _ _ _ _ _ _ _ _ _ _ a0 a1 a2 a3 a4 a5 a6 a7 a8 a9 a10 a11),
    h64.trans ((Cert.Reference4Ideal.Read.val_main_v64_eq _ _ _ _ _ _ _ _ _ _).trans (Cert.ProjBwd.of_agree_13 m c _ _ _ _ _ _ _ _ _ _ a0 a1 a2 a3 a4 a5 a6 a7 a8 a11)),
    h42.trans ((Cert.Reference4Ideal.Read.val_main_v42_eq _ _ _ _ _ _ _ _).trans (Cert.ProjBwd.of_agree_14 m c _ _ _ _ _ _ _ _ a0 a1 a2 a3 a4 a5 a6 a7)), hargs⟩

/-- The merge's forward reference runs to its end, its counters at zero and its arguments as they were. -/
theorem reference5_frame : Cert.quiescent_Reference5Ideal (hReference5Ideal := Cert.Reference5Ideal.Gen.facts) := fun m ρ _ =>
  (θ_run Cert.Reference5Ideal.defs _ _).mono (fun r h => ⟨fun c => (h c).2.2.2, sem_eq_zero_of_no_sems (by decide) r.2⟩)
    (Cert.Reference5Ideal.Value.run (F := Ideal) m ρ)

/-- The merge's three forward results are the reference's. -/
theorem merge_fwd_algebraic : Cert.algebraic_Kernel5Ideal_Reference5Ideal (hKernel5Ideal := Cert.Kernel5Ideal.Gen.facts)
    (hReference5Ideal := Cert.Reference5Ideal.Gen.facts) := by
  intro m g m' g' hpre hagree
  refine ⟨fun c => (Cert.Kernel5Ideal.Gen.dats m 0 c).arrAt 10 Cert.Kernel5Ideal.cfg0.N,
    fun c => (Cert.Kernel5Ideal.Gen.dats m 0 c).arrAt 11 Cert.Kernel5Ideal.cfg0.N,
    fun c => (Cert.Kernel5Ideal.Gen.dats m 0 c).arrAt 12 Cert.Kernel5Ideal.cfg0.N,
    (θ_run Cert.Kernel5Ideal.defs _ _).mono (fun _ h => h) (Cert.Kernel5Ideal.Value.run_blocks (F := Ideal) m g), ?_⟩
  refine (θ_run Cert.Reference5Ideal.defs _ _).mono (fun r h c => ?_) (Cert.Reference5Ideal.Value.run (F := Ideal) m' g')
  obtain ⟨h48, h49, h52, hargs⟩ := h c
  obtain ⟨a0, a1, a2, a3, a4, a5, a6, a7, a8, a9⟩ := hagree c
  exact ⟨h48.trans ((Cert.Reference5Ideal.Read.val_main_v48_eq _ _ _).trans (Cert.MergeFwd.of_agree_10 m c _ _ _ a1 a2 a6)),
    h49.trans ((Cert.Reference5Ideal.Read.val_main_v49_eq _ _ _ _ _ _ _ _).trans (Cert.MergeFwd.of_agree_11 m c _ _ _ _ _ _ _ _ a1 a2 a3 a4 a5 a6 a7 a8)),
    h52.trans ((Cert.Reference5Ideal.Read.val_main_v52_eq _ _ _ _ _ _ _ _ _ _).trans (Cert.MergeFwd.of_agree_12 m c _ _ _ _ _ _ _ _ _ _ a0 a1 a2 a3 a4 a5 a6 a7 a8 a9)), hargs⟩

/-- The projection's forward reference runs to its end, its counters at zero and its arguments as they were. -/
theorem reference6_frame : Cert.quiescent_Reference6Ideal (hReference6Ideal := Cert.Reference6Ideal.Gen.facts) := fun m ρ _ =>
  (θ_run Cert.Reference6Ideal.defs _ _).mono (fun r h => ⟨fun c => (h c).2.2.2.2.2.2.2.2.2.2, sem_eq_zero_of_no_sems (by decide) r.2⟩)
    (Cert.Reference6Ideal.Value.run (F := Ideal) m ρ)

set_option maxHeartbeats 2000000 in
/-- The projection's ten forward results are the reference's. -/
theorem proj_fwd_algebraic : Cert.algebraic_Kernel6Ideal_Reference6Ideal (hKernel6Ideal := Cert.Kernel6Ideal.Gen.facts)
    (hReference6Ideal := Cert.Reference6Ideal.Gen.facts) := by
  intro m g m' g' hpre hagree
  refine ⟨fun c => (Cert.Kernel6Ideal.Gen.dats m 0 c).arrAt 8 Cert.Kernel6Ideal.cfg0.N,
    fun c => (Cert.Kernel6Ideal.Gen.dats m 0 c).arrAt 9 Cert.Kernel6Ideal.cfg0.N,
    fun c => (Cert.Kernel6Ideal.Gen.dats m 0 c).arrAt 10 Cert.Kernel6Ideal.cfg0.N,
    fun c => (Cert.Kernel6Ideal.Gen.dats m 0 c).arrAt 11 Cert.Kernel6Ideal.cfg0.N,
    fun c => (Cert.Kernel6Ideal.Gen.dats m 0 c).arrAt 12 Cert.Kernel6Ideal.cfg0.N,
    fun c => (Cert.Kernel6Ideal.Gen.dats m 0 c).arrAt 13 Cert.Kernel6Ideal.cfg0.N,
    fun c => (Cert.Kernel6Ideal.Gen.dats m 0 c).arrAt 14 Cert.Kernel6Ideal.cfg0.N,
    fun c => (Cert.Kernel6Ideal.Gen.dats m 0 c).arrAt 15 Cert.Kernel6Ideal.cfg0.N,
    fun c => (Cert.Kernel6Ideal.Gen.dats m 0 c).arrAt 16 Cert.Kernel6Ideal.cfg0.N,
    fun c => (Cert.Kernel6Ideal.Gen.dats m 0 c).arrAt 17 Cert.Kernel6Ideal.cfg0.N,
    (θ_run Cert.Kernel6Ideal.defs _ _).mono (fun _ h => h) (Cert.Kernel6Ideal.Value.run_blocks (F := Ideal) m g), ?_⟩
  refine (θ_run Cert.Reference6Ideal.defs _ _).mono (fun r h c => ?_) (Cert.Reference6Ideal.Value.run (F := Ideal) m' g')
  obtain ⟨h171, h172, h108, h173, h174, h175, h176, h177, h178, h179, hargs⟩ := h c
  obtain ⟨a0, a1, a2, a3⟩ := hagree c
  exact ⟨h171.trans ((Cert.Reference6Ideal.Read.val_main_v171_eq (StableHlo.launchContents m' c)).trans (Cert.ProjFwd.of_agree_8 m c _ _ a0 a1)),
    h172.trans ((Cert.Reference6Ideal.Read.val_main_v172_eq (StableHlo.launchContents m' c)).trans (Cert.ProjFwd.of_agree_9 m c _ _ _ _ a0 a1 a2 a3)),
    h108.trans ((Cert.Reference6Ideal.Read.val_main_v108_eq (StableHlo.launchContents m' c)).trans (Cert.ProjFwd.of_agree_10 m c _ _ _ _ a0 a1 a2 a3)),
    h173.trans ((Cert.Reference6Ideal.Read.val_main_v173_eq (StableHlo.launchContents m' c)).trans (Cert.ProjFwd.of_agree_11 m c _ _ _ _ a0 a1 a2 a3)),
    h174.trans ((Cert.Reference6Ideal.Read.val_main_v174_eq (StableHlo.launchContents m' c)).trans (Cert.ProjFwd.of_agree_12 m c _ _ _ _ a0 a1 a2 a3)),
    h175.trans ((Cert.Reference6Ideal.Read.val_main_v175_eq (StableHlo.launchContents m' c)).trans (Cert.ProjFwd.of_agree_13 m c _ _ _ _ a0 a1 a2 a3)),
    h176.trans ((Cert.Reference6Ideal.Read.val_main_v176_eq (StableHlo.launchContents m' c)).trans (Cert.ProjFwd.of_agree_14 m c _ _ _ _ a0 a1 a2 a3)),
    h177.trans ((Cert.Reference6Ideal.Read.val_main_v177_eq (StableHlo.launchContents m' c)).trans (Cert.ProjFwd.of_agree_15 m c _ _ _ _ a0 a1 a2 a3)),
    h178.trans ((Cert.Reference6Ideal.Read.val_main_v178_eq (StableHlo.launchContents m' c)).trans (Cert.ProjFwd.of_agree_16 m c _ _ _ _ a0 a1 a2 a3)),
    h179.trans ((Cert.Reference6Ideal.Read.val_main_v179_eq (StableHlo.launchContents m' c)).trans (Cert.ProjFwd.of_agree_17 m c _ _ _ _ a0 a1 a2 a3)), hargs⟩

/-- Every claim holds. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  facts_finite_merge, facts_finite_ffn_bwd,
  fun m ρ _ => Cert.Kernel.Gen.frame m ρ, fun m ρ _ => Cert.KernelIdeal.Gen.frame m ρ, fun m ρ _ => Cert.KernelIdeal.Gen.frame m ρ, reference_frame, fun m ρ _ => reference_frame m ρ trivial,
  fun m ρ _ => Cert.Kernel2.Gen.frame m ρ, fun m ρ _ => Cert.Kernel2Ideal.Gen.frame m ρ, fun m ρ _ => Cert.Kernel2Ideal.Gen.frame m ρ, reference2_frame, fun m ρ _ => reference2_frame m ρ trivial,
  fun m ρ _ => Cert.Kernel3.Gen.frame m ρ, fun m ρ _ => Cert.Kernel3Ideal.Gen.frame m ρ, reference3_frame,
  fun m ρ _ => Cert.Kernel4.Gen.frame m ρ, fun m ρ _ => Cert.Kernel4Ideal.Gen.frame m ρ, reference4_frame,
  fun m ρ _ => Cert.Kernel5.Gen.frame m ρ, fun m ρ _ => Cert.Kernel5Ideal.Gen.frame m ρ, reference5_frame,
  fun m ρ _ => Cert.Kernel6.Gen.frame m ρ, fun m ρ _ => Cert.Kernel6Ideal.Gen.frame m ρ, reference6_frame,
  trivial, merge_algebraic, trivial, ffn_bwd_algebraic, trivial, ffn_fwd_algebraic, trivial, proj_bwd_algebraic, trivial, merge_fwd_algebraic, trivial, proj_fwd_algebraic⟩

end Cert.Proof

end
